-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_skipped_max_finite [hPre_skipped_max_finite : Cert.Pre_skipped_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_skipped_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_skipped_max_finite [hPre_skipped_max_finite : Cert.Pre_skipped_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_skipped_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_skipped_max_finite [hKernelIdeal : Cert.KernelIdeal.Facts] [hPre_skipped_max_finite : Cert.Pre_skipped_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_skipped_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_skipped_max_finite [hReferenceIdeal : Cert.ReferenceIdeal.Facts] [hPre_skipped_max_finite : Cert.Pre_skipped_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_skipped_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "score_log2e" .f32 0x3E0293EE#32 (((11863283 / 134217728) * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "log2e" .f32 0x3FB8AA3B#32 (((Real.log 2)⁻¹ : ℝ) : EReal)

def algebraic_KernelIdeal_ReferenceIdeal_pre_skipped_max_finite [hKernelIdeal : Cert.KernelIdeal.Facts] [hReferenceIdeal : Cert.ReferenceIdeal.Facts] [hPre_skipped_max_finite : Cert.Pre_skipped_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_skipped_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_skipped_max_finite : Cert.Pre_skipped_max_finite.Facts),
    quiescent_Kernel (hKernel := hKernel)
    ∧ quiescent_KernelIdeal (hKernelIdeal := hKernelIdeal)
    ∧ quiescent_KernelIdeal_pre_skipped_max_finite (hKernelIdeal := hKernelIdeal) (hPre_skipped_max_finite := hPre_skipped_max_finite)
    ∧ quiescent_ReferenceIdeal (hReferenceIdeal := hReferenceIdeal)
    ∧ quiescent_ReferenceIdeal_pre_skipped_max_finite (hReferenceIdeal := hReferenceIdeal) (hPre_skipped_max_finite := hPre_skipped_max_finite)
    ∧ preserves_Kernel_KernelIdeal
    ∧ algebraic_KernelIdeal_ReferenceIdeal_pre_skipped_max_finite (hKernelIdeal := hKernelIdeal) (hReferenceIdeal := hReferenceIdeal) (hPre_skipped_max_finite := hPre_skipped_max_finite)
-- ==== Pre_skipped_max_finite.lean ====
abbrev S4x2x3x256x64x128 : Shape := ⟨6, ![4, 2, 3, 256, 64, 128]⟩
abbrev S4x2x3x64 : Shape := ⟨4, ![4, 2, 3, 64]⟩
abbrev S4x2x3x256x8x128 : Shape := ⟨6, ![4, 2, 3, 256, 8, 128]⟩
abbrev S4x2x3x8 : Shape := ⟨4, ![4, 2, 3, 8]⟩
abbrev S3 : Shape := ⟨1, ![3]⟩
abbrev S4x2x3x64x256 : Shape := ⟨5, ![4, 2, 3, 64, 256]⟩
abbrev S4 : Shape := ⟨1, ![4]⟩
abbrev S4x1 : Shape := ⟨2, ![4, 1]⟩
abbrev S1x3 : Shape := ⟨2, ![1, 3]⟩
abbrev S4x3 : Shape := ⟨2, ![4, 3]⟩
abbrev S_ : Shape := ⟨0, ![]⟩
abbrev S4x3x1x1 : Shape := ⟨4, ![4, 3, 1, 1]⟩
abbrev S4x1x3x64x256 : Shape := ⟨5, ![4, 1, 3, 64, 256]⟩
abbrev S4x3x64x256 : Shape := ⟨4, ![4, 3, 64, 256]⟩

class Facts : Prop where
  bcast_S4_S4x1_0 : S4.BroadcastsInDim S4x1 (![0] : Fin 1 → Fin S4x1.rank)
  bcast_S3_S1x3_1 : S3.BroadcastsInDim S1x3 (![1] : Fin 1 → Fin S1x3.rank)
  bcast_S4x1_S4x3_0_1 : S4x1.BroadcastsInDim S4x3 (![0, 1] : Fin 2 → Fin S4x3.rank)
  bcast_S1x3_S4x3_0_1 : S1x3.BroadcastsInDim S4x3 (![0, 1] : Fin 2 → Fin S4x3.rank)
  bcast_S_S4x3 : S_.BroadcastsInDim S4x3 (![] : Fin 0 → Fin S4x3.rank)
  bcast_S4x3_S4x3x1x1_0_1 : S4x3.BroadcastsInDim S4x3x1x1 (![0, 1] : Fin 2 → Fin S4x3x1x1.rank)
  slices_S4x2x3x64x256_S4x1x3x64x256_0_0_0_0_0 : S4x2x3x64x256.Slices ![0, 0, 0, 0, 0] S4x1x3x64x256
  shapeCasts_S4x1x3x64x256_S4x3x64x256 : S4x1x3x64x256.ShapeCasts S4x3x64x256
  bcast_S_S4x3x64x256 : S_.BroadcastsInDim S4x3x64x256 (![] : Fin 0 → Fin S4x3x64x256.rank)
  bcast_S4x3x1x1_S4x3x64x256_0_1_2_3 : S4x3x1x1.BroadcastsInDim S4x3x64x256 (![0, 1, 2, 3] : Fin 4 → Fin S4x3x64x256.rank)

variable [Facts]

def fn_where {F : FTy → Type} [FloatOps F] (arg0 : IVec S4x3 1) (arg1 : IVec S4x3 32) (arg2 : IVec S4x3 32) : IVec S4x3 32 :=
  let v0 : IVec S4x3 32 := select arg0 arg1 arg2
  v0

def fn_part1 {F : FTy → Type} [FloatOps F] (main_v15 : IVec S4x3x1x1 1) (main_v18 : FVec F S4x3x64x256 .f32) (main_v19 : FVec F S4x3x64x256 .f32) : IVec S4x3x64x256 1 :=
  let main_v20 : IVec S4x3x64x256 1 := cmpf .olt main_v18 main_v19
  let main_v21 : IVec S4x3x64x256 1 := broadcastInDim S4x3x64x256 ![0, 1, 2, 3] bcast_S4x3x1x1_S4x3x64x256_0_1_2_3 main_v15
  let main_v22 : IVec S4x3x64x256 1 := ori main_v21 main_v20
  main_v22

def fn {F : FTy → Type} [FloatOps F] (main_arg0 : FVec F S4x2x3x256x64x128 .fp8e4m3) (main_arg1 : FVec F S4x2x3x64 .f32) (main_arg2 : FVec F S4x2x3x256x8x128 .fp8e4m3) (main_arg3 : FVec F S4x2x3x8 .f32) (main_arg4 : FVec F S4x2x3x256x8x128 .fp8e4m3) (main_arg5 : FVec F S4x2x3x8 .f32) (main_arg6 : IVec S3 32) (main_arg7 : FVec F S4x2x3x256x64x128 .f32) (main_arg8 : FVec F S4x2x3x64x256 .f32) (main_arg9 : FVec F S4x2x3x64x256 .f32) : IVec S4x3x64x256 1 :=
  let main_v0 : IVec S4 32 := iotaInDim S4 32 0
  let main_v1 : IVec S4x1 32 := broadcastInDim S4x1 ![0] bcast_S4_S4x1_0 main_v0
  let main_v2 : IVec S1x3 32 := broadcastInDim S1x3 ![1] bcast_S3_S1x3_1 main_arg6
  let main_v3 : IVec S4x3 32 := broadcastInDim S4x3 ![0, 1] bcast_S4x1_S4x3_0_1 main_v1
  let main_v4 : IVec S4x3 32 := broadcastInDim S4x3 ![0, 1] bcast_S1x3_S4x3_0_1 main_v2
  let main_v5 : IVec S4x3 32 := subi main_v3 main_v4
  let main_c : IVec S_ 32 := constantI S_ 32 4#32
  let main_v6 : IVec S4x3 32 := broadcastInDim S4x3 ![] bcast_S_S4x3 main_c
  let main_v7 : IVec S4x3 32 := Host.remsi main_v5 main_v6
  let main_c_0 : IVec S_ 32 := constantI S_ 32 0#32
  let main_v8 : IVec S4x3 32 := broadcastInDim S4x3 ![] bcast_S_S4x3 main_c_0
  let main_v9 : IVec S4x3 1 := cmpi .slt main_v7 main_v8
  let main_c_1 : IVec S_ 32 := constantI S_ 32 4#32
  let main_v10 : IVec S4x3 32 := broadcastInDim S4x3 ![] bcast_S_S4x3 main_c_1
  let main_v11 : IVec S4x3 32 := addi main_v7 main_v10
  let main_v12 : IVec S4x3 32 := fn_where (F := F) main_v9 main_v11 main_v7
  let main_v13 : IVec S4x3 32 := broadcastInDim S4x3 ![0, 1] bcast_S4x1_S4x3_0_1 main_v1
  let main_v14 : IVec S4x3 1 := cmpi .sle main_v12 main_v13
  let main_v15 : IVec S4x3x1x1 1 := broadcastInDim S4x3x1x1 ![0, 1] bcast_S4x3_S4x3x1x1_0_1 main_v14
  let main_v16 : FVec F S4x1x3x64x256 .f32 := (extractStridedSlice S4x1x3x64x256 ![0, 0, 0, 0, 0] · slices_S4x2x3x64x256_S4x1x3x64x256_0_0_0_0_0) main_arg8
  let main_v17 : FVec F S4x3x64x256 .f32 := shapeCast S4x3x64x256 main_v16 shapeCasts_S4x1x3x64x256_S4x3x64x256
  let main_v18 : FVec F S4x3x64x256 .f32 := Host.absf main_v17
  let main_cst : FVec F S_ .f32 := constant S_ .f32 0x7F800000#32
  let main_v19 : FVec F S4x3x64x256 .f32 := broadcastInDim S4x3x64x256 ![] bcast_S_S4x3x64x256 main_cst
  fn_part1 (F := F) main_v15 main_v18 main_v19
-- ==== Kernel.lean ====
abbrev S4x2x3x256x64x128 : Shape := ⟨6, ![4, 2, 3, 256, 64, 128]⟩
abbrev S4x2x3x64 : Shape := ⟨4, ![4, 2, 3, 64]⟩
abbrev S4x2x3x256x8x128 : Shape := ⟨6, ![4, 2, 3, 256, 8, 128]⟩
abbrev S4x2x3x8 : Shape := ⟨4, ![4, 2, 3, 8]⟩
abbrev S3 : Shape := ⟨1, ![3]⟩
abbrev S4x2x3x64x256 : Shape := ⟨5, ![4, 2, 3, 64, 256]⟩
abbrev S4x2x3x16384x128 : Shape := ⟨5, ![4, 2, 3, 16384, 128]⟩
abbrev S4x3x8x2x256x128 : Shape := ⟨6, ![4, 3, 8, 2, 256, 128]⟩
abbrev S4x3x8x512x128 : Shape := ⟨5, ![4, 3, 8, 512, 128]⟩
abbrev S4x3x8x128x2x256 : Shape := ⟨6, ![4, 3, 8, 128, 2, 256]⟩
abbrev S4x3x8x128x512 : Shape := ⟨5, ![4, 3, 8, 128, 512]⟩
abbrev S4x2x3x8x1x8 : Shape := ⟨6, ![4, 2, 3, 8, 1, 8]⟩
abbrev S4x3x8x2 : Shape := ⟨4, ![4, 3, 8, 2]⟩
abbrev S4x1x3x8x2x1 : Shape := ⟨6, ![4, 1, 3, 8, 2, 1]⟩
abbrev S4x2x3x8x2x8 : Shape := ⟨6, ![4, 2, 3, 8, 2, 8]⟩
abbrev S1x4x1x2x1x3x1x8x1x2x1x8 : Shape := ⟨12, ![1, 4, 1, 2, 1, 3, 1, 8, 1, 2, 1, 8]⟩
abbrev S1x4x1x2x1x3x1x8x1x2x16x8 : Shape := ⟨12, ![1, 4, 1, 2, 1, 3, 1, 8, 1, 2, 16, 8]⟩
abbrev S4x2x3x8x2x128 : Shape := ⟨6, ![4, 2, 3, 8, 2, 128]⟩
abbrev S4x2x3x16x128 : Shape := ⟨5, ![4, 2, 3, 16, 128]⟩
abbrev S4x3x16x1 : Shape := ⟨4, ![4, 3, 16, 1]⟩
abbrev S1x4x1x3x1x16x1x1 : Shape := ⟨8, ![1, 4, 1, 3, 1, 16, 1, 1]⟩
abbrev S1x4x1x3x1x16x128x1 : Shape := ⟨8, ![1, 4, 1, 3, 1, 16, 128, 1]⟩
abbrev S4x3x16x128 : Shape := ⟨4, ![4, 3, 16, 128]⟩
abbrev S1x1x1x4096x128 : Shape := ⟨5, ![1, 1, 1, 4096, 128]⟩
abbrev S1x1x8x512x128 : Shape := ⟨5, ![1, 1, 8, 512, 128]⟩
abbrev S1x1x8x128x512 : Shape := ⟨5, ![1, 1, 8, 128, 512]⟩
abbrev S1x1x1x16x128 : Shape := ⟨5, ![1, 1, 1, 16, 128]⟩
abbrev S1x1x16x128 : Shape := ⟨4, ![1, 1, 16, 128]⟩
abbrev S1x1x1x64x64x128 : Shape := ⟨6, ![1, 1, 1, 64, 64, 128]⟩
abbrev S1x1x1x64x256 : Shape := ⟨5, ![1, 1, 1, 64, 256]⟩
abbrev S8x16x128 : Shape := ⟨3, ![8, 16, 128]⟩
abbrev S4096x128 : Shape := ⟨2, ![4096, 128]⟩
abbrev S1 : Shape := ⟨1, ![1]⟩
abbrev S1x1x1x8x128 : Shape := ⟨5, ![1, 1, 1, 8, 128]⟩
abbrev S8x128 : Shape := ⟨2, ![8, 128]⟩
abbrev S8x128x1 : Shape := ⟨3, ![8, 128, 1]⟩
abbrev S1x8x128 : Shape := ⟨3, ![1, 8, 128]⟩
abbrev S32x128 : Shape := ⟨2, ![32, 128]⟩
abbrev S256x128 : Shape := ⟨2, ![256, 128]⟩
abbrev S1x1x128 : Shape := ⟨3, ![1, 1, 128]⟩
abbrev S1x128 : Shape := ⟨2, ![1, 128]⟩
abbrev S1x256 : Shape := ⟨2, ![1, 256]⟩
abbrev S1x1x1x256x128 : Shape := ⟨5, ![1, 1, 1, 256, 128]⟩
abbrev S256x256 : Shape := ⟨2, ![256, 256]⟩
abbrev S1x1x1x1x128 : Shape := ⟨5, ![1, 1, 1, 1, 128]⟩
abbrev S256 : Shape := ⟨1, ![256]⟩
abbrev S1x1x1x128 : Shape := ⟨4, ![1, 1, 1, 128]⟩
abbrev S1x1x1x128x256 : Shape := ⟨5, ![1, 1, 1, 128, 256]⟩
abbrev S128x256 : Shape := ⟨2, ![128, 256]⟩
abbrev S1x1x1x32x8x128 : Shape := ⟨6, ![1, 1, 1, 32, 8, 128]⟩
abbrev S32x8x128 : Shape := ⟨3, ![32, 8, 128]⟩
abbrev S64x64x128 : Shape := ⟨3, ![64, 64, 128]⟩

abbrev nBuf : Space → Nat
  | .hbm => 32
  | .vmem => 25
  | .smem => 1
  | _ => 0

abbrev bufTy : (tb : Table) → Fin (tcTables nBuf tb) → BufTy
  | .hbm, ⟨0, _⟩ => ⟨S4x2x3x256x64x128, .fp8e4m3⟩
  | .hbm, ⟨1, _⟩ => ⟨S4x2x3x64, .f32⟩
  | .hbm, ⟨2, _⟩ => ⟨S4x2x3x256x8x128, .fp8e4m3⟩
  | .hbm, ⟨3, _⟩ => ⟨S4x2x3x8, .f32⟩
  | .hbm, ⟨4, _⟩ => ⟨S4x2x3x256x8x128, .fp8e4m3⟩
  | .hbm, ⟨5, _⟩ => ⟨S4x2x3x8, .f32⟩
  | .hbm, ⟨6, _⟩ => ⟨S4x2x3x256x64x128, .f32⟩
  | .hbm, ⟨7, _⟩ => ⟨S4x2x3x64x256, .f32⟩
  | .hbm, ⟨8, _⟩ => ⟨S4x2x3x64x256, .f32⟩
  | .hbm, ⟨9, _⟩ => ⟨S4x2x3x16384x128, .fp8e4m3⟩
  | .hbm, ⟨10, _⟩ => ⟨S4x3x8x2x256x128, .fp8e4m3⟩
  | .hbm, ⟨11, _⟩ => ⟨S4x3x8x512x128, .fp8e4m3⟩
  | .hbm, ⟨12, _⟩ => ⟨S4x3x8x128x2x256, .fp8e4m3⟩
  | .hbm, ⟨13, _⟩ => ⟨S4x3x8x128x512, .fp8e4m3⟩
  | .hbm, ⟨14, _⟩ => ⟨S4x2x3x8x1x8, .f32⟩
  | .hbm, ⟨15, _⟩ => ⟨S4x3x8x2, .f32⟩
  | .hbm, ⟨16, _⟩ => ⟨S4x1x3x8x2x1, .f32⟩
  | .hbm, ⟨17, _⟩ => ⟨S4x2x3x8x2x8, .f32⟩
  | .hbm, ⟨18, _⟩ => ⟨S4x2x3x8x2x8, .f32⟩
  | .hbm, ⟨19, _⟩ => ⟨S4x2x3x8x2x8, .f32⟩
  | .hbm, ⟨20, _⟩ => ⟨S1x4x1x2x1x3x1x8x1x2x1x8, .f32⟩
  | .hbm, ⟨21, _⟩ => ⟨S1x4x1x2x1x3x1x8x1x2x16x8, .f32⟩
  | .hbm, ⟨22, _⟩ => ⟨S4x2x3x8x2x128, .f32⟩
  | .hbm, ⟨23, _⟩ => ⟨S4x2x3x16x128, .f32⟩
  | .hbm, ⟨24, _⟩ => ⟨S4x3x8x2, .f32⟩
  | .hbm, ⟨25, _⟩ => ⟨S4x3x16x1, .f32⟩
  | .hbm, ⟨26, _⟩ => ⟨S1x4x1x3x1x16x1x1, .f32⟩
  | .hbm, ⟨27, _⟩ => ⟨S1x4x1x3x1x16x128x1, .f32⟩
  | .hbm, ⟨28, _⟩ => ⟨S4x3x16x128, .f32⟩
  | .hbm, ⟨29, _⟩ => ⟨S4x2x3x256x64x128, .f32⟩
  | .hbm, ⟨30, _⟩ => ⟨S4x2x3x64x256, .f32⟩
  | .hbm, ⟨31, _⟩ => ⟨S4x2x3x64x256, .f32⟩
  | .local _ .vmem, ⟨0, _⟩ => ⟨S1x1x1x4096x128, .fp8e4m3⟩
  | .local _ .vmem, ⟨1, _⟩ => ⟨S1x1x1x4096x128, .fp8e4m3⟩
  | .local _ .vmem, ⟨2, _⟩ => ⟨S1x1x8x512x128, .fp8e4m3⟩
  | .local _ .vmem, ⟨3, _⟩ => ⟨S1x1x8x512x128, .fp8e4m3⟩
  | .local _ .vmem, ⟨4, _⟩ => ⟨S1x1x8x128x512, .fp8e4m3⟩
  | .local _ .vmem, ⟨5, _⟩ => ⟨S1x1x8x128x512, .fp8e4m3⟩
  | .local _ .vmem, ⟨6, _⟩ => ⟨S1x1x1x16x128, .f32⟩
  | .local _ .vmem, ⟨7, _⟩ => ⟨S1x1x1x16x128, .f32⟩
  | .local _ .vmem, ⟨8, _⟩ => ⟨S1x1x16x128, .f32⟩
  | .local _ .vmem, ⟨9, _⟩ => ⟨S1x1x16x128, .f32⟩
  | .local _ .vmem, ⟨10, _⟩ => ⟨S1x1x1x64x64x128, .f32⟩
  | .local _ .vmem, ⟨11, _⟩ => ⟨S1x1x1x64x64x128, .f32⟩
  | .local _ .vmem, ⟨12, _⟩ => ⟨S1x1x1x64x256, .f32⟩
  | .local _ .vmem, ⟨13, _⟩ => ⟨S1x1x1x64x256, .f32⟩
  | .local _ .vmem, ⟨14, _⟩ => ⟨S1x1x1x64x256, .f32⟩
  | .local _ .vmem, ⟨15, _⟩ => ⟨S1x1x1x64x256, .f32⟩
  | .local _ .vmem, ⟨16, _⟩ => ⟨S1x1x1x64x64x128, .f32⟩
  | .local _ .vmem, ⟨17, _⟩ => ⟨S1x1x1x64x64x128, .f32⟩
  | .local _ .vmem, ⟨18, _⟩ => ⟨S1x1x1x64x256, .f32⟩
  | .local _ .vmem, ⟨19, _⟩ => ⟨S1x1x1x64x256, .f32⟩
  | .local _ .vmem, ⟨20, _⟩ => ⟨S1x1x1x64x256, .f32⟩
  | .local _ .vmem, ⟨21, _⟩ => ⟨S1x1x1x64x256, .f32⟩
  | .local _ .vmem, ⟨22, _⟩ => ⟨S8x16x128, .f32⟩
  | .local _ .vmem, ⟨23, _⟩ => ⟨S8x16x128, .f32⟩
  | .local _ .vmem, ⟨24, _⟩ => ⟨S4096x128, .fp8e4m3⟩
  | .local _ .smem, ⟨0, _⟩ => ⟨S3, .i32⟩
  | _, _ => ⟨S4x2x3x256x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨4, ![4, 3, 2, 4], ![false, false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_25 : BitVec 32 := 0#32
  let c8_i32 : BitVec 32 := 8#32
  let v48 : BitVec 32 := Scalar.addi c0_i32_25 c8_i32
  let c1_i32_26 : BitVec 32 := 1#32
  ⟨c0_i32_25, v48, c1_i32_26⟩
def k0_off2 (k0_t1 : Fin k0_t1_loop.trips) (c0_i32_31 : BitVec 32) (c0_i32_32 : BitVec 32) : Fin 2 → Nat :=
  let c4_i32_33 : BitVec 32 := 4#32
  let c2_i32_30 : BitVec 32 := 2#32
  let c0_i32_25 : BitVec 32 := 0#32
  let c1_i32_26 : BitVec 32 := 1#32
  let arg19 : BitVec 32 := Scf.iv c0_i32_25 c1_i32_26 k0_t1
  let v54 : BitVec 32 := Scalar.muli c2_i32_30 arg19
  let v55 : BitVec 32 := Scalar.addi c0_i32_31 v54
  let v56 : BitVec 32 := Scalar.subi v55 c0_i32_32
  let v57 : BitVec 32 := Scalar.muli c4_i32_33 v56
  let v58 : Index := Scalar.indexCast v57
  let c0_34 : Index := 0#32
  ![v58.toNat, 0]
def k0_off2_at (r : Fin 64) : BitVec 32 × BitVec 32 :=
  if r.val < 32 then
    if r.val < 16 then
      if r.val < 8 then
        if r.val < 4 then
          if r.val < 2 then
            if r.val < 1 then
              (0#32, 0#32)
            else
              (16#32, 2#32)
          else
            if r.val < 3 then
              (32#32, 4#32)
            else
              (48#32, 6#32)
        else
          if r.val < 6 then
            if r.val < 5 then
              (64#32, 0#32)
            else
              (80#32, 2#32)
          else
            if r.val < 7 then
              (96#32, 4#32)
            else
              (112#32, 6#32)
      else
        if r.val < 12 then
          if r.val < 10 then
            if r.val < 9 then
              (128#32, 0#32)
            else
              (144#32, 2#32)
          else
            if r.val < 11 then
              (160#32, 4#32)
            else
              (176#32, 6#32)
        else
          if r.val < 14 then
            if r.val < 13 then
              (192#32, 0#32)
            else
              (208#32, 2#32)
          else
            if r.val < 15 then
              (224#32, 4#32)
            else
              (240#32, 6#32)
    else
      if r.val < 24 then
        if r.val < 20 then
          if r.val < 18 then
            if r.val < 17 then
              (256#32, 0#32)
            else
              (272#32, 2#32)
          else
            if r.val < 19 then
              (288#32, 4#32)
            else
              (304#32, 6#32)
        else
          if r.val < 22 then
            if r.val < 21 then
              (320#32, 0#32)
            else
              (336#32, 2#32)
          else
            if r.val < 23 then
              (352#32, 4#32)
            else
              (368#32, 6#32)
      else
        if r.val < 28 then
          if r.val < 26 then
            if r.val < 25 then
              (384#32, 0#32)
            else
              (400#32, 2#32)
          else
            if r.val < 27 then
              (416#32, 4#32)
            else
              (432#32, 6#32)
        else
          if r.val < 30 then
            if r.val < 29 then
              (448#32, 0#32)
            else
              (464#32, 2#32)
          else
            if r.val < 31 then
              (480#32, 4#32)
            else
              (496#32, 6#32)
  else
    if r.val < 48 then
      if r.val < 40 then
        if r.val < 36 then
          if r.val < 34 then
            if r.val < 33 then
              (512#32, 0#32)
            else
              (528#32, 2#32)
          else
            if r.val < 35 then
              (544#32, 4#32)
            else
              (560#32, 6#32)
        else
          if r.val < 38 then
            if r.val < 37 then
              (576#32, 0#32)
            else
              (592#32, 2#32)
          else
            if r.val < 39 then
              (608#32, 4#32)
            else
              (624#32, 6#32)
      else
        if r.val < 44 then
          if r.val < 42 then
            if r.val < 41 then
              (640#32, 0#32)
            else
              (656#32, 2#32)
          else
            if r.val < 43 then
              (672#32, 4#32)
            else
              (688#32, 6#32)
        else
          if r.val < 46 then
            if r.val < 45 then
              (704#32, 0#32)
            else
              (720#32, 2#32)
          else
            if r.val < 47 then
              (736#32, 4#32)
            else
              (752#32, 6#32)
    else
      if r.val < 56 then
        if r.val < 52 then
          if r.val < 50 then
            if r.val < 49 then
              (768#32, 0#32)
            else
              (784#32, 2#32)
          else
            if r.val < 51 then
              (800#32, 4#32)
            else
              (816#32, 6#32)
        else
          if r.val < 54 then
            if r.val < 53 then
              (832#32, 0#32)
            else
              (848#32, 2#32)
          else
            if r.val < 55 then
              (864#32, 4#32)
            else
              (880#32, 6#32)
      else
        if r.val < 60 then
          if r.val < 58 then
            if r.val < 57 then
              (896#32, 0#32)
            else
              (912#32, 2#32)
          else
            if r.val < 59 then
              (928#32, 4#32)
            else
              (944#32, 6#32)
        else
          if r.val < 62 then
            if r.val < 61 then
              (960#32, 0#32)
            else
              (976#32, 2#32)
          else
            if r.val < 63 then
              (992#32, 4#32)
            else
              (1008#32, 6#32)
def k0_off3 (i : grid0.Coords) (k0_t1 : Fin k0_t1_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t1
  let v336 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let v337 : Index := Scalar.indexCast v335
  let c0_190 : Index := 0#32
  ![v336.toNat, v337.toNat, 0]
def k0_off4 (i : grid0.Coords) (k0_t1 : Fin k0_t1_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t1
  let v341 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let c1_i32_191 : BitVec 32 := 1#32
  let v340 : BitVec 32 := Scalar.addi v335 c1_i32_191
  let v342 : Index := Scalar.indexCast v340
  let c0_192 : Index := 0#32
  ![v341.toNat, v342.toNat, 0]
def k0_off5 (k0_t1 : Fin k0_t1_loop.trips) : Fin 5 → Nat :=
  let c0_196 : Index := 0#32
  let c0_197 : Index := 0#32
  let c0_i32_25 : BitVec 32 := 0#32
  let c1_i32_26 : BitVec 32 := 1#32
  let arg19 : BitVec 32 := Scf.iv c0_i32_25 c1_i32_26 k0_t1
  let v356 : Index := Scalar.indexCast arg19
  let c0_198 : Index := 0#32
  let c0_199 : Index := 0#32
  ![0, 0, v356.toNat, 0, 0]
def k0_off6 (k0_t1 : Fin k0_t1_loop.trips) : Fin 5 → Nat :=
  let c0_202 : Index := 0#32
  let c0_203 : Index := 0#32
  let c0_204 : Index := 0#32
  let c2_i32_200 : BitVec 32 := 2#32
  let c0_i32_25 : BitVec 32 := 0#32
  let c1_i32_26 : BitVec 32 := 1#32
  let arg19 : BitVec 32 := Scf.iv c0_i32_25 c1_i32_26 k0_t1
  let v360 : BitVec 32 := Scalar.muli c2_i32_200 arg19
  let c0_i32_201 : BitVec 32 := 0#32
  let v361 : BitVec 32 := Scalar.addi v360 c0_i32_201
  let v362 : Index := Scalar.indexCast v361
  let c0_205 : Index := 0#32
  ![0, 0, 0, v362.toNat, 0]
def k0_off7 (k0_t1 : Fin k0_t1_loop.trips) : Fin 4 → Nat :=
  let c0_214 : Index := 0#32
  let c0_215 : Index := 0#32
  let c2_i32_212 : BitVec 32 := 2#32
  let c0_i32_25 : BitVec 32 := 0#32
  let c1_i32_26 : BitVec 32 := 1#32
  let arg19 : BitVec 32 := Scf.iv c0_i32_25 c1_i32_26 k0_t1
  let v386 : BitVec 32 := Scalar.muli c2_i32_212 arg19
  let c0_i32_213 : BitVec 32 := 0#32
  let v387 : BitVec 32 := Scalar.addi v386 c0_i32_213
  let v388 : Index := Scalar.indexCast v387
  let c0_216 : Index := 0#32
  ![0, 0, v388.toNat, 0]
def k0_off8 (k0_t1 : Fin k0_t1_loop.trips) : Fin 5 → Nat :=
  let c0_217 : Index := 0#32
  let c0_218 : Index := 0#32
  let c0_i32_25 : BitVec 32 := 0#32
  let c1_i32_26 : BitVec 32 := 1#32
  let arg19 : BitVec 32 := Scf.iv c0_i32_25 c1_i32_26 k0_t1
  let v392 : Index := Scalar.indexCast arg19
  let c0_219 : Index := 0#32
  let c0_220 : Index := 0#32
  ![0, 0, v392.toNat, 0, 0]
def k0_off9 (k0_t1 : Fin k0_t1_loop.trips) : Fin 6 → Nat :=
  let c0_223 : Index := 0#32
  let c0_224 : Index := 0#32
  let c0_225 : Index := 0#32
  let c0_226 : Index := 0#32
  let c0_i32_25 : BitVec 32 := 0#32
  let c1_i32_26 : BitVec 32 := 1#32
  let arg19 : BitVec 32 := Scf.iv c0_i32_25 c1_i32_26 k0_t1
  let c8_i32_222 : BitVec 32 := 8#32
  let v401 : BitVec 32 := Scalar.muli arg19 c8_i32_222
  let v402 : Index := Scalar.indexCast v401
  let c0_227 : Index := 0#32
  ![0, 0, 0, 0, v402.toNat, 0]
def k0_off10 (k0_t1 : Fin k0_t1_loop.trips) : Fin 6 → Nat :=
  let c0_436 : Index := 0#32
  let c0_437 : Index := 0#32
  let c0_438 : Index := 0#32
  let c32 : Index := 32#32
  let c0_i32_25 : BitVec 32 := 0#32
  let c1_i32_26 : BitVec 32 := 1#32
  let arg19 : BitVec 32 := Scf.iv c0_i32_25 c1_i32_26 k0_t1
  let c8_i32_435 : BitVec 32 := 8#32
  let v797 : BitVec 32 := Scalar.muli arg19 c8_i32_435
  let v798 : Index := Scalar.indexCast v797
  let c0_439 : Index := 0#32
  ![0, 0, 0, 32, v798.toNat, 0]
@[reducible] def k0_t2_loop : Scf.Loop 32 :=
  let c0_i32_25 : BitVec 32 := 0#32
  let c8_i32 : BitVec 32 := 8#32
  let v48 : BitVec 32 := Scalar.addi c0_i32_25 c8_i32
  let c1_i32_26 : BitVec 32 := 1#32
  ⟨c0_i32_25, v48, c1_i32_26⟩
def k0_off11 (k0_t2 : Fin k0_t2_loop.trips) (c0_i32_31 : BitVec 32) (c0_i32_32 : BitVec 32) : Fin 2 → Nat :=
  let c4_i32_33 : BitVec 32 := 4#32
  let c2_i32_30 : BitVec 32 := 2#32
  let c0_i32_25 : BitVec 32 := 0#32
  let c1_i32_26 : BitVec 32 := 1#32
  let arg19 : BitVec 32 := Scf.iv c0_i32_25 c1_i32_26 k0_t2
  let v54 : BitVec 32 := Scalar.muli c2_i32_30 arg19
  let v55 : BitVec 32 := Scalar.addi c0_i32_31 v54
  let v56 : BitVec 32 := Scalar.subi v55 c0_i32_32
  let v57 : BitVec 32 := Scalar.muli c4_i32_33 v56
  let v58 : Index := Scalar.indexCast v57
  let c0_34 : Index := 0#32
  ![v58.toNat, 0]
def k0_off11_at (r : Fin 64) : BitVec 32 × BitVec 32 :=
  if r.val < 32 then
    if r.val < 16 then
      if r.val < 8 then
        if r.val < 4 then
          if r.val < 2 then
            if r.val < 1 then
              (0#32, 0#32)
            else
              (16#32, 2#32)
          else
            if r.val < 3 then
              (32#32, 4#32)
            else
              (48#32, 6#32)
        else
          if r.val < 6 then
            if r.val < 5 then
              (64#32, 0#32)
            else
              (80#32, 2#32)
          else
            if r.val < 7 then
              (96#32, 4#32)
            else
              (112#32, 6#32)
      else
        if r.val < 12 then
          if r.val < 10 then
            if r.val < 9 then
              (128#32, 0#32)
            else
              (144#32, 2#32)
          else
            if r.val < 11 then
              (160#32, 4#32)
            else
              (176#32, 6#32)
        else
          if r.val < 14 then
            if r.val < 13 then
              (192#32, 0#32)
            else
              (208#32, 2#32)
          else
            if r.val < 15 then
              (224#32, 4#32)
            else
              (240#32, 6#32)
    else
      if r.val < 24 then
        if r.val < 20 then
          if r.val < 18 then
            if r.val < 17 then
              (256#32, 0#32)
            else
              (272#32, 2#32)
          else
            if r.val < 19 then
              (288#32, 4#32)
            else
              (304#32, 6#32)
        else
          if r.val < 22 then
            if r.val < 21 then
              (320#32, 0#32)
            else
              (336#32, 2#32)
          else
            if r.val < 23 then
              (352#32, 4#32)
            else
              (368#32, 6#32)
      else
        if r.val < 28 then
          if r.val < 26 then
            if r.val < 25 then
              (384#32, 0#32)
            else
              (400#32, 2#32)
          else
            if r.val < 27 then
              (416#32, 4#32)
            else
              (432#32, 6#32)
        else
          if r.val < 30 then
            if r.val < 29 then
              (448#32, 0#32)
            else
              (464#32, 2#32)
          else
            if r.val < 31 then
              (480#32, 4#32)
            else
              (496#32, 6#32)
  else
    if r.val < 48 then
      if r.val < 40 then
        if r.val < 36 then
          if r.val < 34 then
            if r.val < 33 then
              (512#32, 0#32)
            else
              (528#32, 2#32)
          else
            if r.val < 35 then
              (544#32, 4#32)
            else
              (560#32, 6#32)
        else
          if r.val < 38 then
            if r.val < 37 then
              (576#32, 0#32)
            else
              (592#32, 2#32)
          else
            if r.val < 39 then
              (608#32, 4#32)
            else
              (624#32, 6#32)
      else
        if r.val < 44 then
          if r.val < 42 then
            if r.val < 41 then
              (640#32, 0#32)
            else
              (656#32, 2#32)
          else
            if r.val < 43 then
              (672#32, 4#32)
            else
              (688#32, 6#32)
        else
          if r.val < 46 then
            if r.val < 45 then
              (704#32, 0#32)
            else
              (720#32, 2#32)
          else
            if r.val < 47 then
              (736#32, 4#32)
            else
              (752#32, 6#32)
    else
      if r.val < 56 then
        if r.val < 52 then
          if r.val < 50 then
            if r.val < 49 then
              (768#32, 0#32)
            else
              (784#32, 2#32)
          else
            if r.val < 51 then
              (800#32, 4#32)
            else
              (816#32, 6#32)
        else
          if r.val < 54 then
            if r.val < 53 then
              (832#32, 0#32)
            else
              (848#32, 2#32)
          else
            if r.val < 55 then
              (864#32, 4#32)
            else
              (880#32, 6#32)
      else
        if r.val < 60 then
          if r.val < 58 then
            if r.val < 57 then
              (896#32, 0#32)
            else
              (912#32, 2#32)
          else
            if r.val < 59 then
              (928#32, 4#32)
            else
              (944#32, 6#32)
        else
          if r.val < 62 then
            if r.val < 61 then
              (960#32, 0#32)
            else
              (976#32, 2#32)
          else
            if r.val < 63 then
              (992#32, 4#32)
            else
              (1008#32, 6#32)
def k0_off12 (i : grid0.Coords) (k0_t2 : Fin k0_t2_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t2
  let v336 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let v337 : Index := Scalar.indexCast v335
  let c0_190 : Index := 0#32
  ![v336.toNat, v337.toNat, 0]
def k0_off13 (i : grid0.Coords) (k0_t2 : Fin k0_t2_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t2
  let v341 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let c1_i32_191 : BitVec 32 := 1#32
  let v340 : BitVec 32 := Scalar.addi v335 c1_i32_191
  let v342 : Index := Scalar.indexCast v340
  let c0_192 : Index := 0#32
  ![v341.toNat, v342.toNat, 0]
def k0_off14 (k0_t2 : Fin k0_t2_loop.trips) : Fin 5 → Nat :=
  let c0_196 : Index := 0#32
  let c0_197 : Index := 0#32
  let c0_i32_25 : BitVec 32 := 0#32
  let c1_i32_26 : BitVec 32 := 1#32
  let arg19 : BitVec 32 := Scf.iv c0_i32_25 c1_i32_26 k0_t2
  let v356 : Index := Scalar.indexCast arg19
  let c0_198 : Index := 0#32
  let c0_199 : Index := 0#32
  ![0, 0, v356.toNat, 0, 0]
def k0_off15 (k0_t2 : Fin k0_t2_loop.trips) : Fin 5 → Nat :=
  let c0_202 : Index := 0#32
  let c0_203 : Index := 0#32
  let c0_204 : Index := 0#32
  let c2_i32_200 : BitVec 32 := 2#32
  let c0_i32_25 : BitVec 32 := 0#32
  let c1_i32_26 : BitVec 32 := 1#32
  let arg19 : BitVec 32 := Scf.iv c0_i32_25 c1_i32_26 k0_t2
  let v360 : BitVec 32 := Scalar.muli c2_i32_200 arg19
  let c0_i32_201 : BitVec 32 := 0#32
  let v361 : BitVec 32 := Scalar.addi v360 c0_i32_201
  let v362 : Index := Scalar.indexCast v361
  let c0_205 : Index := 0#32
  ![0, 0, 0, v362.toNat, 0]
def k0_off16 (k0_t2 : Fin k0_t2_loop.trips) : Fin 4 → Nat :=
  let c0_216 : Index := 0#32
  let c0_217 : Index := 0#32
  let c2_i32_214 : BitVec 32 := 2#32
  let c0_i32_25 : BitVec 32 := 0#32
  let c1_i32_26 : BitVec 32 := 1#32
  let arg19 : BitVec 32 := Scf.iv c0_i32_25 c1_i32_26 k0_t2
  let v395 : BitVec 32 := Scalar.muli c2_i32_214 arg19
  let c0_i32_215 : BitVec 32 := 0#32
  let v396 : BitVec 32 := Scalar.addi v395 c0_i32_215
  let v397 : Index := Scalar.indexCast v396
  let c0_218 : Index := 0#32
  ![0, 0, v397.toNat, 0]
def k0_off17 (k0_t2 : Fin k0_t2_loop.trips) : Fin 5 → Nat :=
  let c0_219 : Index := 0#32
  let c0_220 : Index := 0#32
  let c0_i32_25 : BitVec 32 := 0#32
  let c1_i32_26 : BitVec 32 := 1#32
  let arg19 : BitVec 32 := Scf.iv c0_i32_25 c1_i32_26 k0_t2
  let v401 : Index := Scalar.indexCast arg19
  let c0_221 : Index := 0#32
  let c0_222 : Index := 0#32
  ![0, 0, v401.toNat, 0, 0]
def k0_off18 (k0_t2 : Fin k0_t2_loop.trips) : Fin 6 → Nat :=
  let c0_225 : Index := 0#32
  let c0_226 : Index := 0#32
  let c0_227 : Index := 0#32
  let c0_228 : Index := 0#32
  let c0_i32_25 : BitVec 32 := 0#32
  let c1_i32_26 : BitVec 32 := 1#32
  let arg19 : BitVec 32 := Scf.iv c0_i32_25 c1_i32_26 k0_t2
  let c8_i32_224 : BitVec 32 := 8#32
  let v410 : BitVec 32 := Scalar.muli arg19 c8_i32_224
  let v411 : Index := Scalar.indexCast v410
  let c0_229 : Index := 0#32
  ![0, 0, 0, 0, v411.toNat, 0]
def k0_off19 (k0_t2 : Fin k0_t2_loop.trips) : Fin 6 → Nat :=
  let c0_440 : Index := 0#32
  let c0_441 : Index := 0#32
  let c0_442 : Index := 0#32
  let c32 : Index := 32#32
  let c0_i32_25 : BitVec 32 := 0#32
  let c1_i32_26 : BitVec 32 := 1#32
  let arg19 : BitVec 32 := Scf.iv c0_i32_25 c1_i32_26 k0_t2
  let c8_i32_439 : BitVec 32 := 8#32
  let v815 : BitVec 32 := Scalar.muli arg19 c8_i32_439
  let v816 : Index := Scalar.indexCast v815
  let c0_443 : Index := 0#32
  ![0, 0, 0, 32, v816.toNat, 0]
@[reducible] def k0_t3_loop : Scf.Loop 32 :=
  let c0_i32_25 : BitVec 32 := 0#32
  let c8_i32 : BitVec 32 := 8#32
  let v48 : BitVec 32 := Scalar.addi c0_i32_25 c8_i32
  let c1_i32_26 : BitVec 32 := 1#32
  ⟨c0_i32_25, v48, c1_i32_26⟩
def k0_off20 (k0_t3 : Fin k0_t3_loop.trips) (c0_i32_31 : BitVec 32) (c0_i32_32 : BitVec 32) : Fin 2 → Nat :=
  let c4_i32_33 : BitVec 32 := 4#32
  let c2_i32_30 : BitVec 32 := 2#32
  let c0_i32_25 : BitVec 32 := 0#32
  let c1_i32_26 : BitVec 32 := 1#32
  let arg19 : BitVec 32 := Scf.iv c0_i32_25 c1_i32_26 k0_t3
  let v54 : BitVec 32 := Scalar.muli c2_i32_30 arg19
  let v55 : BitVec 32 := Scalar.addi c0_i32_31 v54
  let v56 : BitVec 32 := Scalar.subi v55 c0_i32_32
  let v57 : BitVec 32 := Scalar.muli c4_i32_33 v56
  let v58 : Index := Scalar.indexCast v57
  let c0_34 : Index := 0#32
  ![v58.toNat, 0]
def k0_off20_at (r : Fin 64) : BitVec 32 × BitVec 32 :=
  if r.val < 32 then
    if r.val < 16 then
      if r.val < 8 then
        if r.val < 4 then
          if r.val < 2 then
            if r.val < 1 then
              (0#32, 0#32)
            else
              (16#32, 2#32)
          else
            if r.val < 3 then
              (32#32, 4#32)
            else
              (48#32, 6#32)
        else
          if r.val < 6 then
            if r.val < 5 then
              (64#32, 0#32)
            else
              (80#32, 2#32)
          else
            if r.val < 7 then
              (96#32, 4#32)
            else
              (112#32, 6#32)
      else
        if r.val < 12 then
          if r.val < 10 then
            if r.val < 9 then
              (128#32, 0#32)
            else
              (144#32, 2#32)
          else
            if r.val < 11 then
              (160#32, 4#32)
            else
              (176#32, 6#32)
        else
          if r.val < 14 then
            if r.val < 13 then
              (192#32, 0#32)
            else
              (208#32, 2#32)
          else
            if r.val < 15 then
              (224#32, 4#32)
            else
              (240#32, 6#32)
    else
      if r.val < 24 then
        if r.val < 20 then
          if r.val < 18 then
            if r.val < 17 then
              (256#32, 0#32)
            else
              (272#32, 2#32)
          else
            if r.val < 19 then
              (288#32, 4#32)
            else
              (304#32, 6#32)
        else
          if r.val < 22 then
            if r.val < 21 then
              (320#32, 0#32)
            else
              (336#32, 2#32)
          else
            if r.val < 23 then
              (352#32, 4#32)
            else
              (368#32, 6#32)
      else
        if r.val < 28 then
          if r.val < 26 then
            if r.val < 25 then
              (384#32, 0#32)
            else
              (400#32, 2#32)
          else
            if r.val < 27 then
              (416#32, 4#32)
            else
              (432#32, 6#32)
        else
          if r.val < 30 then
            if r.val < 29 then
              (448#32, 0#32)
            else
              (464#32, 2#32)
          else
            if r.val < 31 then
              (480#32, 4#32)
            else
              (496#32, 6#32)
  else
    if r.val < 48 then
      if r.val < 40 then
        if r.val < 36 then
          if r.val < 34 then
            if r.val < 33 then
              (512#32, 0#32)
            else
              (528#32, 2#32)
          else
            if r.val < 35 then
              (544#32, 4#32)
            else
              (560#32, 6#32)
        else
          if r.val < 38 then
            if r.val < 37 then
              (576#32, 0#32)
            else
              (592#32, 2#32)
          else
            if r.val < 39 then
              (608#32, 4#32)
            else
              (624#32, 6#32)
      else
        if r.val < 44 then
          if r.val < 42 then
            if r.val < 41 then
              (640#32, 0#32)
            else
              (656#32, 2#32)
          else
            if r.val < 43 then
              (672#32, 4#32)
            else
              (688#32, 6#32)
        else
          if r.val < 46 then
            if r.val < 45 then
              (704#32, 0#32)
            else
              (720#32, 2#32)
          else
            if r.val < 47 then
              (736#32, 4#32)
            else
              (752#32, 6#32)
    else
      if r.val < 56 then
        if r.val < 52 then
          if r.val < 50 then
            if r.val < 49 then
              (768#32, 0#32)
            else
              (784#32, 2#32)
          else
            if r.val < 51 then
              (800#32, 4#32)
            else
              (816#32, 6#32)
        else
          if r.val < 54 then
            if r.val < 53 then
              (832#32, 0#32)
            else
              (848#32, 2#32)
          else
            if r.val < 55 then
              (864#32, 4#32)
            else
              (880#32, 6#32)
      else
        if r.val < 60 then
          if r.val < 58 then
            if r.val < 57 then
              (896#32, 0#32)
            else
              (912#32, 2#32)
          else
            if r.val < 59 then
              (928#32, 4#32)
            else
              (944#32, 6#32)
        else
          if r.val < 62 then
            if r.val < 61 then
              (960#32, 0#32)
            else
              (976#32, 2#32)
          else
            if r.val < 63 then
              (992#32, 4#32)
            else
              (1008#32, 6#32)
def k0_off21 (i : grid0.Coords) (k0_t3 : Fin k0_t3_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t3
  let v336 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let v337 : Index := Scalar.indexCast v335
  let c0_190 : Index := 0#32
  ![v336.toNat, v337.toNat, 0]
def k0_off22 (i : grid0.Coords) (k0_t3 : Fin k0_t3_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t3
  let v341 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let c1_i32_191 : BitVec 32 := 1#32
  let v340 : BitVec 32 := Scalar.addi v335 c1_i32_191
  let v342 : Index := Scalar.indexCast v340
  let c0_192 : Index := 0#32
  ![v341.toNat, v342.toNat, 0]
def k0_off23 (k0_t3 : Fin k0_t3_loop.trips) : Fin 5 → Nat :=
  let c0_196 : Index := 0#32
  let c0_197 : Index := 0#32
  let c0_i32_25 : BitVec 32 := 0#32
  let c1_i32_26 : BitVec 32 := 1#32
  let arg19 : BitVec 32 := Scf.iv c0_i32_25 c1_i32_26 k0_t3
  let v356 : Index := Scalar.indexCast arg19
  let c0_198 : Index := 0#32
  let c0_199 : Index := 0#32
  ![0, 0, v356.toNat, 0, 0]
def k0_off24 (k0_t3 : Fin k0_t3_loop.trips) (c0_i32_201 : BitVec 32) : Fin 5 → Nat :=
  let c0_202 : Index := 0#32
  let c0_203 : Index := 0#32
  let c0_204 : Index := 0#32
  let c2_i32_200 : BitVec 32 := 2#32
  let c0_i32_25 : BitVec 32 := 0#32
  let c1_i32_26 : BitVec 32 := 1#32
  let arg19 : BitVec 32 := Scf.iv c0_i32_25 c1_i32_26 k0_t3
  let v360 : BitVec 32 := Scalar.muli c2_i32_200 arg19
  let v361 : BitVec 32 := Scalar.addi v360 c0_i32_201
  let v362 : Index := Scalar.indexCast v361
  let c0_205 : Index := 0#32
  ![0, 0, 0, v362.toNat, 0]
def k0_off25 (k0_t3 : Fin k0_t3_loop.trips) : Fin 5 → Nat :=
  let c0_207 : Index := 0#32
  let c0_208 : Index := 0#32
  let c0_i32_25 : BitVec 32 := 0#32
  let c1_i32_26 : BitVec 32 := 1#32
  let arg19 : BitVec 32 := Scf.iv c0_i32_25 c1_i32_26 k0_t3
  let v370 : Index := Scalar.indexCast arg19
  let c256 : Index := 256#32
  let c0_209 : Index := 0#32
  ![0, 0, v370.toNat, 256, 0]
def k0_off26 (k0_t3 : Fin k0_t3_loop.trips) (c0_i32_227 : BitVec 32) : Fin 4 → Nat :=
  let c0_228 : Index := 0#32
  let c0_229 : Index := 0#32
  let c2_i32_226 : BitVec 32 := 2#32
  let c0_i32_25 : BitVec 32 := 0#32
  let c1_i32_26 : BitVec 32 := 1#32
  let arg19 : BitVec 32 := Scf.iv c0_i32_25 c1_i32_26 k0_t3
  let v412 : BitVec 32 := Scalar.muli c2_i32_226 arg19
  let v413 : BitVec 32 := Scalar.addi v412 c0_i32_227
  let v414 : Index := Scalar.indexCast v413
  let c0_230 : Index := 0#32
  ![0, 0, v414.toNat, 0]
def k0_off27 (k0_t3 : Fin k0_t3_loop.trips) : Fin 5 → Nat :=
  let c0_231 : Index := 0#32
  let c0_232 : Index := 0#32
  let c0_i32_25 : BitVec 32 := 0#32
  let c1_i32_26 : BitVec 32 := 1#32
  let arg19 : BitVec 32 := Scf.iv c0_i32_25 c1_i32_26 k0_t3
  let v418 : Index := Scalar.indexCast arg19
  let c0_233 : Index := 0#32
  let c0_234 : Index := 0#32
  ![0, 0, v418.toNat, 0, 0]
def k0_off28 (k0_t3 : Fin k0_t3_loop.trips) : Fin 5 → Nat :=
  let c0_242 : Index := 0#32
  let c0_243 : Index := 0#32
  let c0_i32_25 : BitVec 32 := 0#32
  let c1_i32_26 : BitVec 32 := 1#32
  let arg19 : BitVec 32 := Scf.iv c0_i32_25 c1_i32_26 k0_t3
  let v439 : Index := Scalar.indexCast arg19
  let c0_244 : Index := 0#32
  let c256_245 : Index := 256#32
  ![0, 0, v439.toNat, 0, 256]
def k0_off29 (k0_t3 : Fin k0_t3_loop.trips) : Fin 6 → Nat :=
  let c0_248 : Index := 0#32
  let c0_249 : Index := 0#32
  let c0_250 : Index := 0#32
  let c0_251 : Index := 0#32
  let c0_i32_25 : BitVec 32 := 0#32
  let c1_i32_26 : BitVec 32 := 1#32
  let arg19 : BitVec 32 := Scf.iv c0_i32_25 c1_i32_26 k0_t3
  let c8_i32_247 : BitVec 32 := 8#32
  let v449 : BitVec 32 := Scalar.muli arg19 c8_i32_247
  let v450 : Index := Scalar.indexCast v449
  let c0_252 : Index := 0#32
  ![0, 0, 0, 0, v450.toNat, 0]
def k0_off30 (k0_t3 : Fin k0_t3_loop.trips) : Fin 6 → Nat :=
  let c0_487 : Index := 0#32
  let c0_488 : Index := 0#32
  let c0_489 : Index := 0#32
  let c32 : Index := 32#32
  let c0_i32_25 : BitVec 32 := 0#32
  let c1_i32_26 : BitVec 32 := 1#32
  let arg19 : BitVec 32 := Scf.iv c0_i32_25 c1_i32_26 k0_t3
  let c8_i32_486 : BitVec 32 := 8#32
  let v893 : BitVec 32 := Scalar.muli arg19 c8_i32_486
  let v894 : Index := Scalar.indexCast v893
  let c0_490 : Index := 0#32
  ![0, 0, 0, 32, v894.toNat, 0]
@[reducible] def k0_t4_loop : Scf.Loop 32 :=
  let c0_i32_25 : BitVec 32 := 0#32
  let c8_i32 : BitVec 32 := 8#32
  let v48 : BitVec 32 := Scalar.addi c0_i32_25 c8_i32
  let c1_i32_26 : BitVec 32 := 1#32
  ⟨c0_i32_25, v48, c1_i32_26⟩
def k0_off31 (k0_t4 : Fin k0_t4_loop.trips) (c0_i32_31 : BitVec 32) (c0_i32_32 : BitVec 32) : Fin 2 → Nat :=
  let c4_i32_33 : BitVec 32 := 4#32
  let c2_i32_30 : BitVec 32 := 2#32
  let c0_i32_25 : BitVec 32 := 0#32
  let c1_i32_26 : BitVec 32 := 1#32
  let arg19 : BitVec 32 := Scf.iv c0_i32_25 c1_i32_26 k0_t4
  let v54 : BitVec 32 := Scalar.muli c2_i32_30 arg19
  let v55 : BitVec 32 := Scalar.addi c0_i32_31 v54
  let v56 : BitVec 32 := Scalar.subi v55 c0_i32_32
  let v57 : BitVec 32 := Scalar.muli c4_i32_33 v56
  let v58 : Index := Scalar.indexCast v57
  let c0_34 : Index := 0#32
  ![v58.toNat, 0]
def k0_off31_at (r : Fin 64) : BitVec 32 × BitVec 32 :=
  if r.val < 32 then
    if r.val < 16 then
      if r.val < 8 then
        if r.val < 4 then
          if r.val < 2 then
            if r.val < 1 then
              (0#32, 0#32)
            else
              (16#32, 2#32)
          else
            if r.val < 3 then
              (32#32, 4#32)
            else
              (48#32, 6#32)
        else
          if r.val < 6 then
            if r.val < 5 then
              (64#32, 0#32)
            else
              (80#32, 2#32)
          else
            if r.val < 7 then
              (96#32, 4#32)
            else
              (112#32, 6#32)
      else
        if r.val < 12 then
          if r.val < 10 then
            if r.val < 9 then
              (128#32, 0#32)
            else
              (144#32, 2#32)
          else
            if r.val < 11 then
              (160#32, 4#32)
            else
              (176#32, 6#32)
        else
          if r.val < 14 then
            if r.val < 13 then
              (192#32, 0#32)
            else
              (208#32, 2#32)
          else
            if r.val < 15 then
              (224#32, 4#32)
            else
              (240#32, 6#32)
    else
      if r.val < 24 then
        if r.val < 20 then
          if r.val < 18 then
            if r.val < 17 then
              (256#32, 0#32)
            else
              (272#32, 2#32)
          else
            if r.val < 19 then
              (288#32, 4#32)
            else
              (304#32, 6#32)
        else
          if r.val < 22 then
            if r.val < 21 then
              (320#32, 0#32)
            else
              (336#32, 2#32)
          else
            if r.val < 23 then
              (352#32, 4#32)
            else
              (368#32, 6#32)
      else
        if r.val < 28 then
          if r.val < 26 then
            if r.val < 25 then
              (384#32, 0#32)
            else
              (400#32, 2#32)
          else
            if r.val < 27 then
              (416#32, 4#32)
            else
              (432#32, 6#32)
        else
          if r.val < 30 then
            if r.val < 29 then
              (448#32, 0#32)
            else
              (464#32, 2#32)
          else
            if r.val < 31 then
              (480#32, 4#32)
            else
              (496#32, 6#32)
  else
    if r.val < 48 then
      if r.val < 40 then
        if r.val < 36 then
          if r.val < 34 then
            if r.val < 33 then
              (512#32, 0#32)
            else
              (528#32, 2#32)
          else
            if r.val < 35 then
              (544#32, 4#32)
            else
              (560#32, 6#32)
        else
          if r.val < 38 then
            if r.val < 37 then
              (576#32, 0#32)
            else
              (592#32, 2#32)
          else
            if r.val < 39 then
              (608#32, 4#32)
            else
              (624#32, 6#32)
      else
        if r.val < 44 then
          if r.val < 42 then
            if r.val < 41 then
              (640#32, 0#32)
            else
              (656#32, 2#32)
          else
            if r.val < 43 then
              (672#32, 4#32)
            else
              (688#32, 6#32)
        else
          if r.val < 46 then
            if r.val < 45 then
              (704#32, 0#32)
            else
              (720#32, 2#32)
          else
            if r.val < 47 then
              (736#32, 4#32)
            else
              (752#32, 6#32)
    else
      if r.val < 56 then
        if r.val < 52 then
          if r.val < 50 then
            if r.val < 49 then
              (768#32, 0#32)
            else
              (784#32, 2#32)
          else
            if r.val < 51 then
              (800#32, 4#32)
            else
              (816#32, 6#32)
        else
          if r.val < 54 then
            if r.val < 53 then
              (832#32, 0#32)
            else
              (848#32, 2#32)
          else
            if r.val < 55 then
              (864#32, 4#32)
            else
              (880#32, 6#32)
      else
        if r.val < 60 then
          if r.val < 58 then
            if r.val < 57 then
              (896#32, 0#32)
            else
              (912#32, 2#32)
          else
            if r.val < 59 then
              (928#32, 4#32)
            else
              (944#32, 6#32)
        else
          if r.val < 62 then
            if r.val < 61 then
              (960#32, 0#32)
            else
              (976#32, 2#32)
          else
            if r.val < 63 then
              (992#32, 4#32)
            else
              (1008#32, 6#32)
def k0_off32 (i : grid0.Coords) (k0_t4 : Fin k0_t4_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t4
  let v336 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let v337 : Index := Scalar.indexCast v335
  let c0_190 : Index := 0#32
  ![v336.toNat, v337.toNat, 0]
def k0_off33 (i : grid0.Coords) (k0_t4 : Fin k0_t4_loop.trips) (c0_i32_28 : BitVec 32) : Fin 3 → Nat :=
  let c0_i32_25 : BitVec 32 := 0#32
  let c1_i32_26 : BitVec 32 := 1#32
  let arg19 : BitVec 32 := Scf.iv c0_i32_25 c1_i32_26 k0_t4
  let v341 : Index := Scalar.indexCast arg19
  let arg3 : BitVec 32 := BitVec.ofNat 32 (i 3).val
  let c64_i32 : BitVec 32 := 64#32
  let v49 : BitVec 32 := Scalar.muli arg3 c64_i32
  let v50 : BitVec 32 := Scalar.addi v49 c0_i32_28
  let c0_i32_184 : BitVec 32 := 0#32
  let v320 : BitVec 1 := Scalar.cmpi .sgt v50 c0_i32_184
  let v321 : BitVec 32 := Scalar.extui v320
  let c0_i32_185 : BitVec 32 := 0#32
  let v322 : BitVec 1 := Scalar.cmpi .slt v50 c0_i32_185
  let v323 : BitVec 32 := Scalar.extui v322
  let v324 : BitVec 32 := Scalar.subi v321 v323
  let c16_i32_183 : BitVec 32 := 16#32
  let c0_i32_186 : BitVec 32 := 0#32
  let v325 : BitVec 1 := Scalar.cmpi .sgt c16_i32_183 c0_i32_186
  let v326 : BitVec 32 := Scalar.extui v325
  let c0_i32_187 : BitVec 32 := 0#32
  let v327 : BitVec 1 := Scalar.cmpi .slt c16_i32_183 c0_i32_187
  let v328 : BitVec 32 := Scalar.extui v327
  let v329 : BitVec 32 := Scalar.subi v326 v328
  let v330 : BitVec 1 := Scalar.cmpi .ne v324 v329
  let v331 : BitVec 32 := Scalar.remsi v50 c16_i32_183
  let c0_i32_188 : BitVec 32 := 0#32
  let v332 : BitVec 1 := Scalar.cmpi .ne v331 c0_i32_188
  let v333 : BitVec 1 := Scalar.andi v330 v332
  let v319 : BitVec 32 := Scalar.divsi v50 c16_i32_183
  let c1_i32_189 : BitVec 32 := 1#32
  let v334 : BitVec 32 := Scalar.subi v319 c1_i32_189
  let v335 : BitVec 32 := Scalar.select v333 v334 v319
  let c1_i32_191 : BitVec 32 := 1#32
  let v340 : BitVec 32 := Scalar.addi v335 c1_i32_191
  let v342 : Index := Scalar.indexCast v340
  let c0_192 : Index := 0#32
  ![v341.toNat, v342.toNat, 0]
def k0_off34 (k0_t4 : Fin k0_t4_loop.trips) : Fin 5 → Nat :=
  let c0_196 : Index := 0#32
  let c0_197 : Index := 0#32
  let c0_i32_25 : BitVec 32 := 0#32
  let c1_i32_26 : BitVec 32 := 1#32
  let arg19 : BitVec 32 := Scf.iv c0_i32_25 c1_i32_26 k0_t4
  let v356 : Index := Scalar.indexCast arg19
  let c0_198 : Index := 0#32
  let c0_199 : Index := 0#32
  ![0, 0, v356.toNat, 0, 0]
def k0_off35 (k0_t4 : Fin k0_t4_loop.trips) (c0_i32_201 : BitVec 32) : Fin 5 → Nat :=
  let c0_202 : Index := 0#32
  let c0_203 : Index := 0#32
  let c0_204 : Index := 0#32
  let c2_i32_200 : BitVec 32 := 2#32
  let c0_i32_25 : BitVec 32 := 0#32
  let c1_i32_26 : BitVec 32 := 1#32
  let arg19 : BitVec 32 := Scf.iv c0_i32_25 c1_i32_26 k0_t4
  let v360 : BitVec 32 := Scalar.muli c2_i32_200 arg19
  let v361 : BitVec 32 := Scalar.addi v360 c0_i32_201
  let v362 : Index := Scalar.indexCast v361
  let c0_205 : Index := 0#32
  ![0, 0, 0, v362.toNat, 0]
def k0_off36 (k0_t4 : Fin k0_t4_loop.trips) : Fin 5 → Nat :=
  let c0_207 : Index := 0#32
  let c0_208 : Index := 0#32
  let c0_i32_25 : BitVec 32 := 0#32
  let c1_i32_26 : BitVec 32 := 1#32
  let arg19 : BitVec 32 := Scf.iv c0_i32_25 c1_i32_26 k0_t4
  let v370 : Index := Scalar.indexCast arg19
  let c256 : Index := 256#32
  let c0_209 : Index := 0#32
  ![0, 0, v370.toNat, 256, 0]
def k0_off37 (k0_t4 : Fin k0_t4_loop.trips) (c0_i32_225 : BitVec 32) : Fin 4 → Nat :=
  let c0_226 : Index := 0#32
  let c0_227 : Index := 0#32
  let c2_i32_224 : BitVec 32 := 2#32
  let c0_i32_25 : BitVec 32 := 0#32
  let c1_i32_26 : BitVec 32 := 1#32
  let arg19 : BitVec 32 := Scf.iv c0_i32_25 c1_i32_26 k0_t4
  let v403 : BitVec 32 := Scalar.muli c2_i32_224 arg19
  let v404 : BitVec 32 := Scalar.addi v403 c0_i32_225
  let v405 : Index := Scalar.indexCast v404
  let c0_228 : Index := 0#32
  ![0, 0, v405.toNat, 0]
def k0_off38 (k0_t4 : Fin k0_t4_loop.trips) : Fin 5 → Nat :=
  let c0_229 : Index := 0#32
  let c0_230 : Index := 0#32
  let c0_i32_25 : BitVec 32 := 0#32
  let c1_i32_26 : BitVec 32 := 1#32
  let arg19 : BitVec 32 := Scf.iv c0_i32_25 c1_i32_26 k0_t4
  let v409 : Index := Scalar.indexCast arg19
  let c0_231 : Index := 0#32
  let c0_232 : Index := 0#32
  ![0, 0, v409.toNat, 0, 0]
def k0_off39 (k0_t4 : Fin k0_t4_loop.trips) : Fin 5 → Nat :=
  let c0_240 : Index := 0#32
  let c0_241 : Index := 0#32
  let c0_i32_25 : BitVec 32 := 0#32
  let c1_i32_26 : BitVec 32 := 1#32
  let arg19 : BitVec 32 := Scf.iv c0_i32_25 c1_i32_26 k0_t4
  let v430 : Index := Scalar.indexCast arg19
  let c0_242 : Index := 0#32
  let c256_243 : Index := 256#32
  ![0, 0, v430.toNat, 0, 256]
def k0_off40 (k0_t4 : Fin k0_t4_loop.trips) : Fin 6 → Nat :=
  let c0_246 : Index := 0#32
  let c0_247 : Index := 0#32
  let c0_248 : Index := 0#32
  let c0_249 : Index := 0#32
  let c0_i32_25 : BitVec 32 := 0#32
  let c1_i32_26 : BitVec 32 := 1#32
  let arg19 : BitVec 32 := Scf.iv c0_i32_25 c1_i32_26 k0_t4
  let c8_i32_245 : BitVec 32 := 8#32
  let v440 : BitVec 32 := Scalar.muli arg19 c8_i32_245
  let v441 : Index := Scalar.indexCast v440
  let c0_250 : Index := 0#32
  ![0, 0, 0, 0, v441.toNat, 0]
def k0_off41 (k0_t4 : Fin k0_t4_loop.trips) : Fin 6 → Nat :=
  let c0_483 : Index := 0#32
  let c0_484 : Index := 0#32
  let c0_485 : Index := 0#32
  let c32 : Index := 32#32
  let c0_i32_25 : BitVec 32 := 0#32
  let c1_i32_26 : BitVec 32 := 1#32
  let arg19 : BitVec 32 := Scf.iv c0_i32_25 c1_i32_26 k0_t4
  let c8_i32_482 : BitVec 32 := 8#32
  let v875 : BitVec 32 := Scalar.muli arg19 c8_i32_482
  let v876 : Index := Scalar.indexCast v875
  let c0_486 : Index := 0#32
  ![0, 0, 0, 32, v876.toNat, 0]
def k0_cond2 (i : grid0.Coords) (v1 : BitVec 32) : BitVec 1 :=
  let arg2 : BitVec 32 := BitVec.ofNat 32 (i 2).val
  let c0_i32_10 : BitVec 32 := 0#32
  let v18 : BitVec 1 := Scalar.cmpi .eq arg2 c0_i32_10
  let arg0 : BitVec 32 := BitVec.ofNat 32 (i 0).val
  let v2 : BitVec 32 := Scalar.subi arg0 v1
  let c4_i32 : BitVec 32 := 4#32
  let v3 : BitVec 32 := Scalar.remsi v2 c4_i32
  let c4_i32_0 : BitVec 32 := 4#32
  let v4 : BitVec 32 := Scalar.addi v3 c4_i32_0
  let c4_i32_1 : BitVec 32 := 4#32
  let v5 : BitVec 32 := Scalar.remsi v4 c4_i32_1
  let v6 : BitVec 1 := Scalar.cmpi .slt v5 arg0
  let c0_i32 : BitVec 32 := 0#32
  let v7 : BitVec 1 := Scalar.cmpi .eq v5 arg0
  let c1_i32 : BitVec 32 := 1#32
  let c2_i32 : BitVec 32 := 2#32
  let v8 : BitVec 32 := Scalar.select v7 c1_i32 c2_i32
  let v9 : BitVec 32 := Scalar.select v6 c0_i32 v8
  let c0_i32_11 : BitVec 32 := 0#32
  let v19 : BitVec 1 := Scalar.cmpi .eq v9 c0_i32_11
  let v20 : BitVec 1 := Scalar.andi v18 v19
  let v_true : BitVec 1 := 1#1
  let v23 : BitVec 1 := Scalar.xori v18 v_true
  let c0_i32_13 : BitVec 32 := 0#32
  let v24 : BitVec 1 := Scalar.cmpi .eq v9 c0_i32_13
  let v25 : BitVec 1 := Scalar.andi v23 v24
  let v32 : BitVec 1 := Scalar.ori v20 v25
  let v33 : BitVec 32 := Scalar.extui v32
  let c0_i32_18 : BitVec 32 := 0#32
  let v34 : BitVec 1 := Scalar.cmpi .ne v33 c0_i32_18
  v34

def k0_cond3 (i : grid0.Coords) (v1 : BitVec 32) : BitVec 1 :=
  let arg2 : BitVec 32 := BitVec.ofNat 32 (i 2).val
  let c0_i32_10 : BitVec 32 := 0#32
  let v18 : BitVec 1 := Scalar.cmpi .eq arg2 c0_i32_10
  let arg0 : BitVec 32 := BitVec.ofNat 32 (i 0).val
  let v2 : BitVec 32 := Scalar.subi arg0 v1
  let c4_i32 : BitVec 32 := 4#32
  let v3 : BitVec 32 := Scalar.remsi v2 c4_i32
  let c4_i32_0 : BitVec 32 := 4#32
  let v4 : BitVec 32 := Scalar.addi v3 c4_i32_0
  let c4_i32_1 : BitVec 32 := 4#32
  let v5 : BitVec 32 := Scalar.remsi v4 c4_i32_1
  let v6 : BitVec 1 := Scalar.cmpi .slt v5 arg0
  let c0_i32 : BitVec 32 := 0#32
  let v7 : BitVec 1 := Scalar.cmpi .eq v5 arg0
  let c1_i32 : BitVec 32 := 1#32
  let c2_i32 : BitVec 32 := 2#32
  let v8 : BitVec 32 := Scalar.select v7 c1_i32 c2_i32
  let v9 : BitVec 32 := Scalar.select v6 c0_i32 v8
  let c1_i32_12 : BitVec 32 := 1#32
  let v21 : BitVec 1 := Scalar.cmpi .eq v9 c1_i32_12
  let v22 : BitVec 1 := Scalar.andi v18 v21
  let v35 : BitVec 32 := Scalar.extui v22
  let c0_i32_19 : BitVec 32 := 0#32
  let v36 : BitVec 1 := Scalar.cmpi .ne v35 c0_i32_19
  v36

def k0_cond4 (i : grid0.Coords) (v1 : BitVec 32) : BitVec 1 :=
  let arg2 : BitVec 32 := BitVec.ofNat 32 (i 2).val
  let c0_i32_10 : BitVec 32 := 0#32
  let v18 : BitVec 1 := Scalar.cmpi .eq arg2 c0_i32_10
  let true_14 : BitVec 1 := 1#1
  let v26 : BitVec 1 := Scalar.xori v18 true_14
  let arg0 : BitVec 32 := BitVec.ofNat 32 (i 0).val
  let v2 : BitVec 32 := Scalar.subi arg0 v1
  let c4_i32 : BitVec 32 := 4#32
  let v3 : BitVec 32 := Scalar.remsi v2 c4_i32
  let c4_i32_0 : BitVec 32 := 4#32
  let v4 : BitVec 32 := Scalar.addi v3 c4_i32_0
  let c4_i32_1 : BitVec 32 := 4#32
  let v5 : BitVec 32 := Scalar.remsi v4 c4_i32_1
  let v6 : BitVec 1 := Scalar.cmpi .slt v5 arg0
  let c0_i32 : BitVec 32 := 0#32
  let v7 : BitVec 1 := Scalar.cmpi .eq v5 arg0
  let c1_i32 : BitVec 32 := 1#32
  let c2_i32 : BitVec 32 := 2#32
  let v8 : BitVec 32 := Scalar.select v7 c1_i32 c2_i32
  let v9 : BitVec 32 := Scalar.select v6 c0_i32 v8
  let c1_i32_15 : BitVec 32 := 1#32
  let v27 : BitVec 1 := Scalar.cmpi .eq v9 c1_i32_15
  let v28 : BitVec 1 := Scalar.andi v26 v27
  let v37 : BitVec 32 := Scalar.extui v28
  let c0_i32_20 : BitVec 32 := 0#32
  let v38 : BitVec 1 := Scalar.cmpi .ne v37 c0_i32_20
  v38

def k0_cond5 (i : grid0.Coords) (v1 : BitVec 32) : BitVec 1 :=
  let arg2 : BitVec 32 := BitVec.ofNat 32 (i 2).val
  let c0_i32_10 : BitVec 32 := 0#32
  let v18 : BitVec 1 := Scalar.cmpi .eq arg2 c0_i32_10
  let true_16 : BitVec 1 := 1#1
  let v29 : BitVec 1 := Scalar.xori v18 true_16
  let arg0 : BitVec 32 := BitVec.ofNat 32 (i 0).val
  let v2 : BitVec 32 := Scalar.subi arg0 v1
  let c4_i32 : BitVec 32 := 4#32
  let v3 : BitVec 32 := Scalar.remsi v2 c4_i32
  let c4_i32_0 : BitVec 32 := 4#32
  let v4 : BitVec 32 := Scalar.addi v3 c4_i32_0
  let c4_i32_1 : BitVec 32 := 4#32
  let v5 : BitVec 32 := Scalar.remsi v4 c4_i32_1
  let v6 : BitVec 1 := Scalar.cmpi .slt v5 arg0
  let c0_i32 : BitVec 32 := 0#32
  let v7 : BitVec 1 := Scalar.cmpi .eq v5 arg0
  let c1_i32 : BitVec 32 := 1#32
  let c2_i32 : BitVec 32 := 2#32
  let v8 : BitVec 32 := Scalar.select v7 c1_i32 c2_i32
  let v9 : BitVec 32 := Scalar.select v6 c0_i32 v8
  let c2_i32_17 : BitVec 32 := 2#32
  let v30 : BitVec 1 := Scalar.cmpi .eq v9 c2_i32_17
  let v31 : BitVec 1 := Scalar.andi v29 v30
  let v39 : BitVec 32 := Scalar.extui v31
  let c0_i32_21 : BitVec 32 := 0#32
  let v40 : BitVec 1 := Scalar.cmpi .ne v39 c0_i32_21
  v40

def k0_cond6 (i : grid0.Coords) (v1 : BitVec 32) : BitVec 1 :=
  let arg2 : BitVec 32 := BitVec.ofNat 32 (i 2).val
  let c0_i32_10 : BitVec 32 := 0#32
  let v18 : BitVec 1 := Scalar.cmpi .eq arg2 c0_i32_10
  let arg0 : BitVec 32 := BitVec.ofNat 32 (i 0).val
  let v2 : BitVec 32 := Scalar.subi arg0 v1
  let c4_i32 : BitVec 32 := 4#32
  let v3 : BitVec 32 := Scalar.remsi v2 c4_i32
  let c4_i32_0 : BitVec 32 := 4#32
  let v4 : BitVec 32 := Scalar.addi v3 c4_i32_0
  let c4_i32_1 : BitVec 32 := 4#32
  let v5 : BitVec 32 := Scalar.remsi v4 c4_i32_1
  let v6 : BitVec 1 := Scalar.cmpi .slt v5 arg0
  let c0_i32 : BitVec 32 := 0#32
  let v7 : BitVec 1 := Scalar.cmpi .eq v5 arg0
  let c1_i32 : BitVec 32 := 1#32
  let c2_i32 : BitVec 32 := 2#32
  let v8 : BitVec 32 := Scalar.select v7 c1_i32 c2_i32
  let v9 : BitVec 32 := Scalar.select v6 c0_i32 v8
  let c2_i32_22 : BitVec 32 := 2#32
  let v41 : BitVec 1 := Scalar.cmpi .eq v9 c2_i32_22
  let v42 : BitVec 1 := Scalar.andi v18 v41
  let v43 : BitVec 32 := Scalar.extui v42
  let c0_i32_23 : BitVec 32 := 0#32
  let v44 : BitVec 1 := Scalar.cmpi .ne v43 c0_i32_23
  v44

def k0_cond7 (i : grid0.Coords) : BitVec 1 :=
  let arg3 : BitVec 32 := BitVec.ofNat 32 (i 3).val
  let c3_i32 : BitVec 32 := 3#32
  let v45 : BitVec 1 := Scalar.cmpi .eq arg3 c3_i32
  let v46 : BitVec 32 := Scalar.extui v45
  let c0_i32_24 : BitVec 32 := 0#32
  let v47 : BitVec 1 := Scalar.cmpi .ne v46 c0_i32_24
  v47

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, arg1.toNat, arg3.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, arg3.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_8 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, arg3.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S1x1x1x4096x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x8x512x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x8x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1x1x64x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1x1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x1x1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, true]

abbrev stage0_9 : Fin 2 → Memref sig .tc .vmem S1x1x1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S1x1x1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "score_log2e" => some (((11863283 / 134217728) * (Real.log 2)⁻¹ : ℝ) : EReal)
  | _ => none
-- ==== ReferenceIdeal.lean ====
abbrev S4x2x3x256x64x128 : Shape := ⟨6, ![4, 2, 3, 256, 64, 128]⟩
abbrev S4x2x3x64 : Shape := ⟨4, ![4, 2, 3, 64]⟩
abbrev S4x2x3x256x8x128 : Shape := ⟨6, ![4, 2, 3, 256, 8, 128]⟩
abbrev S4x2x3x8 : Shape := ⟨4, ![4, 2, 3, 8]⟩
abbrev S3 : Shape := ⟨1, ![3]⟩
abbrev S4x2x3x64x256 : Shape := ⟨5, ![4, 2, 3, 64, 256]⟩
abbrev S4 : Shape := ⟨1, ![4]⟩
abbrev S4x2x3x256x8x8x128 : Shape := ⟨7, ![4, 2, 3, 256, 8, 8, 128]⟩
abbrev S4x3x8x2x256x2x256x8 : Shape := ⟨8, ![4, 3, 8, 2, 256, 2, 256, 8]⟩
abbrev S4x2x3x8x8x256x2x256 : Shape := ⟨8, ![4, 2, 3, 8, 8, 256, 2, 256]⟩
abbrev S4x2x3x8x8 : Shape := ⟨5, ![4, 2, 3, 8, 8]⟩
abbrev S4x2x3x8x8x1x1x1 : Shape := ⟨8, ![4, 2, 3, 8, 8, 1, 1, 1]⟩
abbrev S4x3x8x2 : Shape := ⟨4, ![4, 3, 8, 2]⟩
abbrev S4x1x3x8x1x1x2x1 : Shape := ⟨8, ![4, 1, 3, 8, 1, 1, 2, 1]⟩
abbrev S_ : Shape := ⟨0, ![]⟩
abbrev S2 : Shape := ⟨1, ![2]⟩
abbrev S4x2 : Shape := ⟨2, ![4, 2]⟩
abbrev S4x2x1 : Shape := ⟨3, ![4, 2, 1]⟩
abbrev S256 : Shape := ⟨1, ![256]⟩
abbrev S1x256 : Shape := ⟨2, ![1, 256]⟩
abbrev S1x1x256 : Shape := ⟨3, ![1, 1, 256]⟩
abbrev S4x2x256 : Shape := ⟨3, ![4, 2, 256]⟩
abbrev S1x3 : Shape := ⟨2, ![1, 3]⟩
abbrev S4x1 : Shape := ⟨2, ![4, 1]⟩
abbrev S4x3 : Shape := ⟨2, ![4, 3]⟩
abbrev S4x3x1 : Shape := ⟨3, ![4, 3, 1]⟩
abbrev S4x3x2 : Shape := ⟨3, ![4, 3, 2]⟩
abbrev S4x3x2x1 : Shape := ⟨4, ![4, 3, 2, 1]⟩
abbrev S1x1x1x256 : Shape := ⟨4, ![1, 1, 1, 256]⟩
abbrev S4x3x2x256 : Shape := ⟨4, ![4, 3, 2, 256]⟩
abbrev S4x1x3x1x1x1x2x256 : Shape := ⟨8, ![4, 1, 3, 1, 1, 1, 2, 256]⟩
abbrev S4x2x1x1x1x256x1x1 : Shape := ⟨8, ![4, 2, 1, 1, 1, 256, 1, 1]⟩
abbrev S4x2x3x1x1x256x2x256 : Shape := ⟨8, ![4, 2, 3, 1, 1, 256, 2, 256]⟩
abbrev S2x3x8x8x256x2x256 : Shape := ⟨7, ![2, 3, 8, 8, 256, 2, 256]⟩
abbrev S4x2x3x8x8x256 : Shape := ⟨6, ![4, 2, 3, 8, 8, 256]⟩
abbrev S4x2x3x8x8x256x1x1 : Shape := ⟨8, ![4, 2, 3, 8, 8, 256, 1, 1]⟩
abbrev S4x3x8x128x2x8x256 : Shape := ⟨7, ![4, 3, 8, 128, 2, 8, 256]⟩
abbrev S4x2x3x256x8x8 : Shape := ⟨6, ![4, 2, 3, 256, 8, 8]⟩
abbrev S4x2x3x256x8x8x1 : Shape := ⟨7, ![4, 2, 3, 256, 8, 8, 1]⟩

abbrev nBuf : Space → Nat
  | .hbm => 122
  | .vmem => 6
  | .smem => 0
  | _ => 0

abbrev bufTy : (tb : Table) → Fin (tcTables nBuf tb) → BufTy
  | .hbm, ⟨0, _⟩ => ⟨S4x2x3x256x64x128, .fp8e4m3⟩
  | .hbm, ⟨1, _⟩ => ⟨S4x2x3x64, .f32⟩
  | .hbm, ⟨2, _⟩ => ⟨S4x2x3x256x8x128, .fp8e4m3⟩
  | .hbm, ⟨3, _⟩ => ⟨S4x2x3x8, .f32⟩
  | .hbm, ⟨4, _⟩ => ⟨S4x2x3x256x8x128, .fp8e4m3⟩
  | .hbm, ⟨5, _⟩ => ⟨S4x2x3x8, .f32⟩
  | .hbm, ⟨6, _⟩ => ⟨S3, .i32⟩
  | .hbm, ⟨7, _⟩ => ⟨S4x2x3x256x64x128, .f32⟩
  | .hbm, ⟨8, _⟩ => ⟨S4x2x3x64x256, .f32⟩
  | .hbm, ⟨9, _⟩ => ⟨S4x2x3x64x256, .f32⟩
  | .hbm, ⟨10, _⟩ => ⟨S4, .i32⟩
  | .hbm, ⟨11, _⟩ => ⟨S4x2x3x256x64x128, .f32⟩
  | .hbm, ⟨12, _⟩ => ⟨S4x2x3x256x8x128, .f32⟩
  | .hbm, ⟨13, _⟩ => ⟨S4x2x3x256x8x128, .bf16⟩
  | .hbm, ⟨14, _⟩ => ⟨S4x2x3x256x8x8x128, .f32⟩
  | .hbm, ⟨15, _⟩ => ⟨S4x3x8x2x256x2x256x8, .f32⟩
  | .hbm, ⟨16, _⟩ => ⟨S4x2x3x8x8x256x2x256, .f32⟩
  | .hbm, ⟨17, _⟩ => ⟨S4x2x3x8x8, .f32⟩
  | .hbm, ⟨18, _⟩ => ⟨S4x2x3x8x8x1x1x1, .f32⟩
  | .hbm, ⟨19, _⟩ => ⟨S4x3x8x2, .f32⟩
  | .hbm, ⟨20, _⟩ => ⟨S4x1x3x8x1x1x2x1, .f32⟩
  | .hbm, ⟨21, _⟩ => ⟨S4x2x3x8x8x256x2x256, .f32⟩
  | .hbm, ⟨22, _⟩ => ⟨S4x2x3x8x8x256x2x256, .f32⟩
  | .hbm, ⟨23, _⟩ => ⟨S4x2x3x8x8x256x2x256, .f32⟩
  | .hbm, ⟨24, _⟩ => ⟨S4x2x3x8x8x256x2x256, .f32⟩
  | .hbm, ⟨25, _⟩ => ⟨S_, .f32⟩
  | .hbm, ⟨26, _⟩ => ⟨S4x2x3x8x8x256x2x256, .f32⟩
  | .hbm, ⟨27, _⟩ => ⟨S4x2x3x8x8x256x2x256, .f32⟩
  | .hbm, ⟨28, _⟩ => ⟨S2, .i32⟩
  | .hbm, ⟨29, _⟩ => ⟨S_, .i32⟩
  | .hbm, ⟨30, _⟩ => ⟨S2, .i32⟩
  | .hbm, ⟨31, _⟩ => ⟨S2, .i1⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4x2, .i32⟩
  | .hbm, ⟨36, _⟩ => ⟨S4x2, .i32⟩
  | .hbm, ⟨37, _⟩ => ⟨S4x2, .i1⟩
  | .hbm, ⟨38, _⟩ => ⟨S4x2, .i32⟩
  | .hbm, ⟨39, _⟩ => ⟨S4x2x1, .i32⟩
  | .hbm, ⟨40, _⟩ => ⟨S_, .i32⟩
  | .hbm, ⟨41, _⟩ => ⟨S4x2x1, .i32⟩
  | .hbm, ⟨42, _⟩ => ⟨S4x2x1, .i32⟩
  | .hbm, ⟨43, _⟩ => ⟨S256, .i32⟩
  | .hbm, ⟨44, _⟩ => ⟨S1x256, .i32⟩
  | .hbm, ⟨45, _⟩ => ⟨S1x1x256, .i32⟩
  | .hbm, ⟨46, _⟩ => ⟨S4x2x256, .i32⟩
  | .hbm, ⟨47, _⟩ => ⟨S4x2x256, .i32⟩
  | .hbm, ⟨48, _⟩ => ⟨S4x2x256, .i32⟩
  | .hbm, ⟨49, _⟩ => ⟨S1x3, .i32⟩
  | .hbm, ⟨50, _⟩ => ⟨S4x1, .i32⟩
  | .hbm, ⟨51, _⟩ => ⟨S4x3, .i32⟩
  | .hbm, ⟨52, _⟩ => ⟨S4x3, .i32⟩
  | .hbm, ⟨53, _⟩ => ⟨S4x3, .i32⟩
  | .hbm, ⟨54, _⟩ => ⟨S_, .i32⟩
  | .hbm, ⟨55, _⟩ => ⟨S4x3, .i32⟩
  | .hbm, ⟨56, _⟩ => ⟨S4x3, .i32⟩
  | .hbm, ⟨57, _⟩ => ⟨S_, .i32⟩
  | .hbm, ⟨58, _⟩ => ⟨S4x3, .i32⟩
  | .hbm, ⟨59, _⟩ => ⟨S4x3, .i1⟩
  | .hbm, ⟨60, _⟩ => ⟨S_, .i32⟩
  | .hbm, ⟨61, _⟩ => ⟨S4x3, .i32⟩
  | .hbm, ⟨62, _⟩ => ⟨S4x3, .i32⟩
  | .hbm, ⟨63, _⟩ => ⟨S4x3, .i32⟩
  | .hbm, ⟨64, _⟩ => ⟨S_, .i32⟩
  | .hbm, ⟨65, _⟩ => ⟨S4x3, .i32⟩
  | .hbm, ⟨66, _⟩ => ⟨S4x3, .i32⟩
  | .hbm, ⟨67, _⟩ => ⟨S4x3x1, .i32⟩
  | .hbm, ⟨68, _⟩ => ⟨S4x3x1, .i32⟩
  | .hbm, ⟨69, _⟩ => ⟨S4x3x2, .i32⟩
  | .hbm, ⟨70, _⟩ => ⟨S4x3x2x1, .i32⟩
  | .hbm, ⟨71, _⟩ => ⟨S_, .i32⟩
  | .hbm, ⟨72, _⟩ => ⟨S4x3x2x1, .i32⟩
  | .hbm, ⟨73, _⟩ => ⟨S4x3x2x1, .i32⟩
  | .hbm, ⟨74, _⟩ => ⟨S256, .i32⟩
  | .hbm, ⟨75, _⟩ => ⟨S1x1x256, .i32⟩
  | .hbm, ⟨76, _⟩ => ⟨S1x1x1x256, .i32⟩
  | .hbm, ⟨77, _⟩ => ⟨S4x3x2x256, .i32⟩
  | .hbm, ⟨78, _⟩ => ⟨S4x3x2x256, .i32⟩
  | .hbm, ⟨79, _⟩ => ⟨S4x3x2x256, .i32⟩
  | .hbm, ⟨80, _⟩ => ⟨S4x1x3x1x1x1x2x256, .i32⟩
  | .hbm, ⟨81, _⟩ => ⟨S4x2x1x1x1x256x1x1, .i32⟩
  | .hbm, ⟨82, _⟩ => ⟨S4x2x3x1x1x256x2x256, .i32⟩
  | .hbm, ⟨83, _⟩ => ⟨S4x2x3x1x1x256x2x256, .i32⟩
  | .hbm, ⟨84, _⟩ => ⟨S4x2x3x1x1x256x2x256, .i1⟩
  | .hbm, ⟨85, _⟩ => ⟨S_, .f32⟩
  | .hbm, ⟨86, _⟩ => ⟨S_, .f32⟩
  | .hbm, ⟨87, _⟩ => ⟨S4x2x3x8x8x256x2x256, .i1⟩
  | .hbm, ⟨88, _⟩ => ⟨S2x3x8x8x256x2x256, .f32⟩
  | .hbm, ⟨89, _⟩ => ⟨S4x2x3x8x8x256x2x256, .f32⟩
  | .hbm, ⟨90, _⟩ => ⟨S4x2x3x8x8x256x2x256, .f32⟩
  | .hbm, ⟨91, _⟩ => ⟨S4x2x3x8x8x256, .f32⟩
  | .hbm, ⟨92, _⟩ => ⟨S4x2x3x8x8x256, .f32⟩
  | .hbm, ⟨93, _⟩ => ⟨S_, .f32⟩
  | .hbm, ⟨94, _⟩ => ⟨S4x2x3x8x8x256, .f32⟩
  | .hbm, ⟨95, _⟩ => ⟨S4x2x3x8x8x256, .f32⟩
  | .hbm, ⟨96, _⟩ => ⟨S4x2x3x8x8x256x1x1, .f32⟩
  | .hbm, ⟨97, _⟩ => ⟨S4x2x3x8x8x256x2x256, .f32⟩
  | .hbm, ⟨98, _⟩ => ⟨S4x2x3x8x8x256x2x256, .f32⟩
  | .hbm, ⟨99, _⟩ => ⟨S4x2x3x8x8x256x2x256, .f32⟩
  | .hbm, ⟨100, _⟩ => ⟨S4x2x3x8x8x256, .f32⟩
  | .hbm, ⟨101, _⟩ => ⟨S4x2x3x8x8x256, .f32⟩
  | .hbm, ⟨102, _⟩ => ⟨S4x2x3x8x8x256, .f32⟩
  | .hbm, ⟨103, _⟩ => ⟨S_, .f32⟩
  | .hbm, ⟨104, _⟩ => ⟨S4x2x3x8x8x256, .f32⟩
  | .hbm, ⟨105, _⟩ => ⟨S4x2x3x8x8x256, .f32⟩
  | .hbm, ⟨106, _⟩ => ⟨S4x3x8x2, .f32⟩
  | .hbm, ⟨107, _⟩ => ⟨S4x1x3x8x1x1x2x1, .f32⟩
  | .hbm, ⟨108, _⟩ => ⟨S4x2x3x8x8x256x2x256, .f32⟩
  | .hbm, ⟨109, _⟩ => ⟨S4x2x3x8x8x256x2x256, .f32⟩
  | .hbm, ⟨110, _⟩ => ⟨S4x2x3x8x8x256x2x256, .bf16⟩
  | .hbm, ⟨111, _⟩ => ⟨S4x3x8x128x2x8x256, .f32⟩
  | .hbm, ⟨112, _⟩ => ⟨S4x2x3x256x8x8x128, .f32⟩
  | .hbm, ⟨113, _⟩ => ⟨S4x2x3x256x8x8x128, .f32⟩
  | .hbm, ⟨114, _⟩ => ⟨S4x2x3x256x8x8, .f32⟩
  | .hbm, ⟨115, _⟩ => ⟨S4x2x3x256x8x8x1, .f32⟩
  | .hbm, ⟨116, _⟩ => ⟨S4x2x3x256x8x8x128, .f32⟩
  | .hbm, ⟨117, _⟩ => ⟨S4x2x3x256x8x8x128, .f32⟩
  | .hbm, ⟨118, _⟩ => ⟨S4x2x3x256x8x8x128, .f32⟩
  | .hbm, ⟨119, _⟩ => ⟨S4x2x3x256x64x128, .f32⟩
  | .hbm, ⟨120, _⟩ => ⟨S4x2x3x64x256, .f32⟩
  | .hbm, ⟨121, _⟩ => ⟨S4x2x3x64x256, .f32⟩
  | .local _ .vmem, ⟨0, _⟩ => ⟨S4x2x3x256x64x128, .fp8e4m3⟩
  | .local _ .vmem, ⟨1, _⟩ => ⟨S4x2x3x256x8x128, .fp8e4m3⟩
  | .local _ .vmem, ⟨2, _⟩ => ⟨S4x2x3x256x8x128, .fp8e4m3⟩
  | .local _ .vmem, ⟨3, _⟩ => ⟨S4x2x3x256x64x128, .f32⟩
  | .local _ .vmem, ⟨4, _⟩ => ⟨S4x2x3x256x8x128, .f32⟩
  | .local _ .vmem, ⟨5, _⟩ => ⟨S4x2x3x256x8x128, .bf16⟩
  | _, _ => ⟨S4x2x3x256x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_c_3 : Ref sig .tc := ⟨.hbm, 57, rfl⟩
abbrev main_v37 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2x3x256x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x3x256x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x3x256x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x3x256x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x3x256x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2x3x256x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Blocks.lean ====
/- The body of the kernel as a sequence of blocks. After its first part the body is six conditionals in a row: four of them
   run a counted loop over the eight head groups (chunk 0 in full; chunk 0 with the causal mask; chunk 0 in full and chunk 1 with
   the causal mask; both chunks in full), the fifth copies the input tile to the output tile, and the last writes the running
   maxima and sums out. Each block is given a name, so that each has a triple of its own. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Tactic

@[expose] public section

set_option maxRecDepth 65536

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- Chunk 0 in full: the loop over the head groups. -/
def blk1 (arg3 : BitVec 32) (v1 : Elt F .i32) : Prog (TpuEff nD τ sig (Elt F) Λ₀ .tc) PUnit := do
  if k0_h : k0_cond2 i v1 = 1#1 then do
    Scf.Loop.for k0_t1_loop k0_t1_ok ⟨⟩ (k0_t1_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Chunk 0 under the causal mask: the loop over the head groups. -/
def blk2 (arg3 : BitVec 32) (v1 : Elt F .i32) : Prog (TpuEff nD τ sig (Elt F) Λ₀ .tc) PUnit := do
  if k0_h : k0_cond3 i v1 = 1#1 then do
    Scf.Loop.for k0_t2_loop k0_t2_ok ⟨⟩ (k0_t2_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Chunk 0 in full, chunk 1 under the causal mask: the loop over the head groups. -/
def blk3 (arg3 : BitVec 32) (v1 : Elt F .i32) : Prog (TpuEff nD τ sig (Elt F) Λ₀ .tc) PUnit := do
  if k0_h : k0_cond4 i v1 = 1#1 then do
    Scf.Loop.for k0_t3_loop k0_t3_ok ⟨⟩ (k0_t3_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Both chunks in full: the loop over the head groups. -/
def blk4 (arg3 : BitVec 32) (v1 : Elt F .i32) : Prog (TpuEff nD τ sig (Elt F) Λ₀ .tc) PUnit := do
  if k0_h : k0_cond5 i v1 = 1#1 then do
    Scf.Loop.for k0_t4_loop k0_t4_ok ⟨⟩ (k0_t4_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Neither chunk is attended to: the input tile is copied. -/
def blk5 (v1 : Elt F .i32) : Prog (TpuEff nD τ sig (Elt F) Λ₀ .tc) PUnit := do
  if k0_h6 : k0_cond6 i v1 = 1#1 then do
    let v48 : Vec F S1x1x1x64x64x128 .f32 ← Prog.lift (.load arg10 (Rect.unit (s := S1x1x1x64x64x128) ![0, 0, 0, 0, 0, 0] S1x1x1x64x64x128.size inb_S1x1x1x64x64x128_S1x1x1x64x64x128_0_0_0_0_0_0).toLoadRect (View.loadsAt_vmem h_S1x1x1x64x64x128))
    let v50 : Vec F S1x1x1x64x64x128 .f32 ← Prog.lift (.load arg13 (Rect.unit (s := S1x1x1x64x64x128) ![0, 0, 0, 0, 0, 0] S1x1x1x64x64x128.size inb_S1x1x1x64x64x128_S1x1x1x64x64x128_0_0_0_0_0_0).toLoadRect (View.loadsAt_vmem h_S1x1x1x64x64x128))
    Prog.lift (.store arg13 (Rect.unit (s := S1x1x1x64x64x128) ![0, 0, 0, 0, 0, 0] S1x1x1x64x64x128.size inb_S1x1x1x64x64x128_S1x1x1x64x64x128_0_0_0_0_0_0) (k0_pay8 v48) Finset.univ (View.stores_vmem_bits_univ h_S1x1x1x64x64x128 rfl) (.inl rfl))
    pure ⟨⟩
  else do
    pure ⟨⟩

/-- The last token tile of a batch entry: the running maxima and sums are written out. -/
def blk6 : Prog (TpuEff nD τ sig (Elt F) Λ₀ .tc) PUnit := do
  if k0_h7 : k0_cond7 i = 1#1 then do
    let ⟨v2258, v2259, v2260, v2292, c4_i32_1265⟩ : Σ' (v2258 : IVec S8x128 32) (v2259 : IVec S8x128 32) (v2260 : IVec S8x128 32) (v2292 : FVec F S8x128 .f32), BitVec 32 ← k0_part211 i arg4 harg4 arg5 harg5 arg6 harg6 arg7 harg7 arg8 harg8 arg9 harg9 arg10 harg10 arg11 harg11 arg12 harg12 arg13 harg13 arg14 harg14 arg15 harg15 arg16 harg16 arg17 harg17 arg18 harg18
    let v2317 : Vec F S1x1x1x8x128 .f32 ← Prog.lift (.load arg15 (Rect.unit (s := S1x1x1x64x256) ![0, 0, 0, 56, 128] S1x1x1x8x128.size inb_S1x1x1x64x256_S1x1x1x8x128_0_0_0_56_128).toLoadRect (View.loadsAt_vmem h_S1x1x1x8x128))
    Prog.lift (.store arg15 (Rect.unit (s := S1x1x1x64x256) ![0, 0, 0, 56, 128] S1x1x1x8x128.size inb_S1x1x1x64x256_S1x1x1x8x128_0_0_0_56_128) (k0_pay9 v2258 v2259 v2260 v2292 c4_i32_1265) Finset.univ (View.stores_vmem_bits_univ h_S1x1x1x8x128 rfl) (.inl rfl))
    pure ⟨⟩
  else do
    pure ⟨⟩

theorem dite_bind_unit {p : Prop} [Decidable p] {α : Type} (A : p → Prog (TpuEff nD τ sig (Elt F) Λ₀ .tc) PUnit)
    (K : PUnit → Prog (TpuEff nD τ sig (Elt F) Λ₀ .tc) α) :
    ((if h : p then A h else pure ⟨⟩) >>= K) = if h : p then A h >>= K else K ⟨⟩ := by
  by_cases h : p
  · simp only [dif_pos h]
  · simp only [dif_neg h, pure_bind]

/-- The body, block by block. -/
theorem body_blocks : cc0_zigzag_step (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 = (do
    let x ← k0_part212 i arg4 harg4 arg5 harg5 arg6 harg6 arg7 harg7 arg8 harg8 arg9 harg9 arg10 harg10 arg11 harg11 arg12 harg12 arg13 harg13 arg14 harg14 arg15 harg15 arg16 harg16 arg17 harg17 arg18 harg18
    blk1 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk2 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk3 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk4 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk5 i arg10 arg13 x.2.1
    blk6 i arg4 harg4 arg5 harg5 arg6 harg6 arg7 harg7 arg8 harg8 arg9 harg9 arg10 harg10 arg11 harg11 arg12 harg12 arg13 harg13 arg14 harg14 arg15 harg15 arg16 harg16 arg17 harg17 arg18 harg18
    pure ⟨⟩) := by
  rw [cc0_zigzag_step_eq_skeleton]
  unfold cc0_zigzag_step_skel
  refine congrArg _ (funext fun x => ?_)
  obtain ⟨arg3, v1, v9, v18, v20, v22, v25, v28, v29, c2⟩ := x
  dsimp only
  unfold blk1 blk2 blk3 blk4 blk5 blk6
  simp only [dite_bind_unit, bind_assoc, pure_bind]

end Cert.Kernel.Pf
-- ==== Proof.Kernel.Triples.lean ====
/- A triple for each block of the body: the blocks leave the input tiles as they were and end, with the output tiles and the scratch at some contents. -/
module

public import proofs.«01_k».proof.Proof.Kernel.Blocks
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Tactic

@[expose] public section

set_option maxRecDepth 65536

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- A memref's buffer held whole at contents `f`. -/
abbrev At {sp : Space} {S : Shape} {e : EltTy} (M : Memref sig .tc sp S e) (f : Buf (Elt F) (M.view.loc (c : Thread nD τ))) : sProp 𝕄 :=
  M.view.loc (c : Thread nD τ) ↦[M.view.set]{fullShare} f

/-- A memref's buffer held whole at some contents. -/
abbrev Any {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

theorem blk1_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk1 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk1
  iintro ⟨H6, H7, H8, H9, H10, H18, ⟨%f13, H13⟩, ⟨%f16, H16⟩, ⟨%f17, H17⟩⟩
  by_cases hc : k0_cond2 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk2_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk2 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk2
  iintro ⟨H6, H7, H8, H9, H10, H18, ⟨%f13, H13⟩, ⟨%f16, H16⟩, ⟨%f17, H17⟩⟩
  by_cases hc : k0_cond3 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk3_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk3 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk3
  iintro ⟨H6, H7, H8, H9, H10, H18, ⟨%f13, H13⟩, ⟨%f16, H16⟩, ⟨%f17, H17⟩⟩
  by_cases hc : k0_cond4 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk4_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk4 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk4
  iintro ⟨H6, H7, H8, H9, H10, H18, ⟨%f13, H13⟩, ⟨%f16, H16⟩, ⟨%f17, H17⟩⟩
  by_cases hc : k0_cond5 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk5_any (v1 : Elt F .i32) (E : Set ℕ) (X_arg10 : Buf (Elt F) (arg10.view.loc (c : Thread nD τ))) :
    iprop(At c arg10 X_arg10 ∗ Any (F := F) c arg13)
      ⊢ wp frame (wpE (defs₀ (F := F)) Variants.none (c : Thread nD τ) none) E (blk5 i arg10 arg13 v1) (fun _ => iprop(At c arg10 X_arg10 ∗ Any (F := F) c arg13)) := by
  unfold blk5
  iintro ⟨H10, ⟨%f13, H13⟩⟩
  by_cases hc : k0_cond6 i v1 = 1#1
  · sl_exec (disch := sl_exact hc)
    sl_step
    isplitl [H10]; · iexact H10
    iexists _; iexact H13
  · sl_exec (disch := sl_exact hc)
    sl_step
    isplitl [H10]; · iexact H10
    iexists _; iexact H13

theorem blk6_any (E : Set ℕ) :
    iprop(Any (F := F) c arg14 ∗ Any (F := F) c arg15 ∗ Any (F := F) c arg16 ∗ Any (F := F) c arg17)
      ⊢ wp frame (wpE (defs₀ (F := F)) Variants.none (c : Thread nD τ) none) E (blk6 i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Any (F := F) c arg14 ∗ Any (F := F) c arg15 ∗ Any (F := F) c arg16 ∗ Any (F := F) c arg17)) := by
  unfold blk6
  iintro ⟨⟨%f14, H14⟩, ⟨%f15, H15⟩, ⟨%f16, H16⟩, ⟨%f17, H17⟩⟩
  by_cases hc : k0_cond7 i = 1#1
  · sl_exec (disch := sl_exact hc)
    sl_step
    isplitl [H14]; · iexists _; iexact H14
    isplitl [H15]; · iexists _; iexact H15
    isplitl [H16]; · iexists _; iexact H16
    iexists _; iexact H17
  · sl_exec (disch := sl_exact hc)
    sl_step
    isplitl [H14]; · iexists _; iexact H14
    isplitl [H15]; · iexists _; iexact H15
    isplitl [H16]; · iexists _; iexact H16
    iexists _; iexact H17

/-- A table's memref held at half the full share at contents `f`. -/
abbrev Tab {sp : Space} {S : Shape} {e : EltTy} (M : Memref sig .tc sp S e) (f : Buf (Elt F) (M.view.loc (c : Thread nD τ))) : sProp 𝕄 :=
  M.view.loc (c : Thread nD τ) ↦{fullShare.right} f

/-- The first part: on the first token tile it fills the statistics' scratch, and it copies the query tile. -/
theorem part212_any (E : Set ℕ) (X_arg4 : Buf (Elt F) (arg4.view.loc (c : Thread nD τ))) (X_arg5 : Buf (Elt F) (arg5.view.loc (c : Thread nD τ))) (X_arg11 : Buf (Elt F) (arg11.view.loc (c : Thread nD τ))) (X_arg12 : Buf (Elt F) (arg12.view.loc (c : Thread nD τ))) :
    iprop(Tab c arg4 X_arg4 ∗ At c arg5 X_arg5 ∗ At c arg11 X_arg11 ∗ At c arg12 X_arg12 ∗ Any (F := F) c arg16 ∗ Any (F := F) c arg17 ∗ Any (F := F) c arg18)
      ⊢ wp frame (wpE (defs₀ (F := F)) Variants.none (c : Thread nD τ) none) E (k0_part212 i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Tab c arg4 X_arg4 ∗ At c arg5 X_arg5 ∗ At c arg11 X_arg11 ∗ At c arg12 X_arg12 ∗ Any (F := F) c arg16 ∗ Any (F := F) c arg17 ∗ Any (F := F) c arg18)) := by
  rw [k0_part212_eq_skeleton]; unfold k0_part212_skel
  iintro ⟨H4, H5, H11, H12, ⟨%f16, H16⟩, ⟨%f17, H17⟩, ⟨%f18, H18⟩⟩
  by_cases hc : Scalar.cmpi .ne (Scalar.extui (Scalar.cmpi .eq (BitVec.ofNat 32 (i 3).val) 0#32)) 0#32 = 1#1
  · sl_exec (disch := sl_exact hc)
    sl_step
    isplitl [H4]; · iexact H4
    isplitl [H5]; · iexact H5
    isplitl [H11]; · iexact H11
    isplitl [H12]; · iexact H12
    isplitl [H16]; · iexists _; iexact H16
    isplitl [H17]; · iexists _; iexact H17
    iexists _; iexact H18
  · sl_exec (disch := sl_exact hc)
    sl_step
    isplitl [H4]; · iexact H4
    isplitl [H5]; · iexact H5
    isplitl [H11]; · iexact H11
    isplitl [H12]; · iexact H12
    isplitl [H16]; · iexists _; iexact H16
    isplitl [H17]; · iexists _; iexact H17
    iexists _; iexact H18

/-- The whole body: it leaves the table and the input tiles as they were, and ends. -/
theorem body_any (X_arg4 : Buf (Elt F) (arg4.view.loc (c : Thread nD τ))) (X_arg5 : Buf (Elt F) (arg5.view.loc (c : Thread nD τ))) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg11 : Buf (Elt F) (arg11.view.loc (c : Thread nD τ))) (X_arg12 : Buf (Elt F) (arg12.view.loc (c : Thread nD τ))) :
    iprop(Tab c arg4 X_arg4 ∗ At c arg5 X_arg5 ∗ At c arg6 X_arg6 ∗ At c arg7 X_arg7 ∗ At c arg8 X_arg8 ∗ At c arg9 X_arg9 ∗ At c arg10 X_arg10 ∗ At c arg11 X_arg11 ∗ At c arg12 X_arg12 ∗ Any (F := F) c arg13 ∗ Any (F := F) c arg14 ∗ Any (F := F) c arg15 ∗ Any (F := F) c arg16 ∗ Any (F := F) c arg17 ∗ Any (F := F) c arg18)
      ⊢ wp frame (wpE (defs₀ (F := F)) Variants.none (c : Thread nD τ) none) Set.univ (cc0_zigzag_step (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Tab c arg4 X_arg4 ∗ At c arg5 X_arg5 ∗ At c arg6 X_arg6 ∗ At c arg7 X_arg7 ∗ At c arg8 X_arg8 ∗ At c arg9 X_arg9 ∗ At c arg10 X_arg10 ∗ At c arg11 X_arg11 ∗ At c arg12 X_arg12 ∗ Any (F := F) c arg13 ∗ Any (F := F) c arg14 ∗ Any (F := F) c arg15 ∗ Any (F := F) c arg16 ∗ Any (F := F) c arg17 ∗ Any (F := F) c arg18)) := by
  rw [body_blocks]
  iintro ⟨H4, H5, H6, H7, H8, H9, H10, H11, H12, H13, H14, H15, H16, H17, H18⟩
  rw [wp_bind]
  iapply (wp_wand_r Idealize.ShloMosaic.frame (wpE (defs₀ (F := F)) Variants.none (c : Thread nD τ) none) Set.univ)
  isplitl [H4 H5 H11 H12 H16 H17 H18]
  · iapply (part212_any c i arg4 harg4 arg5 harg5 arg6 harg6 arg7 harg7 arg8 harg8 arg9 harg9 arg10 harg10 arg11 harg11 arg12 harg12 arg13 harg13 arg14 harg14 arg15 harg15 arg16 harg16 arg17 harg17 arg18 harg18 Set.univ X_arg4 X_arg5 X_arg11 X_arg12)
    isplitl [H4]; · iexact H4
    isplitl [H5]; · iexact H5
    isplitl [H11]; · iexact H11
    isplitl [H12]; · iexact H12
    isplitl [H16]; · iexact H16
    isplitl [H17]; · iexact H17
    iexact H18
  iintro %_ ⟨H4, H5, H11, H12, H16, H17, ⟨%X18, H18⟩⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk1_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk2_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk3_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk4_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H10 H13]
  · iapply (blk5_any c i arg10 arg13 _ Set.univ X_arg10)
    isplitl [H10]; · iexact H10
    iexact H13
  iintro %_ ⟨H10, H13⟩
  rw [wp_bind]
  iapply (wp_wand_r Idealize.ShloMosaic.frame (wpE (defs₀ (F := F)) Variants.none (c : Thread nD τ) none) Set.univ)
  isplitl [H14 H15 H16 H17]
  · iapply (blk6_any c i arg4 harg4 arg5 harg5 arg6 harg6 arg7 harg7 arg8 harg8 arg9 harg9 arg10 harg10 arg11 harg11 arg12 harg12 arg13 harg13 arg14 harg14 arg15 harg15 arg16 harg16 arg17 harg17 arg18 harg18 Set.univ)
    isplitl [H14]; · iexact H14
    isplitl [H15]; · iexact H15
    isplitl [H16]; · iexact H16
    iexact H17
  iintro %_ ⟨H14, H15, H16, H17⟩
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexists _; iexact H18

end Cert.Kernel.Pf
-- ==== Proof.Kernel.Kit.lean ====
/- The launch of the one pipelined call: what its arrays hold when it starts, and what the host leaves unchanged. -/
module

public import proofs.«01_k».proof.Proof.Kernel.Triples
public import Idealize.ShloMosaic.Lib.Claim

@[expose] public section

set_option maxRecDepth 65536

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations before the call leave argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 7 as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 8 as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 9 as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- No index map reads the table, so its contents are admissible whatever they are. -/
theorem ok_all : Ok m := by
  unfold Ok ok0; trivial

/-- Input window 0's staging buffer holds its block at every point, for any proof data that keeps it. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data that keeps it. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data that keeps it. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data that keeps it. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data that keeps it. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data that keeps it. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data that keeps it. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data that keeps it. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The arguments end unchanged, from a run to `FramePost`: a staged input by `arr_in`, any other argument by the second clause. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 5 rfl).trans ((hA c 5).trans (V_main_arg7 m c)),
      (Pipeline.RDat.FramePost.arr_in h c 6 rfl).trans ((hA c 6).trans (V_main_arg8 m c)),
      (Pipeline.RDat.FramePost.arr_in h c 7 rfl).trans ((hA c 7).trans (V_main_arg9 m c))⟩) h

abbrev ms0_0 (hO : Ok m) (t : Fin (cfgM m hO).N) : Memref sig .tc .vmem S1x1x1x4096x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
theorem liveAt0_0 (hO : Ok m) : ∀ t : Fin (cfgM m hO).N, (cfgM m hO).idle 0 (grid0.coords t) = false :=
  (fun _ => rfl : ∀ t : Fin grid0.N, idle0 (tbl m) 0 (grid0.coords t) = false)
abbrev ms0_1 (hO : Ok m) (t : Fin (cfgM m hO).N) : Memref sig .tc .vmem S1x1x8x512x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
theorem liveAt0_1 (hO : Ok m) : ∀ t : Fin (cfgM m hO).N, (cfgM m hO).idle 1 (grid0.coords t) = false :=
  (fun _ => rfl : ∀ t : Fin grid0.N, idle0 (tbl m) 1 (grid0.coords t) = false)
abbrev ms0_2 (hO : Ok m) (t : Fin (cfgM m hO).N) : Memref sig .tc .vmem S1x1x8x128x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
theorem liveAt0_2 (hO : Ok m) : ∀ t : Fin (cfgM m hO).N, (cfgM m hO).idle 2 (grid0.coords t) = false :=
  (fun _ => rfl : ∀ t : Fin grid0.N, idle0 (tbl m) 2 (grid0.coords t) = false)
abbrev ms0_3 (hO : Ok m) (t : Fin (cfgM m hO).N) : Memref sig .tc .vmem S1x1x1x16x128 .f32 := spec0_3.stage ((cfgM m hO).slots t 3)
abbrev hs0_3 (hO : Ok m) (t : Fin (cfgM m hO).N) : (ms0_3 m hO t).IsWhole := hstage0_3 (((cfgM m hO).slots t 3).cast nbuf0_3)
theorem liveAt0_3 (hO : Ok m) : ∀ t : Fin (cfgM m hO).N, (cfgM m hO).idle 3 (grid0.coords t) = false :=
  (fun _ => rfl : ∀ t : Fin grid0.N, idle0 (tbl m) 3 (grid0.coords t) = false)
abbrev ms0_4 (hO : Ok m) (t : Fin (cfgM m hO).N) : Memref sig .tc .vmem S1x1x16x128 .f32 := spec0_4.stage ((cfgM m hO).slots t 4)
abbrev hs0_4 (hO : Ok m) (t : Fin (cfgM m hO).N) : (ms0_4 m hO t).IsWhole := hstage0_4 (((cfgM m hO).slots t 4).cast nbuf0_4)
theorem liveAt0_4 (hO : Ok m) : ∀ t : Fin (cfgM m hO).N, (cfgM m hO).idle 4 (grid0.coords t) = false :=
  (fun _ => rfl : ∀ t : Fin grid0.N, idle0 (tbl m) 4 (grid0.coords t) = false)
abbrev ms0_5 (hO : Ok m) (t : Fin (cfgM m hO).N) : Memref sig .tc .vmem S1x1x1x64x64x128 .f32 := spec0_5.stage ((cfgM m hO).slots t 5)
abbrev hs0_5 (hO : Ok m) (t : Fin (cfgM m hO).N) : (ms0_5 m hO t).IsWhole := hstage0_5 (((cfgM m hO).slots t 5).cast nbuf0_5)
theorem liveAt0_5 (hO : Ok m) : ∀ t : Fin (cfgM m hO).N, (cfgM m hO).idle 5 (grid0.coords t) = false :=
  (fun _ => rfl : ∀ t : Fin grid0.N, idle0 (tbl m) 5 (grid0.coords t) = false)
abbrev ms0_6 (hO : Ok m) (t : Fin (cfgM m hO).N) : Memref sig .tc .vmem S1x1x1x64x256 .f32 := spec0_6.stage ((cfgM m hO).slots t 6)
abbrev hs0_6 (hO : Ok m) (t : Fin (cfgM m hO).N) : (ms0_6 m hO t).IsWhole := hstage0_6 (((cfgM m hO).slots t 6).cast nbuf0_6)
theorem liveAt0_6 (hO : Ok m) : ∀ t : Fin (cfgM m hO).N, (cfgM m hO).idle 6 (grid0.coords t) = false :=
  (fun _ => rfl : ∀ t : Fin grid0.N, idle0 (tbl m) 6 (grid0.coords t) = false)
abbrev ms0_7 (hO : Ok m) (t : Fin (cfgM m hO).N) : Memref sig .tc .vmem S1x1x1x64x256 .f32 := spec0_7.stage ((cfgM m hO).slots t 7)
abbrev hs0_7 (hO : Ok m) (t : Fin (cfgM m hO).N) : (ms0_7 m hO t).IsWhole := hstage0_7 (((cfgM m hO).slots t 7).cast nbuf0_7)
theorem liveAt0_7 (hO : Ok m) : ∀ t : Fin (cfgM m hO).N, (cfgM m hO).idle 7 (grid0.coords t) = false :=
  (fun _ => rfl : ∀ t : Fin grid0.N, idle0 (tbl m) 7 (grid0.coords t) = false)
abbrev ms0_8 (hO : Ok m) (t : Fin (cfgM m hO).N) : Memref sig .tc .vmem S1x1x1x64x64x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x64x256 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1x64x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev scM0_0 : Memref sig .tc .vmem S8x16x128 .f32 := Memref.whole cc0_scratch0
abbrev scM0_1 : Memref sig .tc .vmem S8x16x128 .f32 := Memref.whole cc0_scratch1
abbrev scM0_2 : Memref sig .tc .vmem S4096x128 .fp8e4m3 := Memref.whole cc0_scratch2

/-- The scratch buffers at some contents and the generator's register, as the body is handed them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on the buffers the pipeline calls it with. -/
abbrev bodyAt0 (a : (pcfg0 (F := F)).Adm) (t : Fin (cfg0 a).N) : Prog (TpuEff nD τ sig (Elt F) Λ₀ .tc) PUnit :=
  cc0_zigzag_step (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

section
variable (c : Dev nD) {sp : Space} {S : Shape} {e : EltTy} {M : Memref sig .tc sp S e} (h : M.IsWhole)
include h

/-- A whole buffer owned at contents `X`, as the executor reads it, and back. -/
theorem at_of_owns (X : S.Idx → Elt F e) : owns (c : Thread nD τ) M fullShare X ⊢ (M.view.loc (c : Thread nD τ) ↦[M.view.set]{fullShare} h.unread X : sProp 𝕄) := by
  unfold owns; iintro ⟨%f, %hf, H⟩
  obtain rfl := h.eq_unread hf
  iexact H
theorem owns_of_at (f : Buf (Elt F) (M.view.loc (c : Thread nD τ))) : (M.view.loc (c : Thread nD τ) ↦[M.view.set]{fullShare} f : sProp 𝕄) ⊢ owns (c : Thread nD τ) M fullShare (M.view.read (Elt F) f) := by
  unfold owns; iintro H
  iexists f
  isplitr; · ipureintro; rfl
  iexact H
theorem owns_of_unread (X : S.Idx → Elt F e) : (M.view.loc (c : Thread nD τ) ↦[M.view.set]{fullShare} h.unread X : sProp 𝕄) ⊢ owns (c : Thread nD τ) M fullShare X := by
  unfold owns; iintro H
  iexists (h.unread X)
  isplitr; · ipureintro; exact h.read_unread _
  iexact H
end

end Cert.Kernel.Pf

end
-- ==== Proof.Kernel.Frame.lean ====
/- The program runs, and its arguments end unchanged; nothing is said of what the outputs hold. -/
module

public import proofs.«01_k».proof.Proof.Kernel.Kit
public import Idealize.ShloMosaic.Lib.Claim

@[expose] public section

set_option maxRecDepth 65536

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output windows, whose contents are not stated here. -/
def forgets0 : Fin 11 → Bool := fun w => 8 ≤ w.val

/-- The proof data: the arrays as the call finds them, each input's buffer kept at its block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1600000 in
/-- The body at any point keeps the inputs' blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [leaves0_0, leaves0_1, leaves0_2, leaves0_3, leaves0_4, leaves0_5, leaves0_6, leaves0_7]
  iintro ⟨⟨⟨⟨⟨%s0, S0⟩, ⟨%s1, S1⟩, ⟨%s2, S2⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none (c : Thread nD τ) none) Set.univ)
  isplitl [HT H0 H1 H2 H3 H4 H5 H6 H7 H8 H9 H10 S0 S1 S2]
  · iapply (body_any c (grid0.coords t) _ (Memref.isWhole_whole _) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) _ (Memref.isWhole_whole _) _ (Memref.isWhole_whole _) _ (Memref.isWhole_whole _) (tbl m 0) ((hs0_0 m hO t).unread (iblk m hO c 0 t)) ((hs0_1 m hO t).unread (iblk m hO c 1 t)) ((hs0_2 m hO t).unread (iblk m hO c 2 t)) ((hs0_3 m hO t).unread (iblk m hO c 3 t)) ((hs0_4 m hO t).unread (iblk m hO c 4 t)) ((hs0_5 m hO t).unread (iblk m hO c 5 t)) ((hs0_6 m hO t).unread (iblk m hO c 6 t)) ((hs0_7 m hO t).unread (iblk m hO c 7 t)))
    isplitl [HT]; · iexact HT
    isplitl [H0]; · iapply (at_of_owns c (hs0_0 m hO t) _); iexact H0
    isplitl [H1]; · iapply (at_of_owns c (hs0_1 m hO t) _); iexact H1
    isplitl [H2]; · iapply (at_of_owns c (hs0_2 m hO t) _); iexact H2
    isplitl [H3]; · iapply (at_of_owns c (hs0_3 m hO t) _); iexact H3
    isplitl [H4]; · iapply (at_of_owns c (hs0_4 m hO t) _); iexact H4
    isplitl [H5]; · iapply (at_of_owns c (hs0_5 m hO t) _); iexact H5
    isplitl [H6]; · iapply (at_of_owns c (hs0_6 m hO t) _); iexact H6
    isplitl [H7]; · iapply (at_of_owns c (hs0_7 m hO t) _); iexact H7
    isplitl [H8]; · iexists _; iapply (at_of_owns c (hs0_8 m hO t) _); iexact H8
    isplitl [H9]; · iexists _; iapply (at_of_owns c (hs0_9 m hO t) _); iexact H9
    isplitl [H10]; · iexists _; iapply (at_of_owns c (hs0_10 m hO t) _); iexact H10
    isplitl [S0]; · iexists _; iapply (at_of_owns c (Memref.isWhole_whole _) _); iexact S0
    isplitl [S1]; · iexists _; iapply (at_of_owns c (Memref.isWhole_whole _) _); iexact S1
    iexists _; iapply (at_of_owns c (Memref.isWhole_whole _) _); iexact S2
  iintro %u ⟨HT, H0, H1, H2, H3, H4, H5, H6, H7, ⟨%e8, H8⟩, ⟨%e9, H9⟩, ⟨%e10, H10⟩, ⟨%u0, S0⟩, ⟨%u1, S1⟩, ⟨%u2, S2⟩⟩
  isplitl [HT Hg S0 S1 S2]
  · isplitl [Hg S0 S1 S2]
    · isplitl [S0 S1 S2]
      · isplitl [S0]; · iexists _; iapply (owns_of_at c (Memref.isWhole_whole _) _); iexact S0
        isplitl [S1]; · iexists _; iapply (owns_of_at c (Memref.isWhole_whole _) _); iexact S1
        iexists _; iapply (owns_of_at c (Memref.isWhole_whole _) _); iexact S2
      iexact Hg
    iexact HT
  isplitl [Ho]; · iexact Ho
  isplitl [H0]; · iapply (owns_of_unread c (hs0_0 m hO t) _); iexact H0
  isplitl [H1]; · iapply (owns_of_unread c (hs0_1 m hO t) _); iexact H1
  isplitl [H2]; · iapply (owns_of_unread c (hs0_2 m hO t) _); iexact H2
  isplitl [H3]; · iapply (owns_of_unread c (hs0_3 m hO t) _); iexact H3
  isplitl [H4]; · iapply (owns_of_unread c (hs0_4 m hO t) _); iexact H4
  isplitl [H5]; · iapply (owns_of_unread c (hs0_5 m hO t) _); iexact H5
  isplitl [H6]; · iapply (owns_of_unread c (hs0_6 m hO t) _); iexact H6
  isplitl [H7]; · iapply (owns_of_unread c (hs0_7 m hO t) _); iexact H7
  isplitl [H8]; · iexists _; iapply (owns_of_at c (hs0_8 m hO t) _); iexact H8
  isplitl [H9]; · iexists _; iapply (owns_of_at c (hs0_9 m hO t) _); iexact H9
  iexists _; iapply (owns_of_at c (hs0_10 m hO t) _); iexact H10

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- Every run ends with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Pf

end
-- ==== Proof.KernelIdeal.Blocks.lean ====
/- The body of the kernel as a sequence of blocks. After its first part the body is six conditionals in a row: four of them
   run a counted loop over the eight head groups (chunk 0 in full; chunk 0 with the causal mask; chunk 0 in full and chunk 1 with
   the causal mask; both chunks in full), the fifth copies the input tile to the output tile, and the last writes the running
   maxima and sums out. Each block is given a name, so that each has a triple of its own. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic

@[expose] public section

set_option maxRecDepth 65536

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- Chunk 0 in full: the loop over the head groups. -/
def blk1 (arg3 : BitVec 32) (v1 : Elt F .i32) : Prog (TpuEff nD τ sig (Elt F) Λ₀ .tc) PUnit := do
  if k0_h : k0_cond2 i v1 = 1#1 then do
    Scf.Loop.for k0_t1_loop k0_t1_ok ⟨⟩ (k0_t1_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Chunk 0 under the causal mask: the loop over the head groups. -/
def blk2 (arg3 : BitVec 32) (v1 : Elt F .i32) : Prog (TpuEff nD τ sig (Elt F) Λ₀ .tc) PUnit := do
  if k0_h : k0_cond3 i v1 = 1#1 then do
    Scf.Loop.for k0_t2_loop k0_t2_ok ⟨⟩ (k0_t2_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Chunk 0 in full, chunk 1 under the causal mask: the loop over the head groups. -/
def blk3 (arg3 : BitVec 32) (v1 : Elt F .i32) : Prog (TpuEff nD τ sig (Elt F) Λ₀ .tc) PUnit := do
  if k0_h : k0_cond4 i v1 = 1#1 then do
    Scf.Loop.for k0_t3_loop k0_t3_ok ⟨⟩ (k0_t3_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Both chunks in full: the loop over the head groups. -/
def blk4 (arg3 : BitVec 32) (v1 : Elt F .i32) : Prog (TpuEff nD τ sig (Elt F) Λ₀ .tc) PUnit := do
  if k0_h : k0_cond5 i v1 = 1#1 then do
    Scf.Loop.for k0_t4_loop k0_t4_ok ⟨⟩ (k0_t4_body i arg4 harg4 arg5 harg5 arg6 harg6 arg7 harg7 arg8 harg8 arg9 harg9 arg10 harg10 arg11 harg11 arg12 harg12 arg13 harg13 arg14 harg14 arg15 harg15 arg16 harg16 arg17 harg17 arg18 harg18 arg3)
    pure ⟨⟩
  else do
    pure ⟨⟩

/-- Neither chunk is attended to: the input tile is copied. -/
def blk5 (v1 : Elt F .i32) : Prog (TpuEff nD τ sig (Elt F) Λ₀ .tc) PUnit := do
  if k0_h6 : k0_cond6 i v1 = 1#1 then do
    let v48 : Vec F S1x1x1x64x64x128 .f32 ← Prog.lift (.load arg10 (Rect.unit (s := S1x1x1x64x64x128) ![0, 0, 0, 0, 0, 0] S1x1x1x64x64x128.size inb_S1x1x1x64x64x128_S1x1x1x64x64x128_0_0_0_0_0_0).toLoadRect (View.loadsAt_vmem h_S1x1x1x64x64x128))
    let v50 : Vec F S1x1x1x64x64x128 .f32 ← Prog.lift (.load arg13 (Rect.unit (s := S1x1x1x64x64x128) ![0, 0, 0, 0, 0, 0] S1x1x1x64x64x128.size inb_S1x1x1x64x64x128_S1x1x1x64x64x128_0_0_0_0_0_0).toLoadRect (View.loadsAt_vmem h_S1x1x1x64x64x128))
    Prog.lift (.store arg13 (Rect.unit (s := S1x1x1x64x64x128) ![0, 0, 0, 0, 0, 0] S1x1x1x64x64x128.size inb_S1x1x1x64x64x128_S1x1x1x64x64x128_0_0_0_0_0_0) (k0_pay8 v48) Finset.univ (View.stores_vmem_bits_univ h_S1x1x1x64x64x128 rfl) (.inl rfl))
    pure ⟨⟩
  else do
    pure ⟨⟩

/-- The last token tile of a batch entry: the running maxima and sums are written out. -/
def blk6 : Prog (TpuEff nD τ sig (Elt F) Λ₀ .tc) PUnit := do
  if k0_h7 : k0_cond7 i = 1#1 then do
    let ⟨v2258, v2259, v2260, v2292, c4_i32_1265⟩ : Σ' (v2258 : IVec S8x128 32) (v2259 : IVec S8x128 32) (v2260 : IVec S8x128 32) (v2292 : FVec F S8x128 .f32), BitVec 32 ← k0_part211 i arg4 harg4 arg5 harg5 arg6 harg6 arg7 harg7 arg8 harg8 arg9 harg9 arg10 harg10 arg11 harg11 arg12 harg12 arg13 harg13 arg14 harg14 arg15 harg15 arg16 harg16 arg17 harg17 arg18 harg18
    let v2317 : Vec F S1x1x1x8x128 .f32 ← Prog.lift (.load arg15 (Rect.unit (s := S1x1x1x64x256) ![0, 0, 0, 56, 128] S1x1x1x8x128.size inb_S1x1x1x64x256_S1x1x1x8x128_0_0_0_56_128).toLoadRect (View.loadsAt_vmem h_S1x1x1x8x128))
    Prog.lift (.store arg15 (Rect.unit (s := S1x1x1x64x256) ![0, 0, 0, 56, 128] S1x1x1x8x128.size inb_S1x1x1x64x256_S1x1x1x8x128_0_0_0_56_128) (k0_pay9 v2258 v2259 v2260 v2292 c4_i32_1265) Finset.univ (View.stores_vmem_bits_univ h_S1x1x1x8x128 rfl) (.inl rfl))
    pure ⟨⟩
  else do
    pure ⟨⟩

theorem dite_bind_unit {p : Prop} [Decidable p] {α : Type} (A : p → Prog (TpuEff nD τ sig (Elt F) Λ₀ .tc) PUnit)
    (K : PUnit → Prog (TpuEff nD τ sig (Elt F) Λ₀ .tc) α) :
    ((if h : p then A h else pure ⟨⟩) >>= K) = if h : p then A h >>= K else K ⟨⟩ := by
  by_cases h : p
  · simp only [dif_pos h]
  · simp only [dif_neg h, pure_bind]

/-- The body, block by block. -/
theorem body_blocks : cc0_zigzag_step (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 = (do
    let x ← k0_part212 i arg4 harg4 arg5 harg5 arg6 harg6 arg7 harg7 arg8 harg8 arg9 harg9 arg10 harg10 arg11 harg11 arg12 harg12 arg13 harg13 arg14 harg14 arg15 harg15 arg16 harg16 arg17 harg17 arg18 harg18
    blk1 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk2 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk3 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk4 i arg4 harg4 arg5 harg5 arg6 harg6 arg7 harg7 arg8 harg8 arg9 harg9 arg10 harg10 arg11 harg11 arg12 harg12 arg13 harg13 arg14 harg14 arg15 harg15 arg16 harg16 arg17 harg17 arg18 harg18 x.1 x.2.1
    blk5 i arg10 arg13 x.2.1
    blk6 i arg4 harg4 arg5 harg5 arg6 harg6 arg7 harg7 arg8 harg8 arg9 harg9 arg10 harg10 arg11 harg11 arg12 harg12 arg13 harg13 arg14 harg14 arg15 harg15 arg16 harg16 arg17 harg17 arg18 harg18
    pure ⟨⟩) := by
  rw [cc0_zigzag_step_eq_skeleton]
  unfold cc0_zigzag_step_skel
  refine congrArg _ (funext fun x => ?_)
  obtain ⟨arg3, v1, v9, v18, v20, v22, v25, v28, v29, c2⟩ := x
  dsimp only
  unfold blk1 blk2 blk3 blk4 blk5 blk6
  simp only [dite_bind_unit, bind_assoc, pure_bind]

end Cert.KernelIdeal.Pf
-- ==== Proof.KernelIdeal.Triples.lean ====
/- A triple for each block of the body: the blocks leave the input tiles as they were and end, with the output tiles and the scratch at some contents. -/
module

public import proofs.«01_k».proof.Proof.KernelIdeal.Blocks
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic

@[expose] public section

set_option maxRecDepth 65536

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- A memref's buffer held whole at contents `f`. -/
abbrev At {sp : Space} {S : Shape} {e : EltTy} (M : Memref sig .tc sp S e) (f : Buf (Elt F) (M.view.loc (c : Thread nD τ))) : sProp 𝕄 :=
  M.view.loc (c : Thread nD τ) ↦[M.view.set]{fullShare} f

/-- A memref's buffer held whole at some contents. -/
abbrev Any {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

theorem blk1_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk1 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk1
  iintro ⟨H6, H7, H8, H9, H10, H18, ⟨%f13, H13⟩, ⟨%f16, H16⟩, ⟨%f17, H17⟩⟩
  by_cases hc : k0_cond2 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk2_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk2 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk2
  iintro ⟨H6, H7, H8, H9, H10, H18, ⟨%f13, H13⟩, ⟨%f16, H16⟩, ⟨%f17, H17⟩⟩
  by_cases hc : k0_cond3 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk3_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk3 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk3
  iintro ⟨H6, H7, H8, H9, H10, H18, ⟨%f13, H13⟩, ⟨%f16, H16⟩, ⟨%f17, H17⟩⟩
  by_cases hc : k0_cond4 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk4_any (arg3 : BitVec 32) (v1 : Elt F .i32) (E : Set ℕ) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg18 : Buf (Elt F) (arg18.view.loc (c : Thread nD τ))) :
    iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)
      ⊢ wp frame (wpE (defs₀ (F := F)) Variants.none (c : Thread nD τ) none) E (blk4 i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 v1) (fun _ => iprop(At c arg6 X_arg6 ∗ At c arg7 X_arg7 ∗ At c arg8 X_arg8 ∗ At c arg9 X_arg9 ∗ At c arg10 X_arg10 ∗ At c arg18 X_arg18 ∗ Any (F := F) c arg13 ∗ Any (F := F) c arg16 ∗ Any (F := F) c arg17)) := by
  unfold blk4
  iintro ⟨H6, H7, H8, H9, H10, H18, ⟨%f13, H13⟩, ⟨%f16, H16⟩, ⟨%f17, H17⟩⟩
  by_cases hc : k0_cond5 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    isplitl [H13]; · iexists _; iexact H13
    isplitl [H16]; · iexists _; iexact H16
    iexists _; iexact H17

theorem blk5_any (v1 : Elt F .i32) (E : Set ℕ) (X_arg10 : Buf (Elt F) (arg10.view.loc (c : Thread nD τ))) :
    iprop(At c arg10 X_arg10 ∗ Any (F := F) c arg13)
      ⊢ wp frame (wpE (defs₀ (F := F)) Variants.none (c : Thread nD τ) none) E (blk5 i arg10 arg13 v1) (fun _ => iprop(At c arg10 X_arg10 ∗ Any (F := F) c arg13)) := by
  unfold blk5
  iintro ⟨H10, ⟨%f13, H13⟩⟩
  by_cases hc : k0_cond6 i v1 = 1#1
  · sl_exec (disch := sl_exact hc)
    sl_step
    isplitl [H10]; · iexact H10
    iexists _; iexact H13
  · sl_exec (disch := sl_exact hc)
    sl_step
    isplitl [H10]; · iexact H10
    iexists _; iexact H13

theorem blk6_any (E : Set ℕ) :
    iprop(Any (F := F) c arg14 ∗ Any (F := F) c arg15 ∗ Any (F := F) c arg16 ∗ Any (F := F) c arg17)
      ⊢ wp frame (wpE (defs₀ (F := F)) Variants.none (c : Thread nD τ) none) E (blk6 i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Any (F := F) c arg14 ∗ Any (F := F) c arg15 ∗ Any (F := F) c arg16 ∗ Any (F := F) c arg17)) := by
  unfold blk6
  iintro ⟨⟨%f14, H14⟩, ⟨%f15, H15⟩, ⟨%f16, H16⟩, ⟨%f17, H17⟩⟩
  by_cases hc : k0_cond7 i = 1#1
  · sl_exec (disch := sl_exact hc)
    sl_step
    isplitl [H14]; · iexists _; iexact H14
    isplitl [H15]; · iexists _; iexact H15
    isplitl [H16]; · iexists _; iexact H16
    iexists _; iexact H17
  · sl_exec (disch := sl_exact hc)
    sl_step
    isplitl [H14]; · iexists _; iexact H14
    isplitl [H15]; · iexists _; iexact H15
    isplitl [H16]; · iexists _; iexact H16
    iexists _; iexact H17

/-- A table's memref held at half the full share at contents `f`. -/
abbrev Tab {sp : Space} {S : Shape} {e : EltTy} (M : Memref sig .tc sp S e) (f : Buf (Elt F) (M.view.loc (c : Thread nD τ))) : sProp 𝕄 :=
  M.view.loc (c : Thread nD τ) ↦{fullShare.right} f

/-- The first part: on the first token tile it fills the statistics' scratch, and it copies the query tile. -/
theorem part212_any (E : Set ℕ) (X_arg4 : Buf (Elt F) (arg4.view.loc (c : Thread nD τ))) (X_arg5 : Buf (Elt F) (arg5.view.loc (c : Thread nD τ))) (X_arg11 : Buf (Elt F) (arg11.view.loc (c : Thread nD τ))) (X_arg12 : Buf (Elt F) (arg12.view.loc (c : Thread nD τ))) :
    iprop(Tab c arg4 X_arg4 ∗ At c arg5 X_arg5 ∗ At c arg11 X_arg11 ∗ At c arg12 X_arg12 ∗ Any (F := F) c arg16 ∗ Any (F := F) c arg17 ∗ Any (F := F) c arg18)
      ⊢ wp frame (wpE (defs₀ (F := F)) Variants.none (c : Thread nD τ) none) E (k0_part212 i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Tab c arg4 X_arg4 ∗ At c arg5 X_arg5 ∗ At c arg11 X_arg11 ∗ At c arg12 X_arg12 ∗ Any (F := F) c arg16 ∗ Any (F := F) c arg17 ∗ Any (F := F) c arg18)) := by
  rw [k0_part212_eq_skeleton]; unfold k0_part212_skel
  iintro ⟨H4, H5, H11, H12, ⟨%f16, H16⟩, ⟨%f17, H17⟩, ⟨%f18, H18⟩⟩
  by_cases hc : Scalar.cmpi .ne (Scalar.extui (Scalar.cmpi .eq (BitVec.ofNat 32 (i 3).val) 0#32)) 0#32 = 1#1
  · sl_exec (disch := sl_exact hc)
    sl_step
    isplitl [H4]; · iexact H4
    isplitl [H5]; · iexact H5
    isplitl [H11]; · iexact H11
    isplitl [H12]; · iexact H12
    isplitl [H16]; · iexists _; iexact H16
    isplitl [H17]; · iexists _; iexact H17
    iexists _; iexact H18
  · sl_exec (disch := sl_exact hc)
    sl_step
    isplitl [H4]; · iexact H4
    isplitl [H5]; · iexact H5
    isplitl [H11]; · iexact H11
    isplitl [H12]; · iexact H12
    isplitl [H16]; · iexists _; iexact H16
    isplitl [H17]; · iexists _; iexact H17
    iexists _; iexact H18

/-- The whole body: it leaves the table and the input tiles as they were, and ends. -/
theorem body_any (X_arg4 : Buf (Elt F) (arg4.view.loc (c : Thread nD τ))) (X_arg5 : Buf (Elt F) (arg5.view.loc (c : Thread nD τ))) (X_arg6 : Buf (Elt F) (arg6.view.loc (c : Thread nD τ))) (X_arg7 : Buf (Elt F) (arg7.view.loc (c : Thread nD τ))) (X_arg8 : Buf (Elt F) (arg8.view.loc (c : Thread nD τ))) (X_arg9 : Buf (Elt F) (arg9.view.loc (c : Thread nD τ))) (X_arg10 : Buf (Elt F) (arg10.view.loc (c : Thread nD τ))) (X_arg11 : Buf (Elt F) (arg11.view.loc (c : Thread nD τ))) (X_arg12 : Buf (Elt F) (arg12.view.loc (c : Thread nD τ))) :
    iprop(Tab c arg4 X_arg4 ∗ At c arg5 X_arg5 ∗ At c arg6 X_arg6 ∗ At c arg7 X_arg7 ∗ At c arg8 X_arg8 ∗ At c arg9 X_arg9 ∗ At c arg10 X_arg10 ∗ At c arg11 X_arg11 ∗ At c arg12 X_arg12 ∗ Any (F := F) c arg13 ∗ Any (F := F) c arg14 ∗ Any (F := F) c arg15 ∗ Any (F := F) c arg16 ∗ Any (F := F) c arg17 ∗ Any (F := F) c arg18)
      ⊢ wp frame (wpE (defs₀ (F := F)) Variants.none (c : Thread nD τ) none) Set.univ (cc0_zigzag_step (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => iprop(Tab c arg4 X_arg4 ∗ At c arg5 X_arg5 ∗ At c arg6 X_arg6 ∗ At c arg7 X_arg7 ∗ At c arg8 X_arg8 ∗ At c arg9 X_arg9 ∗ At c arg10 X_arg10 ∗ At c arg11 X_arg11 ∗ At c arg12 X_arg12 ∗ Any (F := F) c arg13 ∗ Any (F := F) c arg14 ∗ Any (F := F) c arg15 ∗ Any (F := F) c arg16 ∗ Any (F := F) c arg17 ∗ Any (F := F) c arg18)) := by
  rw [body_blocks]
  iintro ⟨H4, H5, H6, H7, H8, H9, H10, H11, H12, H13, H14, H15, H16, H17, H18⟩
  rw [wp_bind]
  iapply (wp_wand_r Idealize.ShloMosaic.frame (wpE (defs₀ (F := F)) Variants.none (c : Thread nD τ) none) Set.univ)
  isplitl [H4 H5 H11 H12 H16 H17 H18]
  · iapply (part212_any c i arg4 harg4 arg5 harg5 arg6 harg6 arg7 harg7 arg8 harg8 arg9 harg9 arg10 harg10 arg11 harg11 arg12 harg12 arg13 harg13 arg14 harg14 arg15 harg15 arg16 harg16 arg17 harg17 arg18 harg18 Set.univ X_arg4 X_arg5 X_arg11 X_arg12)
    isplitl [H4]; · iexact H4
    isplitl [H5]; · iexact H5
    isplitl [H11]; · iexact H11
    isplitl [H12]; · iexact H12
    isplitl [H16]; · iexact H16
    isplitl [H17]; · iexact H17
    iexact H18
  iintro %_ ⟨H4, H5, H11, H12, H16, H17, ⟨%X18, H18⟩⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk1_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk2_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk3_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H6 H7 H8 H9 H10 H18 H13 H16 H17]
  · iapply (blk4_any c i arg4 harg4 arg5 harg5 arg6 harg6 arg7 harg7 arg8 harg8 arg9 harg9 arg10 harg10 arg11 harg11 arg12 harg12 arg13 harg13 arg14 harg14 arg15 harg15 arg16 harg16 arg17 harg17 arg18 harg18 _ _ Set.univ X_arg6 X_arg7 X_arg8 X_arg9 X_arg10 X18)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, H13, H16, H17⟩
  rw [wp_bind]
  iapply (wp_wand_r Idealize.ShloMosaic.frame (wpE (defs₀ (F := F)) Variants.none (c : Thread nD τ) none) Set.univ)
  isplitl [H10 H13]
  · iapply (blk5_any c i arg10 arg13 _ Set.univ X_arg10)
    isplitl [H10]; · iexact H10
    iexact H13
  iintro %_ ⟨H10, H13⟩
  rw [wp_bind]
  iapply (wp_wand_r Idealize.ShloMosaic.frame (wpE (defs₀ (F := F)) Variants.none (c : Thread nD τ) none) Set.univ)
  isplitl [H14 H15 H16 H17]
  · iapply (blk6_any c i arg4 harg4 arg5 harg5 arg6 harg6 arg7 harg7 arg8 harg8 arg9 harg9 arg10 harg10 arg11 harg11 arg12 harg12 arg13 harg13 arg14 harg14 arg15 harg15 arg16 harg16 arg17 harg17 arg18 harg18 Set.univ)
    isplitl [H14]; · iexact H14
    isplitl [H15]; · iexact H15
    isplitl [H16]; · iexact H16
    iexact H17
  iintro %_ ⟨H14, H15, H16, H17⟩
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexists _; iexact H18

end Cert.KernelIdeal.Pf
-- ==== Proof.KernelIdeal.Kit.lean ====
/- The launch of the one pipelined call: what its arrays hold when it starts, and what the host leaves unchanged. -/
module

public import proofs.«01_k».proof.Proof.KernelIdeal.Triples
public import Idealize.ShloMosaic.Lib.Claim

@[expose] public section

set_option maxRecDepth 65536

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations before the call leave argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 7 as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 8 as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the call leave argument 9 as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- No index map reads the table, so its contents are admissible whatever they are. -/
theorem ok_all : Ok m := by
  unfold Ok ok0; trivial

/-- Input window 0's staging buffer holds its block at every point, for any proof data that keeps it. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data that keeps it. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data that keeps it. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data that keeps it. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data that keeps it. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data that keeps it. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data that keeps it. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data that keeps it. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The arguments end unchanged, from a run to `FramePost`: a staged input by `arr_in`, any other argument by the second clause. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 5 rfl).trans ((hA c 5).trans (V_main_arg7 m c)),
      (Pipeline.RDat.FramePost.arr_in h c 6 rfl).trans ((hA c 6).trans (V_main_arg8 m c)),
      (Pipeline.RDat.FramePost.arr_in h c 7 rfl).trans ((hA c 7).trans (V_main_arg9 m c))⟩) h

abbrev ms0_0 (hO : Ok m) (t : Fin (cfgM m hO).N) : Memref sig .tc .vmem S1x1x1x4096x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
theorem liveAt0_0 (hO : Ok m) : ∀ t : Fin (cfgM m hO).N, (cfgM m hO).idle 0 (grid0.coords t) = false :=
  (fun _ => rfl : ∀ t : Fin grid0.N, idle0 (tbl m) 0 (grid0.coords t) = false)
abbrev ms0_1 (hO : Ok m) (t : Fin (cfgM m hO).N) : Memref sig .tc .vmem S1x1x8x512x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
theorem liveAt0_1 (hO : Ok m) : ∀ t : Fin (cfgM m hO).N, (cfgM m hO).idle 1 (grid0.coords t) = false :=
  (fun _ => rfl : ∀ t : Fin grid0.N, idle0 (tbl m) 1 (grid0.coords t) = false)
abbrev ms0_2 (hO : Ok m) (t : Fin (cfgM m hO).N) : Memref sig .tc .vmem S1x1x8x128x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
theorem liveAt0_2 (hO : Ok m) : ∀ t : Fin (cfgM m hO).N, (cfgM m hO).idle 2 (grid0.coords t) = false :=
  (fun _ => rfl : ∀ t : Fin grid0.N, idle0 (tbl m) 2 (grid0.coords t) = false)
abbrev ms0_3 (hO : Ok m) (t : Fin (cfgM m hO).N) : Memref sig .tc .vmem S1x1x1x16x128 .f32 := spec0_3.stage ((cfgM m hO).slots t 3)
abbrev hs0_3 (hO : Ok m) (t : Fin (cfgM m hO).N) : (ms0_3 m hO t).IsWhole := hstage0_3 (((cfgM m hO).slots t 3).cast nbuf0_3)
theorem liveAt0_3 (hO : Ok m) : ∀ t : Fin (cfgM m hO).N, (cfgM m hO).idle 3 (grid0.coords t) = false :=
  (fun _ => rfl : ∀ t : Fin grid0.N, idle0 (tbl m) 3 (grid0.coords t) = false)
abbrev ms0_4 (hO : Ok m) (t : Fin (cfgM m hO).N) : Memref sig .tc .vmem S1x1x16x128 .f32 := spec0_4.stage ((cfgM m hO).slots t 4)
abbrev hs0_4 (hO : Ok m) (t : Fin (cfgM m hO).N) : (ms0_4 m hO t).IsWhole := hstage0_4 (((cfgM m hO).slots t 4).cast nbuf0_4)
theorem liveAt0_4 (hO : Ok m) : ∀ t : Fin (cfgM m hO).N, (cfgM m hO).idle 4 (grid0.coords t) = false :=
  (fun _ => rfl : ∀ t : Fin grid0.N, idle0 (tbl m) 4 (grid0.coords t) = false)
abbrev ms0_5 (hO : Ok m) (t : Fin (cfgM m hO).N) : Memref sig .tc .vmem S1x1x1x64x64x128 .f32 := spec0_5.stage ((cfgM m hO).slots t 5)
abbrev hs0_5 (hO : Ok m) (t : Fin (cfgM m hO).N) : (ms0_5 m hO t).IsWhole := hstage0_5 (((cfgM m hO).slots t 5).cast nbuf0_5)
theorem liveAt0_5 (hO : Ok m) : ∀ t : Fin (cfgM m hO).N, (cfgM m hO).idle 5 (grid0.coords t) = false :=
  (fun _ => rfl : ∀ t : Fin grid0.N, idle0 (tbl m) 5 (grid0.coords t) = false)
abbrev ms0_6 (hO : Ok m) (t : Fin (cfgM m hO).N) : Memref sig .tc .vmem S1x1x1x64x256 .f32 := spec0_6.stage ((cfgM m hO).slots t 6)
abbrev hs0_6 (hO : Ok m) (t : Fin (cfgM m hO).N) : (ms0_6 m hO t).IsWhole := hstage0_6 (((cfgM m hO).slots t 6).cast nbuf0_6)
theorem liveAt0_6 (hO : Ok m) : ∀ t : Fin (cfgM m hO).N, (cfgM m hO).idle 6 (grid0.coords t) = false :=
  (fun _ => rfl : ∀ t : Fin grid0.N, idle0 (tbl m) 6 (grid0.coords t) = false)
abbrev ms0_7 (hO : Ok m) (t : Fin (cfgM m hO).N) : Memref sig .tc .vmem S1x1x1x64x256 .f32 := spec0_7.stage ((cfgM m hO).slots t 7)
abbrev hs0_7 (hO : Ok m) (t : Fin (cfgM m hO).N) : (ms0_7 m hO t).IsWhole := hstage0_7 (((cfgM m hO).slots t 7).cast nbuf0_7)
theorem liveAt0_7 (hO : Ok m) : ∀ t : Fin (cfgM m hO).N, (cfgM m hO).idle 7 (grid0.coords t) = false :=
  (fun _ => rfl : ∀ t : Fin grid0.N, idle0 (tbl m) 7 (grid0.coords t) = false)
abbrev ms0_8 (hO : Ok m) (t : Fin (cfgM m hO).N) : Memref sig .tc .vmem S1x1x1x64x64x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x64x256 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x1x64x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev scM0_0 : Memref sig .tc .vmem S8x16x128 .f32 := Memref.whole cc0_scratch0
abbrev scM0_1 : Memref sig .tc .vmem S8x16x128 .f32 := Memref.whole cc0_scratch1
abbrev scM0_2 : Memref sig .tc .vmem S4096x128 .fp8e4m3 := Memref.whole cc0_scratch2

/-- The scratch buffers at some contents and the generator's register, as the body is handed them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on the buffers the pipeline calls it with. -/
abbrev bodyAt0 (a : (pcfg0 (F := F)).Adm) (t : Fin (cfg0 a).N) : Prog (TpuEff nD τ sig (Elt F) Λ₀ .tc) PUnit :=
  cc0_zigzag_step (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

section
variable (c : Dev nD) {sp : Space} {S : Shape} {e : EltTy} {M : Memref sig .tc sp S e} (h : M.IsWhole)
include h

/-- A whole buffer owned at contents `X`, as the executor reads it, and back. -/
theorem at_of_owns (X : S.Idx → Elt F e) : owns (c : Thread nD τ) M fullShare X ⊢ (M.view.loc (c : Thread nD τ) ↦[M.view.set]{fullShare} h.unread X : sProp 𝕄) := by
  unfold owns; iintro ⟨%f, %hf, H⟩
  obtain rfl := h.eq_unread hf
  iexact H
theorem owns_of_at (f : Buf (Elt F) (M.view.loc (c : Thread nD τ))) : (M.view.loc (c : Thread nD τ) ↦[M.view.set]{fullShare} f : sProp 𝕄) ⊢ owns (c : Thread nD τ) M fullShare (M.view.read (Elt F) f) := by
  unfold owns; iintro H
  iexists f
  isplitr; · ipureintro; rfl
  iexact H
theorem owns_of_unread (X : S.Idx → Elt F e) : (M.view.loc (c : Thread nD τ) ↦[M.view.set]{fullShare} h.unread X : sProp 𝕄) ⊢ owns (c : Thread nD τ) M fullShare X := by
  unfold owns; iintro H
  iexists (h.unread X)
  isplitr; · ipureintro; exact h.read_unread _
  iexact H
end

end Cert.KernelIdeal.Pf

end
-- ==== Proof.KernelIdeal.Frame.lean ====
/- The program runs, and its arguments end unchanged; nothing is said of what the outputs hold. -/
module

public import proofs.«01_k».proof.Proof.KernelIdeal.Kit
public import Idealize.ShloMosaic.Lib.Claim

@[expose] public section

set_option maxRecDepth 65536

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The output windows, whose contents are not stated here. -/
def forgets0 : Fin 11 → Bool := fun w => 8 ≤ w.val

/-- The proof data: the arrays as the call finds them, each input's buffer kept at its block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem leaves0_0 (hO : Ok m) (c : Dev nD) (t : Fin (cfgM m hO).N) : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem leaves0_1 (hO : Ok m) (c : Dev nD) (t : Fin (cfgM m hO).N) : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem leaves0_2 (hO : Ok m) (c : Dev nD) (t : Fin (cfgM m hO).N) : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem leaves0_3 (hO : Ok m) (c : Dev nD) (t : Fin (cfgM m hO).N) : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem leaves0_4 (hO : Ok m) (c : Dev nD) (t : Fin (cfgM m hO).N) : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem leaves0_5 (hO : Ok m) (c : Dev nD) (t : Fin (cfgM m hO).N) : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after0_5]
theorem after0_6 (hO : Ok m) (c : Dev nD) (t : Fin (cfgM m hO).N) : (dats m hO 0 c).after 6 t = iblk m hO c 6 t := by dsimp only [dats]; try rfl
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem leaves0_6 (hO : Ok m) (c : Dev nD) (t : Fin (cfgM m hO).N) : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after0_6]
theorem after0_7 (hO : Ok m) (c : Dev nD) (t : Fin (cfgM m hO).N) : (dats m hO 0 c).after 7 t = iblk m hO c 7 t := by dsimp only [dats]; try rfl
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem leaves0_7 (hO : Ok m) (c : Dev nD) (t : Fin (cfgM m hO).N) : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after0_7]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1600000 in
/-- The body at any point keeps the inputs' blocks. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [leaves0_0, leaves0_1, leaves0_2, leaves0_3, leaves0_4, leaves0_5, leaves0_6, leaves0_7]
  iintro ⟨⟨⟨⟨⟨%s0, S0⟩, ⟨%s1, S1⟩, ⟨%s2, S2⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none (c : Thread nD τ) none) Set.univ)
  isplitl [HT H0 H1 H2 H3 H4 H5 H6 H7 H8 H9 H10 S0 S1 S2]
  · iapply (body_any c (grid0.coords t) _ (Memref.isWhole_whole _) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) _ (Memref.isWhole_whole _) _ (Memref.isWhole_whole _) _ (Memref.isWhole_whole _) (tbl m 0) ((hs0_0 m hO t).unread (iblk m hO c 0 t)) ((hs0_1 m hO t).unread (iblk m hO c 1 t)) ((hs0_2 m hO t).unread (iblk m hO c 2 t)) ((hs0_3 m hO t).unread (iblk m hO c 3 t)) ((hs0_4 m hO t).unread (iblk m hO c 4 t)) ((hs0_5 m hO t).unread (iblk m hO c 5 t)) ((hs0_6 m hO t).unread (iblk m hO c 6 t)) ((hs0_7 m hO t).unread (iblk m hO c 7 t)))
    isplitl [HT]; · iexact HT
    isplitl [H0]; · iapply (at_of_owns c (hs0_0 m hO t) _); iexact H0
    isplitl [H1]; · iapply (at_of_owns c (hs0_1 m hO t) _); iexact H1
    isplitl [H2]; · iapply (at_of_owns c (hs0_2 m hO t) _); iexact H2
    isplitl [H3]; · iapply (at_of_owns c (hs0_3 m hO t) _); iexact H3
    isplitl [H4]; · iapply (at_of_owns c (hs0_4 m hO t) _); iexact H4
    isplitl [H5]; · iapply (at_of_owns c (hs0_5 m hO t) _); iexact H5
    isplitl [H6]; · iapply (at_of_owns c (hs0_6 m hO t) _); iexact H6
    isplitl [H7]; · iapply (at_of_owns c (hs0_7 m hO t) _); iexact H7
    isplitl [H8]; · iexists _; iapply (at_of_owns c (hs0_8 m hO t) _); iexact H8
    isplitl [H9]; · iexists _; iapply (at_of_owns c (hs0_9 m hO t) _); iexact H9
    isplitl [H10]; · iexists _; iapply (at_of_owns c (hs0_10 m hO t) _); iexact H10
    isplitl [S0]; · iexists _; iapply (at_of_owns c (Memref.isWhole_whole _) _); iexact S0
    isplitl [S1]; · iexists _; iapply (at_of_owns c (Memref.isWhole_whole _) _); iexact S1
    iexists _; iapply (at_of_owns c (Memref.isWhole_whole _) _); iexact S2
  iintro %u ⟨HT, H0, H1, H2, H3, H4, H5, H6, H7, ⟨%e8, H8⟩, ⟨%e9, H9⟩, ⟨%e10, H10⟩, ⟨%u0, S0⟩, ⟨%u1, S1⟩, ⟨%u2, S2⟩⟩
  isplitl [HT Hg S0 S1 S2]
  · isplitl [Hg S0 S1 S2]
    · isplitl [S0 S1 S2]
      · isplitl [S0]; · iexists _; iapply (owns_of_at c (Memref.isWhole_whole _) _); iexact S0
        isplitl [S1]; · iexists _; iapply (owns_of_at c (Memref.isWhole_whole _) _); iexact S1
        iexists _; iapply (owns_of_at c (Memref.isWhole_whole _) _); iexact S2
      iexact Hg
    iexact HT
  isplitl [Ho]; · iexact Ho
  isplitl [H0]; · iapply (owns_of_unread c (hs0_0 m hO t) _); iexact H0
  isplitl [H1]; · iapply (owns_of_unread c (hs0_1 m hO t) _); iexact H1
  isplitl [H2]; · iapply (owns_of_unread c (hs0_2 m hO t) _); iexact H2
  isplitl [H3]; · iapply (owns_of_unread c (hs0_3 m hO t) _); iexact H3
  isplitl [H4]; · iapply (owns_of_unread c (hs0_4 m hO t) _); iexact H4
  isplitl [H5]; · iapply (owns_of_unread c (hs0_5 m hO t) _); iexact H5
  isplitl [H6]; · iapply (owns_of_unread c (hs0_6 m hO t) _); iexact H6
  isplitl [H7]; · iapply (owns_of_unread c (hs0_7 m hO t) _); iexact H7
  isplitl [H8]; · iexists _; iapply (owns_of_at c (hs0_8 m hO t) _); iexact H8
  isplitl [H9]; · iexists _; iapply (owns_of_at c (hs0_9 m hO t) _); iexact H9
  iexists _; iapply (owns_of_at c (hs0_10 m hO t) _); iexact H10

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- Every run ends with the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.KernelIdeal.Pf

end
-- ==== Proof.Claims.lean ====
/- The claims that speak of the programs alone: each ends with its arguments unchanged, and the named constants. -/
module

public import proofs.«01_k».proof.Defs
public import proofs.«01_k».proof.Proof.Kernel.Frame
public import proofs.«01_k».proof.Proof.KernelIdeal.Frame
public import proofs.«01_k».proof.Proof.Gen.ReferenceIdeal.Frame

@[expose] public section

noncomputable section

namespace Cert.Proof

open Idealize.ShloMosaic Idealize.SL.Sem

theorem frame_p : Cert.quiescent_Kernel := fun m ρ _ => Cert.Kernel.Pf.frame m ρ (Cert.Kernel.Pf.ok_all m)
theorem frame_pi : Cert.quiescent_KernelIdeal := fun m ρ _ => Cert.KernelIdeal.Pf.frame m ρ (Cert.KernelIdeal.Pf.ok_all m)
theorem frame_pi_pre [Cert.Pre_skipped_max_finite.Facts] : Cert.quiescent_KernelIdeal_pre_skipped_max_finite := fun m ρ _ => Cert.KernelIdeal.Pf.frame m ρ (Cert.KernelIdeal.Pf.ok_all m)
theorem frame_ri : Cert.quiescent_ReferenceIdeal := fun m ρ _ => Cert.ReferenceIdeal.Gen.frame m ρ
theorem frame_ri_pre [Cert.Pre_skipped_max_finite.Facts] : Cert.quiescent_ReferenceIdeal_pre_skipped_max_finite := fun m ρ _ => Cert.ReferenceIdeal.Gen.frame m ρ

/-- Each named constant is the real it was named for. -/
theorem preserves : Cert.preserves_Kernel_KernelIdeal :=
  ⟨IdealRules.named_const.statement Cert.KernelIdeal.κ "score_log2e" .f32 0x3E0293EE#32 _ rfl,
   IdealRules.named_const.statement Cert.KernelIdeal.κ "ln2" .f32 0x3F317218#32 _ rfl,
   IdealRules.named_const.statement Cert.KernelIdeal.κ "log2e" .f32 0x3FB8AA3B#32 _ rfl⟩

end Cert.Proof

end
-- ==== Proof.KernelIdeal.Unit.lean ====
/- One unit of the kernel, 32 tokens of one group of heads, as functions of the vectors it loads. -/
module

public import proofs.«01_k».proof.Proof.KernelIdeal.Triples

@[expose] public section

set_option maxRecDepth 65536

noncomputable section

namespace Cert.KernelIdeal.Pf

open Cert.KernelIdeal Cert.KernelIdeal.Gen
open Idealize.ShloMosaic Idealize.ShloMosaic.TcCoe
open Idealize.SL.RA

variable {F : FTy → Type} [FloatOps F] [Named F]

/-- Which of the four interleaved tokens a row of a gathered tile belongs to. -/
def pairOf : IVec S32x128 32 := shrsi (iota .tc S32x128 32 [0] iota_S32x128_d0_w32) (broadcast S32x128 3#32)

/-- One tile of queries, its rows taken from four loads. -/
def qTile (w0 w1 w2 w3 : Vec F S32x128 .fp8e4m3) : Vec F S32x128 .fp8e4m3 :=
  select (cmpi .eq pairOf (broadcast S32x128 3#32)) w3
    (select (cmpi .eq pairOf (broadcast S32x128 2#32)) w2
      (select (cmpi .eq pairOf (broadcast S32x128 1#32)) w1 w0))

/-- The unit's queries, a row for each token and head. -/
def qUnit (W : Fin 8 → Fin 4 → Vec F S32x128 .fp8e4m3) : FVec F S256x128 .fp8e4m3 :=
  concatenate S256x128 0 [⟨S32x128, qTile (W 0 0) (W 0 1) (W 0 2) (W 0 3)⟩, ⟨S32x128, qTile (W 1 0) (W 1 1) (W 1 2) (W 1 3)⟩,
    ⟨S32x128, qTile (W 2 0) (W 2 1) (W 2 2) (W 2 3)⟩, ⟨S32x128, qTile (W 3 0) (W 3 1) (W 3 2) (W 3 3)⟩,
    ⟨S32x128, qTile (W 4 0) (W 4 1) (W 4 2) (W 4 3)⟩, ⟨S32x128, qTile (W 5 0) (W 5 1) (W 5 2) (W 5 3)⟩,
    ⟨S32x128, qTile (W 6 0) (W 6 1) (W 6 2) (W 6 3)⟩, ⟨S32x128, qTile (W 7 0) (W 7 1) (W 7 2) (W 7 3)⟩]
    concatenates_S32x128_S32x128_S32x128_S32x128_S32x128_S32x128_S32x128_S32x128_S256x128_d0

/-- The scores of one chunk of keys, in units of `log 2`. -/
def scr (q : FVec F S256x128 .fp8e4m3) (k : Vec F S1x1x1x256x128 .fp8e4m3) (c : Vec F S1x1x1x1x128 .f32) : FVec F S256x256 .f32 :=
  k0_pay217 q k c

/-- The scores of a diagonal chunk: a key after its query has the score `-∞`. -/
def msk (tok : BitVec 32) (s : FVec F S256x256 .f32) : FVec F S256x256 .f32 :=
  select (cmpi .sle (iota .tc S256x256 32 [0] iota_S256x256_d0_w32)
      (addi (broadcast S256x256 tok) (shrsi (iota .tc S256x256 32 [1] iota_S256x256_d1_w32) (broadcast S256x256 3#32))))
    s (broadcast S256x256 (Scalar.ofBits .f32 0xFF800000#32))

/-- The largest score of each query. -/
def cmx (s : FVec F S256x256 .f32) : FVec F S1x256 .f32 :=
  shapeCast S1x256 (multiReduction .maximumf [0] S256 s 0xFF800000#32 reduces_S256x256_S256 (.inl rfl) rfl) shapeCasts_S256_S1x256

/-- The sum of each query's column. -/
def csm (s : FVec F S256x256 .f32) : FVec F S1x256 .f32 :=
  shapeCast S1x256 (multiReduction .add [0] S256 s 0x00000000#32 reduces_S256x256_S256 (.inl rfl) rfl) shapeCasts_S256_S1x256

/-- Two rows side by side. -/
def two (a b : Vec F S1x1x128 .f32) : FVec F S1x256 .f32 := k0_pay215 a b

/-- The new running maximum, from the old one and the largest score. -/
def mNew (mi mx : FVec F S1x256 .f32) : FVec F S1x256 .f32 :=
  maximumf mi (mulf mx (broadcast S1x256 (Named.named κ "ln2" 0x3F317218#32)))

/-- The factor by which the old sums shrink. -/
def alp (mi mn : FVec F S1x256 .f32) : FVec F S1x256 .f32 :=
  exp2 (mulf (subf mi mn) (broadcast S1x256 (Named.named κ "log2e" 0x3FB8AA3B#32)))

/-- The weights of one chunk. -/
def prb (s : FVec F S256x256 .f32) (mn : FVec F S1x256 .f32) : FVec F S256x256 .f32 :=
  exp2 (subf s (broadcastTo S256x256 (mulf mn (broadcast S1x256 (Named.named κ "log2e" 0x3FB8AA3B#32))) broadcasts_S1x256_S256x256))

/-- The weighted values of one chunk. -/
def pvt (p : FVec F S256x256 .f32) (vs : Vec F S1x1x1x128 .f32) (vt : Vec F S1x1x1x128x256 .fp8e4m3) : FVec F S128x256 .f32 :=
  matmul dot_S128x256_S256x256_S128x256_1_0_0_1_n_n none
    (mulf (extf .bf16 (shapeCast S128x256 vt shapeCasts_S1x1x1x128x256_S128x256) bitsLt_fp8e4m3_bf16)
      (broadcastTo S128x256 (concatenate S1x256 1 [⟨S1x128, truncf .bf16 (shapeCast S1x128 vs shapeCasts_S1x1x1x128_S1x128) bitsLt_bf16_f32⟩,
        ⟨S1x128, truncf .bf16 (shapeCast S1x128 vs shapeCasts_S1x1x1x128_S1x128) bitsLt_bf16_f32⟩] concatenates_S1x128_S1x128_S1x256_d1) broadcasts_S1x256_S128x256))
    (truncf .bf16 p bitsLt_bf16_f32) (constant S128x256 .f32 0x00000000#32)

/-- The unit's tile of the output. -/
def oNew (acc : FVec F S128x256 .f32) (al : FVec F S1x256 .f32) (o : Vec F S1x1x1x32x8x128 .f32) : Vec F S1x1x1x32x8x128 .f32 :=
  shapeCast S1x1x1x32x8x128 (shapeCast S32x8x128 (transpose S256x128 [1, 0]
    (addf acc (mulf (transpose S128x256 [1, 0] (shapeCast S256x128 (shapeCast S32x8x128 o shapeCasts_S1x1x1x32x8x128_S32x8x128) shapeCasts_S32x8x128_S256x128)
      transposes_S256x128_p1_0_S128x256) (broadcastTo S128x256 al broadcasts_S1x256_S128x256)))
    transposes_S128x256_p1_0_S256x128) shapeCasts_S256x128_S32x8x128) shapeCasts_S32x8x128_S1x1x1x32x8x128

/-- The new sum of weights. -/
def lNew (al li tot : FVec F S1x256 .f32) : FVec F S1x256 .f32 := addf (mulf al li) tot

/-- The first 128 lanes of a row. -/
def loRow (x : FVec F S1x256 .f32) : Vec F S1x1x128 .f32 :=
  shapeCast S1x1x128 (extractStridedSlice S1x128 ![0, 0] x slices_S1x256_o0_0_S1x128) shapeCasts_S1x128_S1x1x128

/-- The last 128 lanes of a row. -/
def hiRow (x : FVec F S1x256 .f32) : Vec F S1x1x128 .f32 :=
  shapeCast S1x1x128 (extractStridedSlice S1x128 ![0, 128] x slices_S1x256_o0_128_S1x128) shapeCasts_S1x128_S1x1x128

/-- The vectors a trip loads: queries, keys, value tiles, scales, and its two units' outputs, maxima and sums so far. -/
structure Lds (F : FTy → Type) where
  q : Fin 2 → FVec F S256x128 .fp8e4m3
  k : Fin 2 → Vec F S1x1x1x256x128 .fp8e4m3
  c : Fin 2 → Vec F S1x1x1x1x128 .f32
  vs : Fin 2 → Vec F S1x1x1x128 .f32
  vt : Fin 2 → Vec F S1x1x1x128x256 .fp8e4m3
  o : Fin 2 → Vec F S1x1x1x32x8x128 .f32
  m : Fin 2 → Fin 2 → Vec F S1x1x128 .f32
  l : Fin 2 → Fin 2 → Vec F S1x1x128 .f32

namespace Lds

variable (L : Lds F)

/-- The scores of unit `u` against chunk `x`. -/
def s (u x : Fin 2) : FVec F S256x256 .f32 := scr (L.q u) (L.k x) (L.c x)

/-- The maxima of unit `u` so far. -/
def mi (u : Fin 2) : FVec F S1x256 .f32 := two (L.m u 0) (L.m u 1)

/-- The sums of unit `u` so far. -/
def li (u : Fin 2) : FVec F S1x256 .f32 := two (L.l u 0) (L.l u 1)

/-- The new maxima from one chunk's scores. -/
def m1 (u : Fin 2) (s0 : FVec F S256x256 .f32) : FVec F S1x256 .f32 := mNew (L.mi u) (cmx s0)

/-- The new sums from one chunk's scores. -/
def l1 (u : Fin 2) (s0 : FVec F S256x256 .f32) : FVec F S1x256 .f32 :=
  lNew (alp (L.mi u) (L.m1 u s0)) (L.li u) (csm (prb s0 (L.m1 u s0)))

/-- The new outputs from one chunk's scores. -/
def o1 (u : Fin 2) (s0 : FVec F S256x256 .f32) : Vec F S1x1x1x32x8x128 .f32 :=
  oNew (pvt (prb s0 (L.m1 u s0)) (L.vs 0) (L.vt 0)) (alp (L.mi u) (L.m1 u s0)) (L.o u)

/-- The new maxima from two chunks' scores. -/
def m2 (u : Fin 2) (s0 s1 : FVec F S256x256 .f32) : FVec F S1x256 .f32 := mNew (L.mi u) (maximumf (cmx s0) (cmx s1))

/-- The new sums from two chunks' scores. -/
def l2 (u : Fin 2) (s0 s1 : FVec F S256x256 .f32) : FVec F S1x256 .f32 :=
  lNew (alp (L.mi u) (L.m2 u s0 s1)) (L.li u) (addf (csm (prb s0 (L.m2 u s0 s1))) (csm (prb s1 (L.m2 u s0 s1))))

/-- The new outputs from two chunks' scores. -/
def o2 (u : Fin 2) (s0 s1 : FVec F S256x256 .f32) : Vec F S1x1x1x32x8x128 .f32 :=
  oNew (addf (pvt (prb s0 (L.m2 u s0 s1)) (L.vs 0) (L.vt 0)) (pvt (prb s1 (L.m2 u s0 s1)) (L.vs 1) (L.vt 1)))
    (alp (L.mi u) (L.m2 u s0 s1)) (L.o u)

end Lds

end Cert.KernelIdeal.Pf
-- ==== Proof.KernelIdeal.Swap.lean ====
/- The two rearrangements of an 8x128 tile: from a head per row to 16 tokens of all eight heads per row, and back. -/
module

public import proofs.«01_k».proof.Proof.KernelIdeal.Unit
public import Idealize.ShloMosaic.Lib.Pointwise

@[expose] public section

set_option maxRecDepth 65536

noncomputable section

namespace Cert.KernelIdeal.Pf

open Cert.KernelIdeal Cert.KernelIdeal.Gen
open Idealize.ShloMosaic Idealize.ShloMosaic.TcCoe

variable {F : FTy → Type} [FloatOps F] [Named F]

/-- The lane and the row of each entry. -/
def laneI : IVec S8x128 32 := iota .tc S8x128 32 [1] iota_S8x128_d1_w32
def subI : IVec S8x128 32 := iota .tc S8x128 32 [0] iota_S8x128_d0_w32

/-- Whether `v` has the bit `k`. -/
def hasBit (v : IVec S8x128 32) (k : BitVec 32) : IVec S8x128 1 :=
  cmpi .ne (andi v (broadcast S8x128 k)) (broadcast S8x128 0#32)

/-- Exchange one bit of the row with the same bit of the lane. -/
def swapBit (k u d : BitVec 32) (x : FVec F S8x128 .f32) : FVec F S8x128 .f32 :=
  select (xori (xori (hasBit subI k) (hasBit laneI k)) (constantI S8x128 1 1#1)) x
    (select (hasBit subI k)
      (dynamicRotate 1 d none (dynamicRotate 0 k none x rotates_S8x128_d0) rotates_S8x128_d1)
      (dynamicRotate 1 k none (dynamicRotate 0 u none x rotates_S8x128_d0) rotates_S8x128_d1))

/-- Exchange the row with the lane within a group of eight. -/
def swap8 (x : FVec F S8x128 .f32) : FVec F S8x128 .f32 :=
  swapBit 4#32 4#32 124#32 (swapBit 2#32 6#32 126#32 (swapBit 1#32 7#32 127#32 x))

/-- A lane index brought into range. -/
def wrapI (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- A head per row to 16 tokens of all heads per row. -/
def headsToRows (x : FVec F S8x128 .f32) : FVec F S8x128 .f32 :=
  swap8 (dynamicGather 1 x (wrapI (addi (muli (andi laneI (broadcast S8x128 7#32)) (broadcast S8x128 16#32))
    (shrsi laneI (broadcast S8x128 3#32)))))

/-- And back. -/
def rowsToHeads (x : FVec F S8x128 .f32) : FVec F S8x128 .f32 :=
  dynamicGather 1 (swap8 x) (wrapI (addi (muli (andi laneI (broadcast S8x128 15#32)) (broadcast S8x128 8#32))
    (shrsi laneI (broadcast S8x128 4#32))))

theorem bit_lane : ∀ l : Fin 128,
    (IntOp.cmpi CmpIPredicate.ne (IntOp.andi (BitVec.ofNat 32 l.val) 1#32) 0#32 = if l.val % 2 = 1 then 1#1 else 0#1) ∧
    (IntOp.cmpi CmpIPredicate.ne (IntOp.andi (BitVec.ofNat 32 l.val) 2#32) 0#32 = if l.val / 2 % 2 = 1 then 1#1 else 0#1) ∧
    (IntOp.cmpi CmpIPredicate.ne (IntOp.andi (BitVec.ofNat 32 l.val) 4#32) 0#32 = if l.val / 4 % 2 = 1 then 1#1 else 0#1) := by
  decide

theorem bit_sub (s : Fin 8) :
    (IntOp.cmpi CmpIPredicate.ne (IntOp.andi (BitVec.ofNat 32 s.val) 1#32) 0#32 = if s.val % 2 = 1 then 1#1 else 0#1) ∧
    (IntOp.cmpi CmpIPredicate.ne (IntOp.andi (BitVec.ofNat 32 s.val) 2#32) 0#32 = if s.val / 2 % 2 = 1 then 1#1 else 0#1) ∧
    (IntOp.cmpi CmpIPredicate.ne (IntOp.andi (BitVec.ofNat 32 s.val) 4#32) 0#32 = if s.val / 4 % 2 = 1 then 1#1 else 0#1) :=
  bit_lane ⟨s.val, by omega⟩

/-- Two entries at the same place. -/
theorem at_place (x : FVec F S8x128 .f32) {a c : Fin 8} {b d : Fin 128} (h : a.val = c.val) (h' : b.val = d.val) :
    x (ix2 a b) = x (ix2 c d) := by
  rw [Fin.ext h, Fin.ext h']

theorem swapBit_1 (x : FVec F S8x128 .f32) (s : Fin 8) (l : Fin 128) :
    swapBit 1#32 7#32 127#32 x (ix2 s l) =
      x (ix2 ⟨s.val - s.val % 2 + l.val % 2, by omega⟩ ⟨l.val - l.val % 2 + s.val % 2, by omega⟩) := by
  pointwise [swapBit, hasBit, laneI, subI]
  rw [(bit_lane l).1, (bit_sub s).1]
  by_cases hs : s.val % 2 = 1 <;> by_cases hl : l.val % 2 = 1
  all_goals simp only [hs, hl, if_true, if_false, Scalar.select, IntOp.xori]
  all_goals exact at_place x (by dsimp only; omega) (by dsimp only; omega)

theorem swapBit_2 (x : FVec F S8x128 .f32) (s : Fin 8) (l : Fin 128) :
    swapBit 2#32 6#32 126#32 x (ix2 s l) =
      x (ix2 ⟨s.val - s.val / 2 % 2 * 2 + l.val / 2 % 2 * 2, by omega⟩ ⟨l.val - l.val / 2 % 2 * 2 + s.val / 2 % 2 * 2, by omega⟩) := by
  pointwise [swapBit, hasBit, laneI, subI]
  rw [(bit_lane l).2.1, (bit_sub s).2.1]
  by_cases hs : s.val / 2 % 2 = 1 <;> by_cases hl : l.val / 2 % 2 = 1
  all_goals simp only [hs, hl, if_true, if_false, Scalar.select, IntOp.xori]
  all_goals exact at_place x (by dsimp only; omega) (by dsimp only; omega)

theorem swapBit_4 (x : FVec F S8x128 .f32) (s : Fin 8) (l : Fin 128) :
    swapBit 4#32 4#32 124#32 x (ix2 s l) =
      x (ix2 ⟨s.val - s.val / 4 % 2 * 4 + l.val / 4 % 2 * 4, by omega⟩ ⟨l.val - l.val / 4 % 2 * 4 + s.val / 4 % 2 * 4, by omega⟩) := by
  pointwise [swapBit, hasBit, laneI, subI]
  rw [(bit_lane l).2.2, (bit_sub s).2.2]
  by_cases hs : s.val / 4 % 2 = 1 <;> by_cases hl : l.val / 4 % 2 = 1
  all_goals simp only [hs, hl, if_true, if_false, Scalar.select, IntOp.xori]
  all_goals exact at_place x (by dsimp only; omega) (by dsimp only; omega)

theorem swap8_apply (x : FVec F S8x128 .f32) (s : Fin 8) (l : Fin 128) :
    swap8 x (ix2 s l) = x (ix2 ⟨l.val % 8, by omega⟩ ⟨l.val / 8 * 8 + s.val, by omega⟩) := by
  rw [swap8, swapBit_4, swapBit_2, swapBit_1]
  exact at_place x (by dsimp only; omega) (by dsimp only; omega)

theorem gather_in : ∀ l : Fin 128, (wrapI (addi (muli (andi laneI (broadcast S8x128 7#32)) (broadcast S8x128 16#32))
    (shrsi laneI (broadcast S8x128 3#32))) (ix2 0 l)).toNat = l.val % 8 * 16 + l.val / 8 := by
  have h : ∀ l : Fin 128, (Scalar.select
        (IntOp.cmpi CmpIPredicate.slt
          (IntOp.addi (IntOp.muli (IntOp.andi (BitVec.ofNat 32 l.val) 7#32) 16#32)
            (IntOp.shrsi ArithUnit.vector (BitVec.ofNat 32 l.val) 3#32))
          0#32)
        (IntOp.addi
          (IntOp.addi (IntOp.muli (IntOp.andi (BitVec.ofNat 32 l.val) 7#32) 16#32)
            (IntOp.shrsi ArithUnit.vector (BitVec.ofNat 32 l.val) 3#32))
          128#32)
        (IntOp.addi (IntOp.muli (IntOp.andi (BitVec.ofNat 32 l.val) 7#32) 16#32)
          (IntOp.shrsi ArithUnit.vector (BitVec.ofNat 32 l.val) 3#32))).toNat = l.val % 8 * 16 + l.val / 8 := by decide
  intro l
  refine .trans (congrArg BitVec.toNat ?_) (h l)
  pointwise [wrapI, laneI]

theorem gather_out : ∀ l : Fin 128, (wrapI (addi (muli (andi laneI (broadcast S8x128 15#32)) (broadcast S8x128 8#32))
    (shrsi laneI (broadcast S8x128 4#32))) (ix2 0 l)).toNat = l.val % 16 * 8 + l.val / 16 := by
  have h : ∀ l : Fin 128, (Scalar.select
        (IntOp.cmpi CmpIPredicate.slt
          (IntOp.addi (IntOp.muli (IntOp.andi (BitVec.ofNat 32 l.val) 15#32) 8#32)
            (IntOp.shrsi ArithUnit.vector (BitVec.ofNat 32 l.val) 4#32))
          0#32)
        (IntOp.addi
          (IntOp.addi (IntOp.muli (IntOp.andi (BitVec.ofNat 32 l.val) 15#32) 8#32)
            (IntOp.shrsi ArithUnit.vector (BitVec.ofNat 32 l.val) 4#32))
          128#32)
        (IntOp.addi (IntOp.muli (IntOp.andi (BitVec.ofNat 32 l.val) 15#32) 8#32)
          (IntOp.shrsi ArithUnit.vector (BitVec.ofNat 32 l.val) 4#32))).toNat = l.val % 16 * 8 + l.val / 16 := by decide
  intro l
  refine .trans (congrArg BitVec.toNat ?_) (h l)
  pointwise [wrapI, laneI]

/-- The lane indices are the same on every row. -/
theorem wrapI_row (v : BitVec 32 → BitVec 32) (s : Fin 8) (l : Fin 128) :
    wrapI (fun j => v (laneI j)) (ix2 s l) = wrapI (fun j => v (laneI j)) (ix2 0 l) := by
  pointwise [wrapI, laneI]

theorem gather_apply (x : FVec F S8x128 .f32) (v : IVec S8x128 32) (s : Fin 8) (l : Fin 128) (n : Nat) (hn : n < 128)
    (h : (v (ix2 s l)).toNat = n) : dynamicGather 1 x v (ix2 s l) = x (ix2 s ⟨n, hn⟩) := by
  pointwise
  exact at_place x rfl (by dsimp only; rw [h]; exact Nat.mod_eq_of_lt hn)

theorem headsToRows_apply (x : FVec F S8x128 .f32) (s : Fin 8) (l : Fin 128) :
    headsToRows x (ix2 s l) = x (ix2 ⟨l.val % 8, by omega⟩ ⟨s.val * 16 + l.val / 8, by omega⟩) := by
  rw [headsToRows, swap8_apply, gather_apply x _ _ _ (s.val * 16 + l.val / 8) (by omega)]
  refine .trans (congrArg BitVec.toNat (wrapI_row (fun w => IntOp.addi (IntOp.muli (IntOp.andi w 7#32) 16#32)
    (IntOp.shrsi ArithUnit.vector w 3#32)) _ _)) (.trans (gather_in _) ?_)
  dsimp only; omega

theorem rowsToHeads_apply (x : FVec F S8x128 .f32) (n : Fin 8) (t : Fin 128) :
    rowsToHeads x (ix2 n t) = x (ix2 ⟨t.val / 16, by omega⟩ ⟨t.val % 16 * 8 + n.val, by omega⟩) := by
  rw [rowsToHeads, gather_apply (swap8 x) _ _ _ (t.val % 16 * 8 + t.val / 16) (by omega), swap8_apply]
  · exact at_place x (by dsimp only; omega) (by dsimp only; omega)
  · exact .trans (congrArg BitVec.toNat (wrapI_row (fun w => IntOp.addi (IntOp.muli (IntOp.andi w 15#32) 8#32)
      (IntOp.shrsi ArithUnit.vector w 4#32)) _ _)) (gather_out _)

end Cert.KernelIdeal.Pf
-- ==== Proof.KernelIdeal.UnitAt.lean ====
/- The functions of a unit, read at an index as extended reals. -/
module

public import proofs.«01_k».proof.Proof.KernelIdeal.Unit
public import Idealize.ShloMosaic.Lib.Pointwise

@[expose] public section

set_option maxRecDepth 65536

noncomputable section

namespace Cert.KernelIdeal.Pf

open Cert.KernelIdeal Cert.KernelIdeal.Gen
open Idealize.ShloMosaic Idealize.ShloMosaic.TcCoe
open Idealize.SL.RA

/-- The score scale, `log 2` and its inverse. -/
abbrev κs : EReal := Named.named (F := Ideal) (φ := .f32) κ "score_log2e" 0x3E0293EE#32
abbrev κln : EReal := Named.named (F := Ideal) (φ := .f32) κ "ln2" 0x3F317218#32
abbrev κlg : EReal := Named.named (F := Ideal) (φ := .f32) κ "log2e" 0x3FB8AA3B#32

theorem neg_inf : Ideal.ofBits .f32 0xFF800000#32 = ⊥ := by
  simp [Ideal.ofBits, Ideal.ieee]

theorem scr_apply (q : FVec Ideal S256x128 .fp8e4m3) (k : Vec Ideal S1x1x1x256x128 .fp8e4m3) (c : Vec Ideal S1x1x1x1x128 .f32) (key col : Fin 256) :
    scr q k c (ix2 key col) = (∑ d : Fin 128, k (ix5 0 0 0 key d) * q (ix2 col d)) * (c (ix5 0 0 0 0 ⟨col.val % 128, by omega⟩) * κs) := by
  pointwise [scr, k0_pay217]
  congr 1
  split
  · rename_i h
    simp only [Nat.mod_eq_of_lt h]
  · rename_i h
    have : col.val % 128 = col.val - 128 := by omega
    simp only [this]

theorem msk_apply (tok : BitVec 32) (s : FVec Ideal S256x256 .f32) (key col : Fin 256) :
    msk tok s (ix2 key col) = Scalar.select (IntOp.cmpi .sle (BitVec.ofNat 32 key.val) (tok + BitVec.ofNat 32 (col.val / 8))) (s (ix2 key col)) (⊥ : EReal) := by
  pointwise [msk]
  rw [neg_inf]
  congr 3
  have : ∀ a : Fin 256, IntOp.shrsi ArithUnit.vector (BitVec.ofNat 32 a.val) 3#32 = BitVec.ofNat 32 (a.val / 8) := by decide +kernel
  exact this col

theorem cmx_apply (s : FVec Ideal S256x256 .f32) (col : Fin 256) :
    cmx s (ix2 0 col) = Finset.univ.sup (fun key : Fin 256 => (s (ix2 key col) : EReal)) := by
  pointwise [cmx]
  rw [neg_inf]
  rfl

theorem csm_apply (s : FVec Ideal S256x256 .f32) (col : Fin 256) :
    csm s (ix2 0 col) = ∑ key : Fin 256, (s (ix2 key col) : EReal) := by
  pointwise [csm]

theorem two_apply (a b : Vec Ideal S1x1x128 .f32) (col : Fin 256) :
    two a b (ix2 0 col) = if h : col.val < 128 then a (ix3 0 0 ⟨col.val, h⟩) else b (ix3 0 0 ⟨col.val - 128, by omega⟩) := by
  pointwise [two, k0_pay215]

theorem mNew_apply (mi mx : FVec Ideal S1x256 .f32) (col : Fin 256) :
    mNew mi mx (ix2 0 col) = max (mi (ix2 0 col) : EReal) (mx (ix2 0 col) * κln) := by
  pointwise [mNew]

theorem alp_apply (mi mn : FVec Ideal S1x256 .f32) (col : Fin 256) :
    alp mi mn (ix2 0 col) = Ideal.exp2 (((mi (ix2 0 col) : EReal) - mn (ix2 0 col)) * κlg) := by
  pointwise [alp]
  rfl

theorem prb_apply (s : FVec Ideal S256x256 .f32) (mn : FVec Ideal S1x256 .f32) (key col : Fin 256) :
    prb s mn (ix2 key col) = Ideal.exp2 ((s (ix2 key col) : EReal) - mn (ix2 0 col) * κlg) := by
  pointwise [prb]
  rfl

theorem pvt_apply (p : FVec Ideal S256x256 .f32) (vs : Vec Ideal S1x1x1x128 .f32) (vt : Vec Ideal S1x1x1x128x256 .fp8e4m3) (d : Fin 128) (col : Fin 256) :
    pvt p vs vt (ix2 d col) = ∑ key : Fin 256, ((vt (ix5 0 0 0 d key) : EReal) * vs (ix4 0 0 0 ⟨key.val % 128, by omega⟩)) * p (ix2 key col) := by
  pointwise [pvt]
  rw [Fin.sum_univ_two_halves 128 128 rfl (fun key : Fin 256 => ((vt (ix5 0 0 0 d key) : EReal) * vs (ix4 0 0 0 ⟨key.val % 128, by omega⟩)) * p (ix2 key col))]
  congr 1

theorem oNew_apply (acc : FVec Ideal S128x256 .f32) (al : FVec Ideal S1x256 .f32) (o : Vec Ideal S1x1x1x32x8x128 .f32) (t : Fin 32) (n : Fin 8) (d : Fin 128) :
    oNew acc al o (ix6 0 0 0 t n d) = (acc (ix2 d ⟨t.val * 8 + n.val, by omega⟩) : EReal) + o (ix6 0 0 0 t n d) * al (ix2 0 ⟨t.val * 8 + n.val, by omega⟩) := by
  pointwise [oNew]

theorem lNew_apply (al li tot : FVec Ideal S1x256 .f32) (col : Fin 256) :
    lNew al li tot (ix2 0 col) = (al (ix2 0 col) : EReal) * li (ix2 0 col) + tot (ix2 0 col) := by
  pointwise [lNew]

theorem loRow_apply (x : FVec Ideal S1x256 .f32) (j : Fin 128) : loRow x (ix3 0 0 j) = x (ix2 0 ⟨j.val, by omega⟩) := by
  pointwise [loRow]

theorem hiRow_apply (x : FVec Ideal S1x256 .f32) (j : Fin 128) : hiRow x (ix3 0 0 j) = x (ix2 0 ⟨128 + j.val, by omega⟩) := by
  pointwise [hiRow]

theorem qTile_apply (w0 w1 w2 w3 : Vec Ideal S32x128 .fp8e4m3) (a : Fin 32) (d : Fin 128) :
    qTile w0 w1 w2 w3 (ix2 a d) = (![w0, w1, w2, w3] ⟨a.val / 8, by omega⟩) (ix2 a d) := by
  pointwise [qTile, pairOf]
  fin_vals a with ha
  all_goals simp only [ha]; rfl

theorem cat8_apply (T : Fin 8 → Vec Ideal S32x128 .fp8e4m3) (a : Fin 256) (d : Fin 128) :
    concatenate S256x128 0 [⟨S32x128, T 0⟩, ⟨S32x128, T 1⟩, ⟨S32x128, T 2⟩, ⟨S32x128, T 3⟩, ⟨S32x128, T 4⟩, ⟨S32x128, T 5⟩, ⟨S32x128, T 6⟩, ⟨S32x128, T 7⟩]
      concatenates_S32x128_S32x128_S32x128_S32x128_S32x128_S32x128_S32x128_S32x128_S256x128_d0 (ix2 a d)
      = T ⟨a.val / 32, by omega⟩ (ix2 ⟨a.val % 32, by omega⟩ d) := by
  pointwise
  have hd := Nat.div_add_mod a.val 32
  have hm := Nat.mod_lt a.val (show 32 > 0 by omega)
  generalize hv : (⟨a.val / 32, by omega⟩ : Fin 8) = v
  have hv' : a.val / 32 = v.val := by rw [← hv]
  have hT : ∀ (i : Fin 8) (r r' : Fin 32), v.val = i.val → r.val = r'.val → T i (ix2 r' d) = T v (ix2 r d) := by
    intro i r r' h h'
    rw [Fin.ext h, Fin.ext h']
  split_ifs
  all_goals exact hT _ _ _ (by show _ = (_ : ℕ); omega) (by dsimp only; omega)

theorem qUnit_apply (W : Fin 8 → Fin 4 → Vec Ideal S32x128 .fp8e4m3) (a : Fin 256) (d : Fin 128) :
    qUnit W (ix2 a d) = W ⟨a.val / 32, by omega⟩ ⟨a.val / 8 % 4, by omega⟩ (ix2 ⟨a.val % 32, by omega⟩ d) := by
  have key : ∀ (v : Fin 8) (r : Fin 32), qTile (W v 0) (W v 1) (W v 2) (W v 3) (ix2 r d) = W v ⟨r.val / 8, by omega⟩ (ix2 r d) := by
    intro v r
    rw [qTile_apply]
    have hr : r.val / 8 < 4 := by omega
    generalize hq : (⟨r.val / 8, by omega⟩ : Fin 4) = q
    fin_cases q <;> rfl
  unfold qUnit
  rw [cat8_apply (fun v => qTile (W v 0) (W v 1) (W v 2) (W v 3)), key]
  congr 1
  exact Fin.ext (by show a.val % 32 / 8 = a.val / 8 % 4; omega)

end Cert.KernelIdeal.Pf
-- ==== Proof.KernelIdeal.Model.lean ====
/- What one query of a trip becomes, as extended reals, and that a trip's unit functions compute it. -/
module

public import proofs.«01_k».proof.Proof.KernelIdeal.UnitAt

@[expose] public section

set_option maxRecDepth 65536

noncomputable section

namespace Cert.KernelIdeal.Pf

open Cert.KernelIdeal Cert.KernelIdeal.Gen
open Idealize.ShloMosaic Idealize.ShloMosaic.TcCoe
open Idealize.SL.RA

/-- The new maximum: of the old one and the scores, which are in units of `log 2`. -/
def kM (mi : EReal) (s : Fin 2 → Fin 256 → EReal) : EReal :=
  max mi (max (Finset.univ.sup (s 0)) (Finset.univ.sup (s 1)) * κln)

/-- The factor for what was summed so far. -/
def kA (mi M : EReal) : EReal := Ideal.exp2 ((mi - M) * κlg)

/-- The weight of a score. -/
def kP (s M : EReal) : EReal := Ideal.exp2 (s - M * κlg)

/-- The new sum of weights. -/
def kL (li mi : EReal) (s : Fin 2 → Fin 256 → EReal) : EReal :=
  kA mi (kM mi s) * li + (∑ key, kP (s 0 key) (kM mi s) + ∑ key, kP (s 1 key) (kM mi s))

/-- The new output, `v` the values at one coordinate. -/
def kO (oi mi : EReal) (s v : Fin 2 → Fin 256 → EReal) : EReal :=
  (∑ key, v 0 key * kP (s 0 key) (kM mi s) + ∑ key, v 1 key * kP (s 1 key) (kM mi s)) + oi * kA mi (kM mi s)

/-- What a grid point reads: queries by row, keys, values by coordinate, the scales, the outputs so far. -/
structure Rd where
  q : Vec Ideal S4096x128 .fp8e4m3
  k : Vec Ideal S1x1x8x512x128 .fp8e4m3
  vt : Vec Ideal S1x1x8x128x512 .fp8e4m3
  c : Vec Ideal S1x1x1x16x128 .f32
  vs : Vec Ideal S1x1x16x128 .f32
  oi : Vec Ideal S1x1x1x64x64x128 .f32

namespace Rd

variable (R : Rd) (al : Fin 2 → Fin 256 → Fin 64 → Bool)

/-- The score of key `key` of chunk `x` for token `t`, head `n` of group `g`. -/
def sc (x : Fin 2) (key : Fin 256) (t : Fin 64) (g n : Fin 8) : EReal :=
  (∑ d : Fin 128, R.k (ix5 0 0 g ⟨256 * x.val + key.val, by omega⟩ d) * R.q (ix2 ⟨64 * t.val + 8 * g.val + n.val, by omega⟩ d))
    * (R.c (ix5 0 0 0 ⟨2 * g.val + x.val, by omega⟩ ⟨t.val % 16 * 8 + n.val, by omega⟩) * κs)

/-- The score, `-∞` where the key is not attended to. -/
def s (t : Fin 64) (g n : Fin 8) (x : Fin 2) (key : Fin 256) : EReal := if al x key t then R.sc x key t g n else ⊥

/-- The value at coordinate `d`. -/
def v (g : Fin 8) (d : Fin 128) (x : Fin 2) (key : Fin 256) : EReal :=
  R.vt (ix5 0 0 g d ⟨256 * x.val + key.val, by omega⟩) * R.vs (ix4 0 0 ⟨2 * g.val + x.val, by omega⟩ ⟨key.val % 128, by omega⟩)

def mN (mi : EReal) (t : Fin 64) (g n : Fin 8) : EReal := kM mi (R.s al t g n)

def lN (li mi : EReal) (t : Fin 64) (g n : Fin 8) : EReal := kL li mi (R.s al t g n)

def oN (mi : EReal) (t : Fin 64) (g n : Fin 8) (d : Fin 128) : EReal :=
  kO (R.oi (ix6 0 0 0 t ⟨8 * g.val + n.val, by omega⟩ d)) mi (R.s al t g n) (R.v g d)

end Rd

/-- A trip's loads hold what the grid point reads: group `g`, block of tokens `tb`, maxima `M` and sums `Ls` so far, `nc` chunks of keys. -/
structure LdsAt (R : Rd) (M Ls : Vec Ideal S8x16x128 .f32) (g : Fin 8) (tb : Fin 4) (nc : ℕ) (L : Lds Ideal) : Prop where
  q : ∀ (u : Fin 2) (col : Fin 256) (d : Fin 128), L.q u (ix2 col d) = R.q (ix2 ⟨64 * (32 * u.val + col.val / 8) + 8 * g.val + col.val % 8, by omega⟩ d)
  k : ∀ (x : Fin 2) (key : Fin 256) (d : Fin 128), x.val < nc → L.k x (ix5 0 0 0 key d) = R.k (ix5 0 0 g ⟨256 * x.val + key.val, by omega⟩ d)
  c : ∀ (x : Fin 2) (j : Fin 128), x.val < nc → L.c x (ix5 0 0 0 0 j) = R.c (ix5 0 0 0 ⟨2 * g.val + x.val, by omega⟩ j)
  vs : ∀ (x : Fin 2) (j : Fin 128), x.val < nc → L.vs x (ix4 0 0 0 j) = R.vs (ix4 0 0 ⟨2 * g.val + x.val, by omega⟩ j)
  vt : ∀ (x : Fin 2) (d : Fin 128) (key : Fin 256), x.val < nc → L.vt x (ix5 0 0 0 d key) = R.vt (ix5 0 0 g d ⟨256 * x.val + key.val, by omega⟩)
  o : ∀ (u : Fin 2) (t : Fin 32) (n : Fin 8) (d : Fin 128), L.o u (ix6 0 0 0 t n d) = R.oi (ix6 0 0 0 ⟨32 * u.val + t.val, by omega⟩ ⟨8 * g.val + n.val, by omega⟩ d)
  m : ∀ (u y : Fin 2) (j : Fin 128), L.m u y (ix3 0 0 j) = M (ix3 g ⟨4 * tb.val + 2 * u.val + y.val, by omega⟩ j)
  l : ∀ (u y : Fin 2) (j : Fin 128), L.l u y (ix3 0 0 j) = Ls (ix3 g ⟨4 * tb.val + 2 * u.val + y.val, by omega⟩ j)

/-- The vectors a trip stores, by unit. -/
structure Out (F : FTy → Type) where
  o : Fin 2 → Vec F S1x1x1x32x8x128 .f32
  m : Fin 2 → FVec F S1x256 .f32
  l : Fin 2 → FVec F S1x256 .f32

/-- The entry of a buffer of rows that belongs to a unit's column. -/
abbrev rowOf (M : Vec Ideal S8x16x128 .f32) (g : Fin 8) (tb : Fin 4) (u : Fin 2) (col : Fin 256) : EReal :=
  M (ix3 g ⟨4 * tb.val + 2 * u.val + col.val / 128, by omega⟩ ⟨col.val % 128, by omega⟩)

/-- The token of a unit's column. -/
abbrev tokOf (u : Fin 2) (col : Fin 256) : Fin 64 := ⟨32 * u.val + col.val / 8, by omega⟩

/-- The head of a unit's column. -/
abbrev hdOf (col : Fin 256) : Fin 8 := ⟨col.val % 8, by omega⟩

/-- A trip's stores are the new outputs, maxima and sums of its queries. -/
structure IsOut (R : Rd) (al : Fin 2 → Fin 256 → Fin 64 → Bool) (M Ls : Vec Ideal S8x16x128 .f32) (g : Fin 8) (tb : Fin 4) (O : Out Ideal) : Prop where
  m : ∀ (u : Fin 2) (col : Fin 256), O.m u (ix2 0 col) = R.mN al (rowOf M g tb u col) (tokOf u col) g (hdOf col)
  l : ∀ (u : Fin 2) (col : Fin 256), O.l u (ix2 0 col) = R.lN al (rowOf Ls g tb u col) (rowOf M g tb u col) (tokOf u col) g (hdOf col)
  o : ∀ (u : Fin 2) (t : Fin 32) (n : Fin 8) (d : Fin 128), O.o u (ix6 0 0 0 t n d)
    = R.oN al (rowOf M g tb u ⟨8 * t.val + n.val, by omega⟩) ⟨32 * u.val + t.val, by omega⟩ g n d

section

variable {R : Rd} {al : Fin 2 → Fin 256 → Fin 64 → Bool} {M Ls : Vec Ideal S8x16x128 .f32} {g : Fin 8} {tb : Fin 4} {nc : ℕ} {L : Lds Ideal}

theorem LdsAt.s_eq (h : LdsAt R M Ls g tb nc L) (u x : Fin 2) (hx : x.val < nc) (key col : Fin 256) :
    L.s u x (ix2 key col) = R.sc x key (tokOf u col) g (hdOf col) := by
  unfold Lds.s Rd.sc
  rw [scr_apply, h.c x _ hx]
  simp only [h.k x _ _ hx, h.q]
  have e1 : (tokOf u col).val % 16 * 8 + (hdOf col).val = col.val % 128 := by
    show (32 * u.val + col.val / 8) % 16 * 8 + col.val % 8 = _
    omega
  simp only [e1]

theorem two_row {M : Vec Ideal S8x16x128 .f32} {a b : Vec Ideal S1x1x128 .f32} (u : Fin 2)
    (ha : ∀ j : Fin 128, a (ix3 0 0 j) = M (ix3 g ⟨4 * tb.val + 2 * u.val + (0 : Fin 2).val, by omega⟩ j))
    (hb : ∀ j : Fin 128, b (ix3 0 0 j) = M (ix3 g ⟨4 * tb.val + 2 * u.val + (1 : Fin 2).val, by omega⟩ j)) (col : Fin 256) :
    two a b (ix2 0 col) = rowOf M g tb u col := by
  rw [two_apply]
  split
  · rename_i h
    rw [ha]
    have e1 : col.val / 128 = 0 := by omega
    simp only [rowOf, e1, Nat.mod_eq_of_lt h]
    rfl
  · rename_i h
    rw [hb]
    have e1 : col.val / 128 = 1 := by omega
    have e2 : col.val % 128 = col.val - 128 := by omega
    simp only [rowOf, e1, e2]
    rfl

theorem LdsAt.mi_eq (h : LdsAt R M Ls g tb nc L) (u : Fin 2) (col : Fin 256) : L.mi u (ix2 0 col) = rowOf M g tb u col :=
  two_row u (fun j => h.m u 0 j) (fun j => h.m u 1 j) col

theorem LdsAt.li_eq (h : LdsAt R M Ls g tb nc L) (u : Fin 2) (col : Fin 256) : L.li u (ix2 0 col) = rowOf Ls g tb u col :=
  two_row u (fun j => h.l u 0 j) (fun j => h.l u 1 j) col

/-- The stores of a trip over one chunk with scores `S`. -/
def out1 (L : Lds Ideal) (S : Fin 2 → FVec Ideal S256x256 .f32) : Out Ideal :=
  ⟨fun u => L.o1 u (S u), fun u => L.m1 u (S u), fun u => L.l1 u (S u)⟩

/-- The stores of a trip over two chunks with scores `S`, `T`. -/
def out2 (L : Lds Ideal) (S T : Fin 2 → FVec Ideal S256x256 .f32) : Out Ideal :=
  ⟨fun u => L.o2 u (S u) (T u), fun u => L.m2 u (S u) (T u), fun u => L.l2 u (S u) (T u)⟩

theorem isOut2 (h : LdsAt R M Ls g tb 2 L) (S T : Fin 2 → FVec Ideal S256x256 .f32)
    (hS : ∀ u key col, S u (ix2 key col) = R.s al (tokOf u col) g (hdOf col) 0 key)
    (hT : ∀ u key col, T u (ix2 key col) = R.s al (tokOf u col) g (hdOf col) 1 key) :
    IsOut R al M Ls g tb (out2 L S T) := by
  have hm : ∀ (u : Fin 2) (col : Fin 256), L.m2 u (S u) (T u) (ix2 0 col) = R.mN al (rowOf M g tb u col) (tokOf u col) g (hdOf col) := by
    intro u col
    unfold Lds.m2 Rd.mN kM
    rw [mNew_apply, h.mi_eq]
    pointwise
    rw [cmx_apply, cmx_apply]
    simp only [hS, hT]
  have ha : ∀ (u : Fin 2) (col : Fin 256), alp (L.mi u) (L.m2 u (S u) (T u)) (ix2 0 col)
      = kA (rowOf M g tb u col) (kM (rowOf M g tb u col) (R.s al (tokOf u col) g (hdOf col))) := by
    intro u col
    rw [alp_apply, h.mi_eq, hm]
    rfl
  refine ⟨hm, fun u col => ?_, fun u t n d => ?_⟩
  · show L.l2 u (S u) (T u) (ix2 0 col) = _
    unfold Lds.l2 Rd.lN kL
    rw [lNew_apply, ha, h.li_eq]
    pointwise
    rw [csm_apply, csm_apply]
    simp only [prb_apply, hm, hS, hT]
    rfl
  · show L.o2 u (S u) (T u) (ix6 0 0 0 t n d) = _
    unfold Lds.o2 Rd.oN kO
    have e1 : (⟨8 * t.val + n.val, by omega⟩ : Fin 256) = ⟨t.val * 8 + n.val, by omega⟩ := Fin.ext (by dsimp only; omega)
    have e2 : tokOf u ⟨t.val * 8 + n.val, by omega⟩ = ⟨32 * u.val + t.val, by omega⟩ := Fin.ext (by dsimp only [tokOf]; omega)
    have e3 : hdOf ⟨t.val * 8 + n.val, by omega⟩ = n := Fin.ext (by dsimp only [hdOf]; omega)
    rw [oNew_apply, ha, h.o, e1, e2, e3]
    pointwise
    rw [pvt_apply, pvt_apply]
    simp only [prb_apply, hm, hS, hT, e2, e3, h.vs _ _ (Fin.isLt _), h.vt _ _ _ (Fin.isLt _)]
    rfl

/-- A score of `-∞` has no weight. -/
theorem kP_bot (M : EReal) : kP ⊥ M = 0 := by
  unfold kP
  rw [EReal.bot_sub]
  rfl

theorem kP_none (M : EReal) : ∑ key : Fin 256, kP ⊥ M = 0 := by
  simp only [kP_bot, Finset.sum_const_zero]

theorem isOut1 (h : LdsAt R M Ls g tb 1 L) (S : Fin 2 → FVec Ideal S256x256 .f32)
    (hS : ∀ u key col, S u (ix2 key col) = R.s al (tokOf u col) g (hdOf col) 0 key)
    (hT : ∀ key t, al 1 key t = false) :
    IsOut R al M Ls g tb (out1 L S) := by
  have h1 : ∀ t g n key, R.s al t g n 1 key = ⊥ := fun t g n key => by
    unfold Rd.s
    rw [hT]
    rfl
  have h1' : ∀ t g n, R.s al t g n 1 = fun _ => ⊥ := fun t g n => funext (h1 t g n)
  have hm : ∀ (u : Fin 2) (col : Fin 256), L.m1 u (S u) (ix2 0 col) = R.mN al (rowOf M g tb u col) (tokOf u col) g (hdOf col) := by
    intro u col
    unfold Lds.m1 Rd.mN kM
    rw [mNew_apply, h.mi_eq, cmx_apply, h1', Finset.sup_bot, sup_bot_eq]
    simp only [hS]
  have ha : ∀ (u : Fin 2) (col : Fin 256), alp (L.mi u) (L.m1 u (S u)) (ix2 0 col)
      = kA (rowOf M g tb u col) (kM (rowOf M g tb u col) (R.s al (tokOf u col) g (hdOf col))) := by
    intro u col
    rw [alp_apply, h.mi_eq, hm]
    rfl
  refine ⟨hm, fun u col => ?_, fun u t n d => ?_⟩
  · show L.l1 u (S u) (ix2 0 col) = _
    unfold Lds.l1 Rd.lN kL
    rw [lNew_apply, ha, h.li_eq, csm_apply]
    simp only [prb_apply, hm, hS, h1, kP_none, add_zero]
    rfl
  · show L.o1 u (S u) (ix6 0 0 0 t n d) = _
    unfold Lds.o1 Rd.oN kO
    have e1 : (⟨8 * t.val + n.val, by omega⟩ : Fin 256) = ⟨t.val * 8 + n.val, by omega⟩ := Fin.ext (by dsimp only; omega)
    have e2 : tokOf u ⟨t.val * 8 + n.val, by omega⟩ = ⟨32 * u.val + t.val, by omega⟩ := Fin.ext (by dsimp only [tokOf]; omega)
    have e3 : hdOf ⟨t.val * 8 + n.val, by omega⟩ = n := Fin.ext (by dsimp only [hdOf]; omega)
    rw [oNew_apply, ha, h.o, e1, e2, e3, pvt_apply]
    simp only [prb_apply, hm, hS, e2, e3, h1, kP_bot, mul_zero, Finset.sum_const_zero, add_zero, h.vs 0 _ (Nat.zero_lt_one), h.vt 0 _ _ (Nat.zero_lt_one)]
    rfl

end

end Cert.KernelIdeal.Pf
-- ==== Proof.KernelIdeal.Trips.lean ====
/- Each loop trip's stores, as functions of the vectors the trip loads. -/
module

public import proofs.«01_k».proof.Proof.KernelIdeal.Unit

@[expose] public section

set_option maxRecDepth 65536

noncomputable section

namespace Cert.KernelIdeal.Pf

open Cert.KernelIdeal Cert.KernelIdeal.Gen
open Idealize.ShloMosaic Idealize.ShloMosaic.TcCoe
open Idealize.SL Idealize.SL.RA

variable {F : FTy → Type} [FloatOps F] [Named F]

variable (𝒱 : Variants) (c : Dev nD) (bd : Option 𝒱.V) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)
  (arg3 : BitVec 32)
  (X6 : Buf (Elt F) (arg6.view.loc (c : Thread nD τ)))  (X7 : Buf (Elt F) (arg7.view.loc (c : Thread nD τ)))  (X8 : Buf (Elt F) (arg8.view.loc (c : Thread nD τ)))  (X9 : Buf (Elt F) (arg9.view.loc (c : Thread nD τ)))  (X10 : Buf (Elt F) (arg10.view.loc (c : Thread nD τ)))  (X18 : Buf (Elt F) (arg18.view.loc (c : Thread nD τ)))
  (f13 : Buf (Elt F) (arg13.view.loc (c : Thread nD τ)))  (f16 : Buf (Elt F) (arg16.view.loc (c : Thread nD τ)))  (f17 : Buf (Elt F) (arg17.view.loc (c : Thread nD τ)))

/-- A load of a box of a memref. -/
abbrev ldAt {sp : Space} {S : Shape} {e : EltTy} (M : Memref sig .tc sp S e) (off size : Fin S.rank → ℕ) (inb : ∀ a, off a + size a ≤ S.size a)
    (X : Buf (Elt F) (M.view.loc (c : Thread nD τ))) : Vec F ⟨S.rank, size⟩ e :=
  View.readAt (Elt F) M.view (Rect.unit off size inb).toLoadRect X

/-- The number, from 0 to 63, of the load of tile `v` of unit `u` at interleaved token `p`. -/
def ldNo (u : Fin 2) (v : Fin 8) (p : Fin 4) : Fin 64 := ⟨32 * u.val + 4 * v.val + p.val, by omega⟩

/-- The queries of trip `k` of loop 1, gathered from their 64 loads. -/
def qs1 (k : Fin k0_t1_loop.trips) (u : Fin 2) : FVec F S256x128 .fp8e4m3 :=
  qUnit fun v p => ldAt c arg18 (k0_off2 k (k0_off2_at (ldNo u v p)).1 (k0_off2_at (ldNo u v p)).2) S32x128.size (k0_off2_inb k (ldNo u v p)) X18

theorem qs1_0 (k : Fin k0_t1_loop.trips) : trip_k0_t1.sl.v318 arg18 X18 k = qs1 c arg18 X18 k 0 := rfl

theorem qs1_1 (k : Fin k0_t1_loop.trips) : trip_k0_t1.sl.v714 arg18 X18 k = qs1 c arg18 X18 k 1 := rfl

/-- What trip `k` of loop 1 loads. -/
def lds1 (k : Fin k0_t1_loop.trips) : Lds F where
  q := fun u => match u with | 0 => trip_k0_t1.sl.v318 arg18 X18 k | 1 => trip_k0_t1.sl.v714 arg18 X18 k
  k := fun x => match x with | 0 => ldAt c arg6 (k0_off5 k) S1x1x1x256x128.size (k0_off5_inb k) X6 | 1 => ldAt c arg6 (k0_off5 k) S1x1x1x256x128.size (k0_off5_inb k) X6
  c := fun x => ldAt c arg8 (k0_off6 k) S1x1x1x1x128.size (k0_off6_inb k) X8
  vs := fun x => ldAt c arg9 (k0_off7 k) S1x1x1x128.size (k0_off7_inb k) X9
  vt := fun x => match x with | 0 => ldAt c arg7 (k0_off8 k) S1x1x1x128x256.size (k0_off8_inb k) X7 | 1 => ldAt c arg7 (k0_off8 k) S1x1x1x128x256.size (k0_off8_inb k) X7
  o := fun u => match u with | 0 => ldAt c arg10 (k0_off9 k) S1x1x1x32x8x128.size (k0_off9_inb k) X10 | 1 => ldAt c arg10 (k0_off10 k) S1x1x1x32x8x128.size (k0_off10_inb k) X10
  m := fun u y => match y with | 0 => ldAt c arg16 (k0_off3 i k (BitVec.ofNat 32 (32 * u.val))) S1x1x128.size (k0_off3_inb i k u) f16 | 1 => ldAt c arg16 (k0_off4 i k (BitVec.ofNat 32 (32 * u.val))) S1x1x128.size (k0_off4_inb i k u) f16
  l := fun u y => match y with | 0 => ldAt c arg17 (k0_off3 i k (BitVec.ofNat 32 (32 * u.val))) S1x1x128.size (k0_off3_inb i k u) f17 | 1 => ldAt c arg17 (k0_off4 i k (BitVec.ofNat 32 (32 * u.val))) S1x1x128.size (k0_off4_inb i k u) f17

theorem trip1_o (k : Fin k0_t1_loop.trips) : (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).1 f13 f16 f17 =
    [⟨Rect.unit (k0_off10 k) S1x1x1x32x8x128.size (k0_off10_inb k), (lds1 c i arg6 arg7 arg8 arg9 arg10 arg16 arg17 arg18 X6 X7 X8 X9 X10 X18 f16 f17 k).o1 1 ((lds1 c i arg6 arg7 arg8 arg9 arg10 arg16 arg17 arg18 X6 X7 X8 X9 X10 X18 f16 f17 k).s 1 0)⟩,
     ⟨Rect.unit (k0_off9 k) S1x1x1x32x8x128.size (k0_off9_inb k), (lds1 c i arg6 arg7 arg8 arg9 arg10 arg16 arg17 arg18 X6 X7 X8 X9 X10 X18 f16 f17 k).o1 0 ((lds1 c i arg6 arg7 arg8 arg9 arg10 arg16 arg17 arg18 X6 X7 X8 X9 X10 X18 f16 f17 k).s 0 0)⟩] := by
  unfold trip_k0_t1; rfl

theorem trip1_m (k : Fin k0_t1_loop.trips) : (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.1 f13 f16 f17 =
    [⟨Rect.unit (k0_off4 i k (BitVec.ofNat 32 (32 * 1))) S1x1x128.size (k0_off4_inb i k 1), hiRow ((lds1 c i arg6 arg7 arg8 arg9 arg10 arg16 arg17 arg18 X6 X7 X8 X9 X10 X18 f16 f17 k).m1 1 ((lds1 c i arg6 arg7 arg8 arg9 arg10 arg16 arg17 arg18 X6 X7 X8 X9 X10 X18 f16 f17 k).s 1 0))⟩,
     ⟨Rect.unit (k0_off3 i k (BitVec.ofNat 32 (32 * 1))) S1x1x128.size (k0_off3_inb i k 1), loRow ((lds1 c i arg6 arg7 arg8 arg9 arg10 arg16 arg17 arg18 X6 X7 X8 X9 X10 X18 f16 f17 k).m1 1 ((lds1 c i arg6 arg7 arg8 arg9 arg10 arg16 arg17 arg18 X6 X7 X8 X9 X10 X18 f16 f17 k).s 1 0))⟩,
     ⟨Rect.unit (k0_off4 i k (BitVec.ofNat 32 (32 * 0))) S1x1x128.size (k0_off4_inb i k 0), hiRow ((lds1 c i arg6 arg7 arg8 arg9 arg10 arg16 arg17 arg18 X6 X7 X8 X9 X10 X18 f16 f17 k).m1 0 ((lds1 c i arg6 arg7 arg8 arg9 arg10 arg16 arg17 arg18 X6 X7 X8 X9 X10 X18 f16 f17 k).s 0 0))⟩,
     ⟨Rect.unit (k0_off3 i k (BitVec.ofNat 32 (32 * 0))) S1x1x128.size (k0_off3_inb i k 0), loRow ((lds1 c i arg6 arg7 arg8 arg9 arg10 arg16 arg17 arg18 X6 X7 X8 X9 X10 X18 f16 f17 k).m1 0 ((lds1 c i arg6 arg7 arg8 arg9 arg10 arg16 arg17 arg18 X6 X7 X8 X9 X10 X18 f16 f17 k).s 0 0))⟩] := by
  unfold trip_k0_t1; rfl

theorem trip1_l (k : Fin k0_t1_loop.trips) : (trip_k0_t1 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.2.1 f13 f16 f17 =
    [⟨Rect.unit (k0_off4 i k (BitVec.ofNat 32 (32 * 1))) S1x1x128.size (k0_off4_inb i k 1), hiRow ((lds1 c i arg6 arg7 arg8 arg9 arg10 arg16 arg17 arg18 X6 X7 X8 X9 X10 X18 f16 f17 k).l1 1 ((lds1 c i arg6 arg7 arg8 arg9 arg10 arg16 arg17 arg18 X6 X7 X8 X9 X10 X18 f16 f17 k).s 1 0))⟩,
     ⟨Rect.unit (k0_off3 i k (BitVec.ofNat 32 (32 * 1))) S1x1x128.size (k0_off3_inb i k 1), loRow ((lds1 c i arg6 arg7 arg8 arg9 arg10 arg16 arg17 arg18 X6 X7 X8 X9 X10 X18 f16 f17 k).l1 1 ((lds1 c i arg6 arg7 arg8 arg9 arg10 arg16 arg17 arg18 X6 X7 X8 X9 X10 X18 f16 f17 k).s 1 0))⟩,
     ⟨Rect.unit (k0_off4 i k (BitVec.ofNat 32 (32 * 0))) S1x1x128.size (k0_off4_inb i k 0), hiRow ((lds1 c i arg6 arg7 arg8 arg9 arg10 arg16 arg17 arg18 X6 X7 X8 X9 X10 X18 f16 f17 k).l1 0 ((lds1 c i arg6 arg7 arg8 arg9 arg10 arg16 arg17 arg18 X6 X7 X8 X9 X10 X18 f16 f17 k).s 0 0))⟩,
     ⟨Rect.unit (k0_off3 i k (BitVec.ofNat 32 (32 * 0))) S1x1x128.size (k0_off3_inb i k 0), loRow ((lds1 c i arg6 arg7 arg8 arg9 arg10 arg16 arg17 arg18 X6 X7 X8 X9 X10 X18 f16 f17 k).l1 0 ((lds1 c i arg6 arg7 arg8 arg9 arg10 arg16 arg17 arg18 X6 X7 X8 X9 X10 X18 f16 f17 k).s 0 0))⟩] := by
  unfold trip_k0_t1; rfl

/-- The queries of trip `k` of loop 2, gathered from their 64 loads. -/
def qs2 (k : Fin k0_t2_loop.trips) (u : Fin 2) : FVec F S256x128 .fp8e4m3 :=
  qUnit fun v p => ldAt c arg18 (k0_off11 k (k0_off11_at (ldNo u v p)).1 (k0_off11_at (ldNo u v p)).2) S32x128.size (k0_off11_inb k (ldNo u v p)) X18

theorem qs2_0 (k : Fin k0_t2_loop.trips) : trip_k0_t2.sl.v318 arg18 X18 k = qs2 c arg18 X18 k 0 := rfl

theorem qs2_1 (k : Fin k0_t2_loop.trips) : trip_k0_t2.sl.v723 arg18 X18 k = qs2 c arg18 X18 k 1 := rfl

/-- What trip `k` of loop 2 loads. -/
def lds2 (k : Fin k0_t2_loop.trips) : Lds F where
  q := fun u => match u with | 0 => trip_k0_t2.sl.v318 arg18 X18 k | 1 => trip_k0_t2.sl.v723 arg18 X18 k
  k := fun x => match x with | 0 => ldAt c arg6 (k0_off14 k) S1x1x1x256x128.size (k0_off14_inb k) X6 | 1 => ldAt c arg6 (k0_off14 k) S1x1x1x256x128.size (k0_off14_inb k) X6
  c := fun x => ldAt c arg8 (k0_off15 k) S1x1x1x1x128.size (k0_off15_inb k) X8
  vs := fun x => ldAt c arg9 (k0_off16 k) S1x1x1x128.size (k0_off16_inb k) X9
  vt := fun x => match x with | 0 => ldAt c arg7 (k0_off17 k) S1x1x1x128x256.size (k0_off17_inb k) X7 | 1 => ldAt c arg7 (k0_off17 k) S1x1x1x128x256.size (k0_off17_inb k) X7
  o := fun u => match u with | 0 => ldAt c arg10 (k0_off18 k) S1x1x1x32x8x128.size (k0_off18_inb k) X10 | 1 => ldAt c arg10 (k0_off19 k) S1x1x1x32x8x128.size (k0_off19_inb k) X10
  m := fun u y => match y with | 0 => ldAt c arg16 (k0_off12 i k (BitVec.ofNat 32 (32 * u.val))) S1x1x128.size (k0_off12_inb i k u) f16 | 1 => ldAt c arg16 (k0_off13 i k (BitVec.ofNat 32 (32 * u.val))) S1x1x128.size (k0_off13_inb i k u) f16
  l := fun u y => match y with | 0 => ldAt c arg17 (k0_off12 i k (BitVec.ofNat 32 (32 * u.val))) S1x1x128.size (k0_off12_inb i k u) f17 | 1 => ldAt c arg17 (k0_off13 i k (BitVec.ofNat 32 (32 * u.val))) S1x1x128.size (k0_off13_inb i k u) f17

theorem trip2_o (k : Fin k0_t2_loop.trips) : (trip_k0_t2 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).1 f13 f16 f17 =
    [⟨Rect.unit (k0_off19 k) S1x1x1x32x8x128.size (k0_off19_inb k), (lds2 c i arg6 arg7 arg8 arg9 arg10 arg16 arg17 arg18 X6 X7 X8 X9 X10 X18 f16 f17 k).o1 1 (msk (Scalar.addi (Scalar.muli arg3 64#32) (BitVec.ofNat 32 (32 * 1))) ((lds2 c i arg6 arg7 arg8 arg9 arg10 arg16 arg17 arg18 X6 X7 X8 X9 X10 X18 f16 f17 k).s 1 0))⟩,
     ⟨Rect.unit (k0_off18 k) S1x1x1x32x8x128.size (k0_off18_inb k), (lds2 c i arg6 arg7 arg8 arg9 arg10 arg16 arg17 arg18 X6 X7 X8 X9 X10 X18 f16 f17 k).o1 0 (msk (Scalar.addi (Scalar.muli arg3 64#32) (BitVec.ofNat 32 (32 * 0))) ((lds2 c i arg6 arg7 arg8 arg9 arg10 arg16 arg17 arg18 X6 X7 X8 X9 X10 X18 f16 f17 k).s 0 0))⟩] := by
  unfold trip_k0_t2; rfl

theorem trip2_m (k : Fin k0_t2_loop.trips) : (trip_k0_t2 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.1 f13 f16 f17 =
    [⟨Rect.unit (k0_off13 i k (BitVec.ofNat 32 (32 * 1))) S1x1x128.size (k0_off13_inb i k 1), hiRow ((lds2 c i arg6 arg7 arg8 arg9 arg10 arg16 arg17 arg18 X6 X7 X8 X9 X10 X18 f16 f17 k).m1 1 (msk (Scalar.addi (Scalar.muli arg3 64#32) (BitVec.ofNat 32 (32 * 1))) ((lds2 c i arg6 arg7 arg8 arg9 arg10 arg16 arg17 arg18 X6 X7 X8 X9 X10 X18 f16 f17 k).s 1 0)))⟩,
     ⟨Rect.unit (k0_off12 i k (BitVec.ofNat 32 (32 * 1))) S1x1x128.size (k0_off12_inb i k 1), loRow ((lds2 c i arg6 arg7 arg8 arg9 arg10 arg16 arg17 arg18 X6 X7 X8 X9 X10 X18 f16 f17 k).m1 1 (msk (Scalar.addi (Scalar.muli arg3 64#32) (BitVec.ofNat 32 (32 * 1))) ((lds2 c i arg6 arg7 arg8 arg9 arg10 arg16 arg17 arg18 X6 X7 X8 X9 X10 X18 f16 f17 k).s 1 0)))⟩,
     ⟨Rect.unit (k0_off13 i k (BitVec.ofNat 32 (32 * 0))) S1x1x128.size (k0_off13_inb i k 0), hiRow ((lds2 c i arg6 arg7 arg8 arg9 arg10 arg16 arg17 arg18 X6 X7 X8 X9 X10 X18 f16 f17 k).m1 0 (msk (Scalar.addi (Scalar.muli arg3 64#32) (BitVec.ofNat 32 (32 * 0))) ((lds2 c i arg6 arg7 arg8 arg9 arg10 arg16 arg17 arg18 X6 X7 X8 X9 X10 X18 f16 f17 k).s 0 0)))⟩,
     ⟨Rect.unit (k0_off12 i k (BitVec.ofNat 32 (32 * 0))) S1x1x128.size (k0_off12_inb i k 0), loRow ((lds2 c i arg6 arg7 arg8 arg9 arg10 arg16 arg17 arg18 X6 X7 X8 X9 X10 X18 f16 f17 k).m1 0 (msk (Scalar.addi (Scalar.muli arg3 64#32) (BitVec.ofNat 32 (32 * 0))) ((lds2 c i arg6 arg7 arg8 arg9 arg10 arg16 arg17 arg18 X6 X7 X8 X9 X10 X18 f16 f17 k).s 0 0)))⟩] := by
  unfold trip_k0_t2; rfl

theorem trip2_l (k : Fin k0_t2_loop.trips) : (trip_k0_t2 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.2.1 f13 f16 f17 =
    [⟨Rect.unit (k0_off13 i k (BitVec.ofNat 32 (32 * 1))) S1x1x128.size (k0_off13_inb i k 1), hiRow ((lds2 c i arg6 arg7 arg8 arg9 arg10 arg16 arg17 arg18 X6 X7 X8 X9 X10 X18 f16 f17 k).l1 1 (msk (Scalar.addi (Scalar.muli arg3 64#32) (BitVec.ofNat 32 (32 * 1))) ((lds2 c i arg6 arg7 arg8 arg9 arg10 arg16 arg17 arg18 X6 X7 X8 X9 X10 X18 f16 f17 k).s 1 0)))⟩,
     ⟨Rect.unit (k0_off12 i k (BitVec.ofNat 32 (32 * 1))) S1x1x128.size (k0_off12_inb i k 1), loRow ((lds2 c i arg6 arg7 arg8 arg9 arg10 arg16 arg17 arg18 X6 X7 X8 X9 X10 X18 f16 f17 k).l1 1 (msk (Scalar.addi (Scalar.muli arg3 64#32) (BitVec.ofNat 32 (32 * 1))) ((lds2 c i arg6 arg7 arg8 arg9 arg10 arg16 arg17 arg18 X6 X7 X8 X9 X10 X18 f16 f17 k).s 1 0)))⟩,
     ⟨Rect.unit (k0_off13 i k (BitVec.ofNat 32 (32 * 0))) S1x1x128.size (k0_off13_inb i k 0), hiRow ((lds2 c i arg6 arg7 arg8 arg9 arg10 arg16 arg17 arg18 X6 X7 X8 X9 X10 X18 f16 f17 k).l1 0 (msk (Scalar.addi (Scalar.muli arg3 64#32) (BitVec.ofNat 32 (32 * 0))) ((lds2 c i arg6 arg7 arg8 arg9 arg10 arg16 arg17 arg18 X6 X7 X8 X9 X10 X18 f16 f17 k).s 0 0)))⟩,
     ⟨Rect.unit (k0_off12 i k (BitVec.ofNat 32 (32 * 0))) S1x1x128.size (k0_off12_inb i k 0), loRow ((lds2 c i arg6 arg7 arg8 arg9 arg10 arg16 arg17 arg18 X6 X7 X8 X9 X10 X18 f16 f17 k).l1 0 (msk (Scalar.addi (Scalar.muli arg3 64#32) (BitVec.ofNat 32 (32 * 0))) ((lds2 c i arg6 arg7 arg8 arg9 arg10 arg16 arg17 arg18 X6 X7 X8 X9 X10 X18 f16 f17 k).s 0 0)))⟩] := by
  unfold trip_k0_t2; rfl

/-- The queries of trip `k` of loop 3, gathered from their 64 loads. -/
def qs3 (k : Fin k0_t3_loop.trips) (u : Fin 2) : FVec F S256x128 .fp8e4m3 :=
  qUnit fun v p => ldAt c arg18 (k0_off20 k (k0_off20_at (ldNo u v p)).1 (k0_off20_at (ldNo u v p)).2) S32x128.size (k0_off20_inb k (ldNo u v p)) X18

theorem qs3_0 (k : Fin k0_t3_loop.trips) : trip_k0_t3.sl.v318 arg18 X18 k = qs3 c arg18 X18 k 0 := rfl

theorem qs3_1 (k : Fin k0_t3_loop.trips) : trip_k0_t3.sl.v762 arg18 X18 k = qs3 c arg18 X18 k 1 := rfl

/-- What trip `k` of loop 3 loads. -/
def lds3 (k : Fin k0_t3_loop.trips) : Lds F where
  q := fun u => match u with | 0 => trip_k0_t3.sl.v318 arg18 X18 k | 1 => trip_k0_t3.sl.v762 arg18 X18 k
  k := fun x => match x with | 0 => ldAt c arg6 (k0_off23 k) S1x1x1x256x128.size (k0_off23_inb k) X6 | 1 => ldAt c arg6 (k0_off25 k) S1x1x1x256x128.size (k0_off25_inb k) X6
  c := fun x => ldAt c arg8 (k0_off24 k (BitVec.ofNat 32 x.val)) S1x1x1x1x128.size (k0_off24_inb k x) X8
  vs := fun x => ldAt c arg9 (k0_off26 k (BitVec.ofNat 32 x.val)) S1x1x1x128.size (k0_off26_inb k x) X9
  vt := fun x => match x with | 0 => ldAt c arg7 (k0_off27 k) S1x1x1x128x256.size (k0_off27_inb k) X7 | 1 => ldAt c arg7 (k0_off28 k) S1x1x1x128x256.size (k0_off28_inb k) X7
  o := fun u => match u with | 0 => ldAt c arg10 (k0_off29 k) S1x1x1x32x8x128.size (k0_off29_inb k) X10 | 1 => ldAt c arg10 (k0_off30 k) S1x1x1x32x8x128.size (k0_off30_inb k) X10
  m := fun u y => match y with | 0 => ldAt c arg16 (k0_off21 i k (BitVec.ofNat 32 (32 * u.val))) S1x1x128.size (k0_off21_inb i k u) f16 | 1 => ldAt c arg16 (k0_off22 i k (BitVec.ofNat 32 (32 * u.val))) S1x1x128.size (k0_off22_inb i k u) f16
  l := fun u y => match y with | 0 => ldAt c arg17 (k0_off21 i k (BitVec.ofNat 32 (32 * u.val))) S1x1x128.size (k0_off21_inb i k u) f17 | 1 => ldAt c arg17 (k0_off22 i k (BitVec.ofNat 32 (32 * u.val))) S1x1x128.size (k0_off22_inb i k u) f17

theorem trip3_o (k : Fin k0_t3_loop.trips) : (trip_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).1 f13 f16 f17 =
    [⟨Rect.unit (k0_off30 k) S1x1x1x32x8x128.size (k0_off30_inb k), (lds3 c i arg6 arg7 arg8 arg9 arg10 arg16 arg17 arg18 X6 X7 X8 X9 X10 X18 f16 f17 k).o2 1 ((lds3 c i arg6 arg7 arg8 arg9 arg10 arg16 arg17 arg18 X6 X7 X8 X9 X10 X18 f16 f17 k).s 1 0) (msk (Scalar.addi (Scalar.muli arg3 64#32) (BitVec.ofNat 32 (32 * 1))) ((lds3 c i arg6 arg7 arg8 arg9 arg10 arg16 arg17 arg18 X6 X7 X8 X9 X10 X18 f16 f17 k).s 1 1))⟩,
     ⟨Rect.unit (k0_off29 k) S1x1x1x32x8x128.size (k0_off29_inb k), (lds3 c i arg6 arg7 arg8 arg9 arg10 arg16 arg17 arg18 X6 X7 X8 X9 X10 X18 f16 f17 k).o2 0 ((lds3 c i arg6 arg7 arg8 arg9 arg10 arg16 arg17 arg18 X6 X7 X8 X9 X10 X18 f16 f17 k).s 0 0) (msk (Scalar.addi (Scalar.muli arg3 64#32) (BitVec.ofNat 32 (32 * 0))) ((lds3 c i arg6 arg7 arg8 arg9 arg10 arg16 arg17 arg18 X6 X7 X8 X9 X10 X18 f16 f17 k).s 0 1))⟩] := by
  unfold trip_k0_t3; rfl

theorem trip3_m (k : Fin k0_t3_loop.trips) : (trip_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.1 f13 f16 f17 =
    [⟨Rect.unit (k0_off22 i k (BitVec.ofNat 32 (32 * 1))) S1x1x128.size (k0_off22_inb i k 1), hiRow ((lds3 c i arg6 arg7 arg8 arg9 arg10 arg16 arg17 arg18 X6 X7 X8 X9 X10 X18 f16 f17 k).m2 1 ((lds3 c i arg6 arg7 arg8 arg9 arg10 arg16 arg17 arg18 X6 X7 X8 X9 X10 X18 f16 f17 k).s 1 0) (msk (Scalar.addi (Scalar.muli arg3 64#32) (BitVec.ofNat 32 (32 * 1))) ((lds3 c i arg6 arg7 arg8 arg9 arg10 arg16 arg17 arg18 X6 X7 X8 X9 X10 X18 f16 f17 k).s 1 1)))⟩,
     ⟨Rect.unit (k0_off21 i k (BitVec.ofNat 32 (32 * 1))) S1x1x128.size (k0_off21_inb i k 1), loRow ((lds3 c i arg6 arg7 arg8 arg9 arg10 arg16 arg17 arg18 X6 X7 X8 X9 X10 X18 f16 f17 k).m2 1 ((lds3 c i arg6 arg7 arg8 arg9 arg10 arg16 arg17 arg18 X6 X7 X8 X9 X10 X18 f16 f17 k).s 1 0) (msk (Scalar.addi (Scalar.muli arg3 64#32) (BitVec.ofNat 32 (32 * 1))) ((lds3 c i arg6 arg7 arg8 arg9 arg10 arg16 arg17 arg18 X6 X7 X8 X9 X10 X18 f16 f17 k).s 1 1)))⟩,
     ⟨Rect.unit (k0_off22 i k (BitVec.ofNat 32 (32 * 0))) S1x1x128.size (k0_off22_inb i k 0), hiRow ((lds3 c i arg6 arg7 arg8 arg9 arg10 arg16 arg17 arg18 X6 X7 X8 X9 X10 X18 f16 f17 k).m2 0 ((lds3 c i arg6 arg7 arg8 arg9 arg10 arg16 arg17 arg18 X6 X7 X8 X9 X10 X18 f16 f17 k).s 0 0) (msk (Scalar.addi (Scalar.muli arg3 64#32) (BitVec.ofNat 32 (32 * 0))) ((lds3 c i arg6 arg7 arg8 arg9 arg10 arg16 arg17 arg18 X6 X7 X8 X9 X10 X18 f16 f17 k).s 0 1)))⟩,
     ⟨Rect.unit (k0_off21 i k (BitVec.ofNat 32 (32 * 0))) S1x1x128.size (k0_off21_inb i k 0), loRow ((lds3 c i arg6 arg7 arg8 arg9 arg10 arg16 arg17 arg18 X6 X7 X8 X9 X10 X18 f16 f17 k).m2 0 ((lds3 c i arg6 arg7 arg8 arg9 arg10 arg16 arg17 arg18 X6 X7 X8 X9 X10 X18 f16 f17 k).s 0 0) (msk (Scalar.addi (Scalar.muli arg3 64#32) (BitVec.ofNat 32 (32 * 0))) ((lds3 c i arg6 arg7 arg8 arg9 arg10 arg16 arg17 arg18 X6 X7 X8 X9 X10 X18 f16 f17 k).s 0 1)))⟩] := by
  unfold trip_k0_t3; rfl

theorem trip3_l (k : Fin k0_t3_loop.trips) : (trip_k0_t3 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.2.1 f13 f16 f17 =
    [⟨Rect.unit (k0_off22 i k (BitVec.ofNat 32 (32 * 1))) S1x1x128.size (k0_off22_inb i k 1), hiRow ((lds3 c i arg6 arg7 arg8 arg9 arg10 arg16 arg17 arg18 X6 X7 X8 X9 X10 X18 f16 f17 k).l2 1 ((lds3 c i arg6 arg7 arg8 arg9 arg10 arg16 arg17 arg18 X6 X7 X8 X9 X10 X18 f16 f17 k).s 1 0) (msk (Scalar.addi (Scalar.muli arg3 64#32) (BitVec.ofNat 32 (32 * 1))) ((lds3 c i arg6 arg7 arg8 arg9 arg10 arg16 arg17 arg18 X6 X7 X8 X9 X10 X18 f16 f17 k).s 1 1)))⟩,
     ⟨Rect.unit (k0_off21 i k (BitVec.ofNat 32 (32 * 1))) S1x1x128.size (k0_off21_inb i k 1), loRow ((lds3 c i arg6 arg7 arg8 arg9 arg10 arg16 arg17 arg18 X6 X7 X8 X9 X10 X18 f16 f17 k).l2 1 ((lds3 c i arg6 arg7 arg8 arg9 arg10 arg16 arg17 arg18 X6 X7 X8 X9 X10 X18 f16 f17 k).s 1 0) (msk (Scalar.addi (Scalar.muli arg3 64#32) (BitVec.ofNat 32 (32 * 1))) ((lds3 c i arg6 arg7 arg8 arg9 arg10 arg16 arg17 arg18 X6 X7 X8 X9 X10 X18 f16 f17 k).s 1 1)))⟩,
     ⟨Rect.unit (k0_off22 i k (BitVec.ofNat 32 (32 * 0))) S1x1x128.size (k0_off22_inb i k 0), hiRow ((lds3 c i arg6 arg7 arg8 arg9 arg10 arg16 arg17 arg18 X6 X7 X8 X9 X10 X18 f16 f17 k).l2 0 ((lds3 c i arg6 arg7 arg8 arg9 arg10 arg16 arg17 arg18 X6 X7 X8 X9 X10 X18 f16 f17 k).s 0 0) (msk (Scalar.addi (Scalar.muli arg3 64#32) (BitVec.ofNat 32 (32 * 0))) ((lds3 c i arg6 arg7 arg8 arg9 arg10 arg16 arg17 arg18 X6 X7 X8 X9 X10 X18 f16 f17 k).s 0 1)))⟩,
     ⟨Rect.unit (k0_off21 i k (BitVec.ofNat 32 (32 * 0))) S1x1x128.size (k0_off21_inb i k 0), loRow ((lds3 c i arg6 arg7 arg8 arg9 arg10 arg16 arg17 arg18 X6 X7 X8 X9 X10 X18 f16 f17 k).l2 0 ((lds3 c i arg6 arg7 arg8 arg9 arg10 arg16 arg17 arg18 X6 X7 X8 X9 X10 X18 f16 f17 k).s 0 0) (msk (Scalar.addi (Scalar.muli arg3 64#32) (BitVec.ofNat 32 (32 * 0))) ((lds3 c i arg6 arg7 arg8 arg9 arg10 arg16 arg17 arg18 X6 X7 X8 X9 X10 X18 f16 f17 k).s 0 1)))⟩] := by
  unfold trip_k0_t3; rfl

/-- The queries of trip `k` of loop 4, gathered from their 64 loads. -/
def qs4 (k : Fin k0_t4_loop.trips) (u : Fin 2) : FVec F S256x128 .fp8e4m3 :=
  qUnit fun v p => ldAt c arg18 (k0_off31 k (k0_off31_at (ldNo u v p)).1 (k0_off31_at (ldNo u v p)).2) S32x128.size (k0_off31_inb k (ldNo u v p)) X18

theorem qs4_0 (k : Fin k0_t4_loop.trips) : trip_k0_t4.sl.v318 arg18 X18 k = qs4 c arg18 X18 k 0 := rfl

theorem qs4_1 (k : Fin k0_t4_loop.trips) : trip_k0_t4.sl.v753 arg18 X18 k = qs4 c arg18 X18 k 1 := rfl

/-- What trip `k` of loop 4 loads. -/
def lds4 (k : Fin k0_t4_loop.trips) : Lds F where
  q := fun u => match u with | 0 => trip_k0_t4.sl.v318 arg18 X18 k | 1 => trip_k0_t4.sl.v753 arg18 X18 k
  k := fun x => match x with | 0 => ldAt c arg6 (k0_off34 k) S1x1x1x256x128.size (k0_off34_inb k) X6 | 1 => ldAt c arg6 (k0_off36 k) S1x1x1x256x128.size (k0_off36_inb k) X6
  c := fun x => ldAt c arg8 (k0_off35 k (BitVec.ofNat 32 x.val)) S1x1x1x1x128.size (k0_off35_inb k x) X8
  vs := fun x => ldAt c arg9 (k0_off37 k (BitVec.ofNat 32 x.val)) S1x1x1x128.size (k0_off37_inb k x) X9
  vt := fun x => match x with | 0 => ldAt c arg7 (k0_off38 k) S1x1x1x128x256.size (k0_off38_inb k) X7 | 1 => ldAt c arg7 (k0_off39 k) S1x1x1x128x256.size (k0_off39_inb k) X7
  o := fun u => match u with | 0 => ldAt c arg10 (k0_off40 k) S1x1x1x32x8x128.size (k0_off40_inb k) X10 | 1 => ldAt c arg10 (k0_off41 k) S1x1x1x32x8x128.size (k0_off41_inb k) X10
  m := fun u y => match y with | 0 => ldAt c arg16 (k0_off32 i k (BitVec.ofNat 32 (32 * u.val))) S1x1x128.size (k0_off32_inb i k u) f16 | 1 => ldAt c arg16 (k0_off33 i k (BitVec.ofNat 32 (32 * u.val))) S1x1x128.size (k0_off33_inb i k u) f16
  l := fun u y => match y with | 0 => ldAt c arg17 (k0_off32 i k (BitVec.ofNat 32 (32 * u.val))) S1x1x128.size (k0_off32_inb i k u) f17 | 1 => ldAt c arg17 (k0_off33 i k (BitVec.ofNat 32 (32 * u.val))) S1x1x128.size (k0_off33_inb i k u) f17

theorem trip4_o (k : Fin k0_t4_loop.trips) : (trip_k0_t4 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).1 f13 f16 f17 =
    [⟨Rect.unit (k0_off41 k) S1x1x1x32x8x128.size (k0_off41_inb k), (lds4 c i arg6 arg7 arg8 arg9 arg10 arg16 arg17 arg18 X6 X7 X8 X9 X10 X18 f16 f17 k).o2 1 ((lds4 c i arg6 arg7 arg8 arg9 arg10 arg16 arg17 arg18 X6 X7 X8 X9 X10 X18 f16 f17 k).s 1 0) ((lds4 c i arg6 arg7 arg8 arg9 arg10 arg16 arg17 arg18 X6 X7 X8 X9 X10 X18 f16 f17 k).s 1 1)⟩,
     ⟨Rect.unit (k0_off40 k) S1x1x1x32x8x128.size (k0_off40_inb k), (lds4 c i arg6 arg7 arg8 arg9 arg10 arg16 arg17 arg18 X6 X7 X8 X9 X10 X18 f16 f17 k).o2 0 ((lds4 c i arg6 arg7 arg8 arg9 arg10 arg16 arg17 arg18 X6 X7 X8 X9 X10 X18 f16 f17 k).s 0 0) ((lds4 c i arg6 arg7 arg8 arg9 arg10 arg16 arg17 arg18 X6 X7 X8 X9 X10 X18 f16 f17 k).s 0 1)⟩] := by
  unfold trip_k0_t4; rfl

theorem trip4_m (k : Fin k0_t4_loop.trips) : (trip_k0_t4 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.1 f13 f16 f17 =
    [⟨Rect.unit (k0_off33 i k (BitVec.ofNat 32 (32 * 1))) S1x1x128.size (k0_off33_inb i k 1), hiRow ((lds4 c i arg6 arg7 arg8 arg9 arg10 arg16 arg17 arg18 X6 X7 X8 X9 X10 X18 f16 f17 k).m2 1 ((lds4 c i arg6 arg7 arg8 arg9 arg10 arg16 arg17 arg18 X6 X7 X8 X9 X10 X18 f16 f17 k).s 1 0) ((lds4 c i arg6 arg7 arg8 arg9 arg10 arg16 arg17 arg18 X6 X7 X8 X9 X10 X18 f16 f17 k).s 1 1))⟩,
     ⟨Rect.unit (k0_off32 i k (BitVec.ofNat 32 (32 * 1))) S1x1x128.size (k0_off32_inb i k 1), loRow ((lds4 c i arg6 arg7 arg8 arg9 arg10 arg16 arg17 arg18 X6 X7 X8 X9 X10 X18 f16 f17 k).m2 1 ((lds4 c i arg6 arg7 arg8 arg9 arg10 arg16 arg17 arg18 X6 X7 X8 X9 X10 X18 f16 f17 k).s 1 0) ((lds4 c i arg6 arg7 arg8 arg9 arg10 arg16 arg17 arg18 X6 X7 X8 X9 X10 X18 f16 f17 k).s 1 1))⟩,
     ⟨Rect.unit (k0_off33 i k (BitVec.ofNat 32 (32 * 0))) S1x1x128.size (k0_off33_inb i k 0), hiRow ((lds4 c i arg6 arg7 arg8 arg9 arg10 arg16 arg17 arg18 X6 X7 X8 X9 X10 X18 f16 f17 k).m2 0 ((lds4 c i arg6 arg7 arg8 arg9 arg10 arg16 arg17 arg18 X6 X7 X8 X9 X10 X18 f16 f17 k).s 0 0) ((lds4 c i arg6 arg7 arg8 arg9 arg10 arg16 arg17 arg18 X6 X7 X8 X9 X10 X18 f16 f17 k).s 0 1))⟩,
     ⟨Rect.unit (k0_off32 i k (BitVec.ofNat 32 (32 * 0))) S1x1x128.size (k0_off32_inb i k 0), loRow ((lds4 c i arg6 arg7 arg8 arg9 arg10 arg16 arg17 arg18 X6 X7 X8 X9 X10 X18 f16 f17 k).m2 0 ((lds4 c i arg6 arg7 arg8 arg9 arg10 arg16 arg17 arg18 X6 X7 X8 X9 X10 X18 f16 f17 k).s 0 0) ((lds4 c i arg6 arg7 arg8 arg9 arg10 arg16 arg17 arg18 X6 X7 X8 X9 X10 X18 f16 f17 k).s 0 1))⟩] := by
  unfold trip_k0_t4; rfl

theorem trip4_l (k : Fin k0_t4_loop.trips) : (trip_k0_t4 (F := F) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 arg3 X6 X7 X8 X9 X10 X18 k).2.2.1 f13 f16 f17 =
    [⟨Rect.unit (k0_off33 i k (BitVec.ofNat 32 (32 * 1))) S1x1x128.size (k0_off33_inb i k 1), hiRow ((lds4 c i arg6 arg7 arg8 arg9 arg10 arg16 arg17 arg18 X6 X7 X8 X9 X10 X18 f16 f17 k).l2 1 ((lds4 c i arg6 arg7 arg8 arg9 arg10 arg16 arg17 arg18 X6 X7 X8 X9 X10 X18 f16 f17 k).s 1 0) ((lds4 c i arg6 arg7 arg8 arg9 arg10 arg16 arg17 arg18 X6 X7 X8 X9 X10 X18 f16 f17 k).s 1 1))⟩,
     ⟨Rect.unit (k0_off32 i k (BitVec.ofNat 32 (32 * 1))) S1x1x128.size (k0_off32_inb i k 1), loRow ((lds4 c i arg6 arg7 arg8 arg9 arg10 arg16 arg17 arg18 X6 X7 X8 X9 X10 X18 f16 f17 k).l2 1 ((lds4 c i arg6 arg7 arg8 arg9 arg10 arg16 arg17 arg18 X6 X7 X8 X9 X10 X18 f16 f17 k).s 1 0) ((lds4 c i arg6 arg7 arg8 arg9 arg10 arg16 arg17 arg18 X6 X7 X8 X9 X10 X18 f16 f17 k).s 1 1))⟩,
     ⟨Rect.unit (k0_off33 i k (BitVec.ofNat 32 (32 * 0))) S1x1x128.size (k0_off33_inb i k 0), hiRow ((lds4 c i arg6 arg7 arg8 arg9 arg10 arg16 arg17 arg18 X6 X7 X8 X9 X10 X18 f16 f17 k).l2 0 ((lds4 c i arg6 arg7 arg8 arg9 arg10 arg16 arg17 arg18 X6 X7 X8 X9 X10 X18 f16 f17 k).s 0 0) ((lds4 c i arg6 arg7 arg8 arg9 arg10 arg16 arg17 arg18 X6 X7 X8 X9 X10 X18 f16 f17 k).s 0 1))⟩,
     ⟨Rect.unit (k0_off32 i k (BitVec.ofNat 32 (32 * 0))) S1x1x128.size (k0_off32_inb i k 0), loRow ((lds4 c i arg6 arg7 arg8 arg9 arg10 arg16 arg17 arg18 X6 X7 X8 X9 X10 X18 f16 f17 k).l2 0 ((lds4 c i arg6 arg7 arg8 arg9 arg10 arg16 arg17 arg18 X6 X7 X8 X9 X10 X18 f16 f17 k).s 0 0) ((lds4 c i arg6 arg7 arg8 arg9 arg10 arg16 arg17 arg18 X6 X7 X8 X9 X10 X18 f16 f17 k).s 0 1))⟩] := by
  unfold trip_k0_t4; rfl

end Cert.KernelIdeal.Pf
-- ==== Proof.KernelIdeal.Loads.lean ====
/- What each loop's trip loads, at an index of what the grid point reads. -/
module

public import proofs.«01_k».proof.Proof.KernelIdeal.Model
public import proofs.«01_k».proof.Proof.KernelIdeal.Trips

@[expose] public section

set_option maxRecDepth 65536
set_option maxHeartbeats 1000000

noncomputable section

namespace Cert.KernelIdeal.Pf

open Cert.KernelIdeal Cert.KernelIdeal.Gen
open Idealize.ShloMosaic Idealize.ShloMosaic.TcCoe
open Idealize.SL Idealize.SL.RA

variable (c : Dev nD) (i : grid0.Coords)
  (arg6 : Memref sig .tc .vmem S1x1x8x512x128 .fp8e4m3)
  (arg7 : Memref sig .tc .vmem S1x1x8x128x512 .fp8e4m3)
  (arg8 : Memref sig .tc .vmem S1x1x1x16x128 .f32)
  (arg9 : Memref sig .tc .vmem S1x1x16x128 .f32)
  (arg10 : Memref sig .tc .vmem S1x1x1x64x64x128 .f32)
  (arg16 : Memref sig .tc .vmem S8x16x128 .f32)
  (arg17 : Memref sig .tc .vmem S8x16x128 .f32)
  (arg18 : Memref sig .tc .vmem S4096x128 .fp8e4m3)
  (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ)))
  (f16 : Buf (Elt Ideal) (arg16.view.loc (c : Thread nD τ))) (f17 : Buf (Elt Ideal) (arg17.view.loc (c : Thread nD τ)))

/-- A memref's contents by index. -/
abbrev rdM {sp : Space} {S : Shape} {e : EltTy} (M : Memref sig .tc sp S e) (X : Buf (Elt Ideal) (M.view.loc (c : Thread nD τ))) : Vec Ideal S e :=
  M.view.read (Elt Ideal) X

/-- What the grid point reads, from its memrefs. -/
def rdOf : Rd := ⟨rdM c arg18 X18, rdM c arg6 X6, rdM c arg7 X7, rdM c arg8 X8, rdM c arg9 X9, rdM c arg10 X10⟩

/-- A load at an index reads the memref at the box's offset and the index. -/
theorem ldAt_at {sp : Space} {S : Shape} {e : EltTy} (M : Memref sig .tc sp S e) {off size : Fin S.rank → ℕ} (inb : ∀ a, off a + size a ≤ S.size a)
    (X : Buf (Elt Ideal) (M.view.loc (c : Thread nD τ))) {off' : Fin S.rank → ℕ} (h : off = off') (j : Shape.Idx ⟨S.rank, size⟩) (y : S.Idx)
    (hy : ∀ a, (y a).val = off' a + (j a).val) : ldAt c M off size inb X j = rdM c M X y := by
  subst h
  rw [ldAt, View.readAt_eq_ld]
  show rdM c M X _ = _
  congr 1
  funext a
  refine Fin.ext ?_
  rw [hy a]
  show off a + 1 * (j a).val = _
  rw [Nat.one_mul]

/-- The 64 query loads of a trip lie at the rows of their tokens. -/
theorem qUnit_at {n : ℕ} (k : Fin n) (g : Fin 8) (hg : g.val = k.val) (off : Fin 64 → Fin 2 → ℕ) (inb : ∀ r a, off r a + S32x128.size a ≤ S4096x128.size a)
    (heq : ∀ r : Fin 64, off r = ![64 * r.val + 8 * k.val - 8 * (r.val % 4), 0]) (u : Fin 2) (col : Fin 256) (d : Fin 128) :
    qUnit (fun v p => ldAt c arg18 (off (ldNo u v p)) S32x128.size (inb (ldNo u v p)) X18) (ix2 col d)
      = rdM c arg18 X18 (ix2 ⟨64 * (32 * u.val + col.val / 8) + 8 * g.val + col.val % 8, by omega⟩ d) := by
  rw [qUnit_apply]
  refine ldAt_at c arg18 _ X18 (heq _) _ _ fun a => ?_
  match a with
  | 0 =>
    show 64 * (32 * u.val + col.val / 8) + 8 * g.val + col.val % 8 = 64 * (32 * u.val + 4 * (col.val / 32) + col.val / 8 % 4) + 8 * k.val - 8 * ((32 * u.val + 4 * (col.val / 32) + col.val / 8 % 4) % 4) + col.val % 32
    omega
  | 1 =>
    show d.val = 0 + d.val
    omega

theorem k0_off2_at_eq : ∀ (k : Fin k0_t1_loop.trips) (r : Fin 64), k0_off2 k (k0_off2_at r).1 (k0_off2_at r).2 = ![64 * r.val + 8 * k.val - 8 * (r.val % 4), 0] := by decide +kernel

/-- What trip `k` of loop 1 loads. -/
theorem lds1_at (k : Fin k0_t1_loop.trips) (g : Fin 8) (hg : g.val = k.val) (tb : Fin 4) (htb : tb.val = (i 3).val) :
    LdsAt (rdOf c arg6 arg7 arg8 arg9 arg10 arg18 X6 X7 X8 X9 X10 X18) (rdM c arg16 f16) (rdM c arg17 f17) g tb 1
      (lds1 c i arg6 arg7 arg8 arg9 arg10 arg16 arg17 arg18 X6 X7 X8 X9 X10 X18 f16 f17 k) where
  q u col d := by
    match u with
    | 0 => exact (congrFun (qs1_0 c arg18 X18 k) _).trans (qUnit_at c arg18 X18 k g hg (fun r => k0_off2 k (k0_off2_at r).1 (k0_off2_at r).2) (fun r => k0_off2_inb k r) (k0_off2_at_eq k) 0 col d)
    | 1 => exact (congrFun (qs1_1 c arg18 X18 k) _).trans (qUnit_at c arg18 X18 k g hg (fun r => k0_off2 k (k0_off2_at r).1 (k0_off2_at r).2) (fun r => k0_off2_inb k r) (k0_off2_at_eq k) 1 col d)
  k x key d hx := by
    obtain rfl : x = 0 := Fin.ext (by omega)
    exact ldAt_at c arg6 _ X6 (k0_off5_eq k) _ _ (fun a => by fin_cases a <;> simp [hg])
  c x j hx := by
    obtain rfl : x = 0 := Fin.ext (by omega)
    exact ldAt_at c arg8 _ X8 (k0_off6_eq k) _ _ (fun a => by fin_cases a <;> simp [hg])
  vs x j hx := by
    obtain rfl : x = 0 := Fin.ext (by omega)
    exact ldAt_at c arg9 _ X9 (k0_off7_eq k) _ _ (fun a => by fin_cases a <;> simp [hg])
  vt x d key hx := by
    obtain rfl : x = 0 := Fin.ext (by omega)
    exact ldAt_at c arg7 _ X7 (k0_off8_eq k) _ _ (fun a => by fin_cases a <;> simp [hg])
  o u t n d := by
    match u with
    | 0 => exact ldAt_at c arg10 _ X10 (k0_off9_eq k) _ _ (fun a => by fin_cases a <;> simp [hg])
    | 1 => exact ldAt_at c arg10 _ X10 (k0_off10_eq k) _ _ (fun a => by fin_cases a <;> simp [hg])
  m u y j := by
    match y with
    | 0 => exact ldAt_at c arg16 _ f16 (k0_off3_eq i k u) _ _ (fun a => by fin_cases a <;> simp [hg, htb])
    | 1 => exact ldAt_at c arg16 _ f16 (k0_off4_eq i k u) _ _ (fun a => by fin_cases a <;> simp [hg, htb])
  l u y j := by
    match y with
    | 0 => exact ldAt_at c arg17 _ f17 (k0_off3_eq i k u) _ _ (fun a => by fin_cases a <;> simp [hg, htb])
    | 1 => exact ldAt_at c arg17 _ f17 (k0_off4_eq i k u) _ _ (fun a => by fin_cases a <;> simp [hg, htb])

theorem k0_off11_at_eq : ∀ (k : Fin k0_t2_loop.trips) (r : Fin 64), k0_off11 k (k0_off11_at r).1 (k0_off11_at r).2 = ![64 * r.val + 8 * k.val - 8 * (r.val % 4), 0] := by decide +kernel

/-- What trip `k` of loop 2 loads. -/
theorem lds2_at (k : Fin k0_t2_loop.trips) (g : Fin 8) (hg : g.val = k.val) (tb : Fin 4) (htb : tb.val = (i 3).val) :
    LdsAt (rdOf c arg6 arg7 arg8 arg9 arg10 arg18 X6 X7 X8 X9 X10 X18) (rdM c arg16 f16) (rdM c arg17 f17) g tb 1
      (lds2 c i arg6 arg7 arg8 arg9 arg10 arg16 arg17 arg18 X6 X7 X8 X9 X10 X18 f16 f17 k) where
  q u col d := by
    match u with
    | 0 => exact (congrFun (qs2_0 c arg18 X18 k) _).trans (qUnit_at c arg18 X18 k g hg (fun r => k0_off11 k (k0_off11_at r).1 (k0_off11_at r).2) (fun r => k0_off11_inb k r) (k0_off11_at_eq k) 0 col d)
    | 1 => exact (congrFun (qs2_1 c arg18 X18 k) _).trans (qUnit_at c arg18 X18 k g hg (fun r => k0_off11 k (k0_off11_at r).1 (k0_off11_at r).2) (fun r => k0_off11_inb k r) (k0_off11_at_eq k) 1 col d)
  k x key d hx := by
    obtain rfl : x = 0 := Fin.ext (by omega)
    exact ldAt_at c arg6 _ X6 (k0_off14_eq k) _ _ (fun a => by fin_cases a <;> simp [hg])
  c x j hx := by
    obtain rfl : x = 0 := Fin.ext (by omega)
    exact ldAt_at c arg8 _ X8 (k0_off15_eq k) _ _ (fun a => by fin_cases a <;> simp [hg])
  vs x j hx := by
    obtain rfl : x = 0 := Fin.ext (by omega)
    exact ldAt_at c arg9 _ X9 (k0_off16_eq k) _ _ (fun a => by fin_cases a <;> simp [hg])
  vt x d key hx := by
    obtain rfl : x = 0 := Fin.ext (by omega)
    exact ldAt_at c arg7 _ X7 (k0_off17_eq k) _ _ (fun a => by fin_cases a <;> simp [hg])
  o u t n d := by
    match u with
    | 0 => exact ldAt_at c arg10 _ X10 (k0_off18_eq k) _ _ (fun a => by fin_cases a <;> simp [hg])
    | 1 => exact ldAt_at c arg10 _ X10 (k0_off19_eq k) _ _ (fun a => by fin_cases a <;> simp [hg])
  m u y j := by
    match y with
    | 0 => exact ldAt_at c arg16 _ f16 (k0_off12_eq i k u) _ _ (fun a => by fin_cases a <;> simp [hg, htb])
    | 1 => exact ldAt_at c arg16 _ f16 (k0_off13_eq i k u) _ _ (fun a => by fin_cases a <;> simp [hg, htb])
  l u y j := by
    match y with
    | 0 => exact ldAt_at c arg17 _ f17 (k0_off12_eq i k u) _ _ (fun a => by fin_cases a <;> simp [hg, htb])
    | 1 => exact ldAt_at c arg17 _ f17 (k0_off13_eq i k u) _ _ (fun a => by fin_cases a <;> simp [hg, htb])

theorem k0_off20_at_eq : ∀ (k : Fin k0_t3_loop.trips) (r : Fin 64), k0_off20 k (k0_off20_at r).1 (k0_off20_at r).2 = ![64 * r.val + 8 * k.val - 8 * (r.val % 4), 0] := by decide +kernel

/-- What trip `k` of loop 3 loads. -/
theorem lds3_at (k : Fin k0_t3_loop.trips) (g : Fin 8) (hg : g.val = k.val) (tb : Fin 4) (htb : tb.val = (i 3).val) :
    LdsAt (rdOf c arg6 arg7 arg8 arg9 arg10 arg18 X6 X7 X8 X9 X10 X18) (rdM c arg16 f16) (rdM c arg17 f17) g tb 2
      (lds3 c i arg6 arg7 arg8 arg9 arg10 arg16 arg17 arg18 X6 X7 X8 X9 X10 X18 f16 f17 k) where
  q u col d := by
    match u with
    | 0 => exact (congrFun (qs3_0 c arg18 X18 k) _).trans (qUnit_at c arg18 X18 k g hg (fun r => k0_off20 k (k0_off20_at r).1 (k0_off20_at r).2) (fun r => k0_off20_inb k r) (k0_off20_at_eq k) 0 col d)
    | 1 => exact (congrFun (qs3_1 c arg18 X18 k) _).trans (qUnit_at c arg18 X18 k g hg (fun r => k0_off20 k (k0_off20_at r).1 (k0_off20_at r).2) (fun r => k0_off20_inb k r) (k0_off20_at_eq k) 1 col d)
  k x key d hx := by
    match x with
    | 0 => exact ldAt_at c arg6 _ X6 (k0_off23_eq k) _ _ (fun a => by fin_cases a <;> simp [hg])
    | 1 => exact ldAt_at c arg6 _ X6 (k0_off25_eq k) _ _ (fun a => by fin_cases a <;> simp [hg])
  c x j hx := ldAt_at c arg8 _ X8 (k0_off24_eq k x) _ _ (fun a => by fin_cases a <;> simp [hg])
  vs x j hx := ldAt_at c arg9 _ X9 (k0_off26_eq k x) _ _ (fun a => by fin_cases a <;> simp [hg])
  vt x d key hx := by
    match x with
    | 0 => exact ldAt_at c arg7 _ X7 (k0_off27_eq k) _ _ (fun a => by fin_cases a <;> simp [hg])
    | 1 => exact ldAt_at c arg7 _ X7 (k0_off28_eq k) _ _ (fun a => by fin_cases a <;> simp [hg])
  o u t n d := by
    match u with
    | 0 => exact ldAt_at c arg10 _ X10 (k0_off29_eq k) _ _ (fun a => by fin_cases a <;> simp [hg])
    | 1 => exact ldAt_at c arg10 _ X10 (k0_off30_eq k) _ _ (fun a => by fin_cases a <;> simp [hg])
  m u y j := by
    match y with
    | 0 => exact ldAt_at c arg16 _ f16 (k0_off21_eq i k u) _ _ (fun a => by fin_cases a <;> simp [hg, htb])
    | 1 => exact ldAt_at c arg16 _ f16 (k0_off22_eq i k u) _ _ (fun a => by fin_cases a <;> simp [hg, htb])
  l u y j := by
    match y with
    | 0 => exact ldAt_at c arg17 _ f17 (k0_off21_eq i k u) _ _ (fun a => by fin_cases a <;> simp [hg, htb])
    | 1 => exact ldAt_at c arg17 _ f17 (k0_off22_eq i k u) _ _ (fun a => by fin_cases a <;> simp [hg, htb])

theorem k0_off31_at_eq : ∀ (k : Fin k0_t4_loop.trips) (r : Fin 64), k0_off31 k (k0_off31_at r).1 (k0_off31_at r).2 = ![64 * r.val + 8 * k.val - 8 * (r.val % 4), 0] := by decide +kernel

/-- What trip `k` of loop 4 loads. -/
theorem lds4_at (k : Fin k0_t4_loop.trips) (g : Fin 8) (hg : g.val = k.val) (tb : Fin 4) (htb : tb.val = (i 3).val) :
    LdsAt (rdOf c arg6 arg7 arg8 arg9 arg10 arg18 X6 X7 X8 X9 X10 X18) (rdM c arg16 f16) (rdM c arg17 f17) g tb 2
      (lds4 c i arg6 arg7 arg8 arg9 arg10 arg16 arg17 arg18 X6 X7 X8 X9 X10 X18 f16 f17 k) where
  q u col d := by
    match u with
    | 0 => exact (congrFun (qs4_0 c arg18 X18 k) _).trans (qUnit_at c arg18 X18 k g hg (fun r => k0_off31 k (k0_off31_at r).1 (k0_off31_at r).2) (fun r => k0_off31_inb k r) (k0_off31_at_eq k) 0 col d)
    | 1 => exact (congrFun (qs4_1 c arg18 X18 k) _).trans (qUnit_at c arg18 X18 k g hg (fun r => k0_off31 k (k0_off31_at r).1 (k0_off31_at r).2) (fun r => k0_off31_inb k r) (k0_off31_at_eq k) 1 col d)
  k x key d hx := by
    match x with
    | 0 => exact ldAt_at c arg6 _ X6 (k0_off34_eq k) _ _ (fun a => by fin_cases a <;> simp [hg])
    | 1 => exact ldAt_at c arg6 _ X6 (k0_off36_eq k) _ _ (fun a => by fin_cases a <;> simp [hg])
  c x j hx := ldAt_at c arg8 _ X8 (k0_off35_eq k x) _ _ (fun a => by fin_cases a <;> simp [hg])
  vs x j hx := ldAt_at c arg9 _ X9 (k0_off37_eq k x) _ _ (fun a => by fin_cases a <;> simp [hg])
  vt x d key hx := by
    match x with
    | 0 => exact ldAt_at c arg7 _ X7 (k0_off38_eq k) _ _ (fun a => by fin_cases a <;> simp [hg])
    | 1 => exact ldAt_at c arg7 _ X7 (k0_off39_eq k) _ _ (fun a => by fin_cases a <;> simp [hg])
  o u t n d := by
    match u with
    | 0 => exact ldAt_at c arg10 _ X10 (k0_off40_eq k) _ _ (fun a => by fin_cases a <;> simp [hg])
    | 1 => exact ldAt_at c arg10 _ X10 (k0_off41_eq k) _ _ (fun a => by fin_cases a <;> simp [hg])
  m u y j := by
    match y with
    | 0 => exact ldAt_at c arg16 _ f16 (k0_off32_eq i k u) _ _ (fun a => by fin_cases a <;> simp [hg, htb])
    | 1 => exact ldAt_at c arg16 _ f16 (k0_off33_eq i k u) _ _ (fun a => by fin_cases a <;> simp [hg, htb])
  l u y j := by
    match y with
    | 0 => exact ldAt_at c arg17 _ f17 (k0_off32_eq i k u) _ _ (fun a => by fin_cases a <;> simp [hg, htb])
    | 1 => exact ldAt_at c arg17 _ f17 (k0_off33_eq i k u) _ _ (fun a => by fin_cases a <;> simp [hg, htb])

end Cert.KernelIdeal.Pf
-- ==== Proof.KernelIdeal.Steps.lean ====
/- A loop's trips, one group of heads each, and what the loop leaves. -/
module

public import proofs.«01_k».proof.Proof.KernelIdeal.Loads
public import Idealize.ShloMosaic.Lib.WritesUnit

@[expose] public section

set_option maxRecDepth 65536
set_option maxHeartbeats 1000000

noncomputable section

namespace Cert.KernelIdeal.Pf

open Cert.KernelIdeal Cert.KernelIdeal.Gen
open Idealize.ShloMosaic Idealize.ShloMosaic.TcCoe
open Idealize.SL Idealize.SL.RA

/-- The keys attended to: the first chunk; the first chunk's up to the query; the first chunk and the second's up to the query; all. -/
def al1 : Fin 2 → Fin 256 → Fin 64 → Bool := fun x _ _ => decide (x.val = 0)
def al2 (tb : Fin 4) : Fin 2 → Fin 256 → Fin 64 → Bool := fun x key t => decide (x.val = 0 ∧ key.val ≤ 64 * tb.val + t.val)
def al3 (tb : Fin 4) : Fin 2 → Fin 256 → Fin 64 → Bool := fun x key t => decide (x.val = 0 ∨ key.val ≤ 64 * tb.val + t.val)
def al4 : Fin 2 → Fin 256 → Fin 64 → Bool := fun _ _ _ => true

theorem msk_at (tb : Fin 4) (u : Fin 2) (s : FVec Ideal S256x256 .f32) (key col : Fin 256) :
    msk (Scalar.addi (Scalar.muli (BitVec.ofNat 32 tb.val) 64#32) (BitVec.ofNat 32 (32 * u.val))) s (ix2 key col)
      = if key.val ≤ 64 * tb.val + (tokOf u col).val then (s (ix2 key col) : EReal) else ⊥ := by
  rw [msk_apply]
  have e : Scalar.addi (Scalar.muli (BitVec.ofNat 32 tb.val) 64#32) (BitVec.ofNat 32 (32 * u.val)) + BitVec.ofNat 32 (col.val / 8) = BitVec.ofNat 32 (64 * tb.val + (tokOf u col).val) := by
    apply BitVec.eq_of_toNat_eq
    show (((tb.val % 2 ^ 32) * 64 % 2 ^ 32 + 32 * u.val % 2 ^ 32) % 2 ^ 32 + col.val / 8 % 2 ^ 32) % 2 ^ 32 = (64 * tb.val + (32 * u.val + col.val / 8)) % 2 ^ 32
    omega
  rw [e]
  have hk : key.val < 2 ^ 31 := by omega
  have ht : 64 * tb.val + (tokOf u col).val < 2 ^ 31 := by show 64 * tb.val + (32 * u.val + col.val / 8) < _; omega
  have hc : IntOp.cmpi .sle (BitVec.ofNat 32 key.val) (BitVec.ofNat 32 (64 * tb.val + (tokOf u col).val)) = BitVec.ofBool (decide (key.val ≤ 64 * tb.val + (tokOf u col).val)) := by
    generalize 64 * tb.val + (tokOf u col).val = b at ht
    show BitVec.ofBool (BitVec.sle _ _) = _
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le]
  rw [hc]
  by_cases h : key.val ≤ 64 * tb.val + (tokOf u col).val
  · rw [if_pos h, decide_eq_true h]
    rfl
  · rw [if_neg h, decide_eq_false h]
    rfl

/-- After the groups of heads before `k`: their queries of the block `tb` are done, the others as they were. -/
structure Upto (R : Rd) (al : Fin 2 → Fin 256 → Fin 64 → Bool) (tb : Fin 4) (M0 L0 : Vec Ideal S8x16x128 .f32) (O0 : Vec Ideal S1x1x1x64x64x128 .f32)
    (k : ℕ) (M Ls : Vec Ideal S8x16x128 .f32) (O : Vec Ideal S1x1x1x64x64x128 .f32) : Prop where
  m : ∀ (g : Fin 8) (row : Fin 16) (lane : Fin 128), M (ix3 g row lane) = if g.val < k ∧ row.val / 4 = tb.val then
    R.mN al (M0 (ix3 g row lane)) ⟨row.val % 4 * 16 + lane.val / 8, by omega⟩ g ⟨lane.val % 8, by omega⟩ else M0 (ix3 g row lane)
  l : ∀ (g : Fin 8) (row : Fin 16) (lane : Fin 128), Ls (ix3 g row lane) = if g.val < k ∧ row.val / 4 = tb.val then
    R.lN al (L0 (ix3 g row lane)) (M0 (ix3 g row lane)) ⟨row.val % 4 * 16 + lane.val / 8, by omega⟩ g ⟨lane.val % 8, by omega⟩ else L0 (ix3 g row lane)
  o : ∀ (t h : Fin 64) (d : Fin 128), O (ix6 0 0 0 t h d) = if h.val / 8 < k then
    R.oN al (M0 (ix3 ⟨h.val / 8, by omega⟩ ⟨4 * tb.val + t.val / 16, by omega⟩ ⟨t.val % 16 * 8 + h.val % 8, by omega⟩)) t ⟨h.val / 8, by omega⟩ ⟨h.val % 8, by omega⟩ d
    else O0 (ix6 0 0 0 t h d)

section

variable (c : Dev nD)

theorem row_piece {M : Memref sig .tc .vmem S8x16x128 .f32} (f : Buf (Elt Ideal) (M.view.loc (c : Thread nD τ))) {off : Fin 3 → ℕ} (inb : ∀ a, off a + S1x1x128.size a ≤ S8x16x128.size a)
    (w : Vec Ideal S1x1x128 .f32) (L : List (View.Piece (Elt Ideal) S8x16x128 .f32)) {g r : ℕ} (h : off = ![g, r, 0]) (g' : Fin 8) (row : Fin 16) (lane : Fin 128) :
    rdM c M (M.view.writes (Elt Ideal) f (⟨Rect.unit off S1x1x128.size inb, w⟩ :: L)) (ix3 g' row lane)
      = if g'.val = g ∧ row.val = r then w (ix3 0 0 lane) else rdM c M (M.view.writes (Elt Ideal) f L) (ix3 g' row lane) := by
  split
  · rename_i hc
    exact View.read_writes_cons_unit_of_mem M.view f inb w L _ (ix3 0 0 lane) h (fun a => by fin_cases a <;> simp [hc.1, hc.2])
  · rename_i hc
    by_cases h1 : g'.val = g
    · refine View.read_writes_cons_unit_of_not_mem M.view f inb w L _ h 1 ?_
      show row.val < r ∨ r + 1 ≤ row.val
      omega
    · refine View.read_writes_cons_unit_of_not_mem M.view f inb w L _ h 0 ?_
      show g'.val < g ∨ g + 1 ≤ g'.val
      omega

theorem tile_piece {M : Memref sig .tc .vmem S1x1x1x64x64x128 .f32} (f : Buf (Elt Ideal) (M.view.loc (c : Thread nD τ))) {off : Fin 6 → ℕ} (inb : ∀ a, off a + S1x1x1x32x8x128.size a ≤ S1x1x1x64x64x128.size a)
    (w : Vec Ideal S1x1x1x32x8x128 .f32) (L : List (View.Piece (Elt Ideal) S1x1x1x64x64x128 .f32)) {u g : ℕ} (hof : off = ![0, 0, 0, 32 * u, 8 * g, 0]) (t h : Fin 64) (d : Fin 128) :
    rdM c M (M.view.writes (Elt Ideal) f (⟨Rect.unit off S1x1x1x32x8x128.size inb, w⟩ :: L)) (ix6 0 0 0 t h d)
      = if t.val / 32 = u ∧ h.val / 8 = g then w (ix6 0 0 0 ⟨t.val % 32, by omega⟩ ⟨h.val % 8, by omega⟩ d) else rdM c M (M.view.writes (Elt Ideal) f L) (ix6 0 0 0 t h d) := by
  split
  · rename_i hc
    refine View.read_writes_cons_unit_of_mem M.view f inb w L _ (ix6 0 0 0 ⟨t.val % 32, by omega⟩ ⟨h.val % 8, by omega⟩ d) hof (fun a => ?_)
    match a with
    | 0 => rfl
    | 1 => rfl
    | 2 => rfl
    | 3 => show t.val = 32 * u + t.val % 32; omega
    | 4 => show h.val = 8 * g + h.val % 8; omega
    | 5 => show d.val = 0 + d.val; omega
  · rename_i hc
    by_cases h1 : t.val / 32 = u
    · refine View.read_writes_cons_unit_of_not_mem M.view f inb w L _ hof 4 ?_
      show h.val < 8 * g ∨ 8 * g + 8 ≤ h.val
      omega
    · refine View.read_writes_cons_unit_of_not_mem M.view f inb w L _ hof 3 ?_
      show t.val < 32 * u ∨ 32 * u + 32 ≤ t.val
      omega

/-- A trip's four rows. -/
theorem rows_at {M : Memref sig .tc .vmem S8x16x128 .f32} (f : Buf (Elt Ideal) (M.view.loc (c : Thread nD τ))) (g : Fin 8) (tb : Fin 4) (w : Fin 2 → FVec Ideal S1x256 .f32)
    {oA oB : Fin 2 → Fin 3 → ℕ} (iA : ∀ u a, oA u a + S1x1x128.size a ≤ S8x16x128.size a) (iB : ∀ u a, oB u a + S1x1x128.size a ≤ S8x16x128.size a)
    (hA : ∀ u : Fin 2, oA u = ![g.val, 4 * tb.val + 2 * u.val, 0]) (hB : ∀ u : Fin 2, oB u = ![g.val, 4 * tb.val + 2 * u.val + 1, 0]) (g' : Fin 8) (row : Fin 16) (lane : Fin 128) :
    rdM c M (M.view.writes (Elt Ideal) f [⟨Rect.unit (oB 1) S1x1x128.size (iB 1), hiRow (w 1)⟩, ⟨Rect.unit (oA 1) S1x1x128.size (iA 1), loRow (w 1)⟩,
        ⟨Rect.unit (oB 0) S1x1x128.size (iB 0), hiRow (w 0)⟩, ⟨Rect.unit (oA 0) S1x1x128.size (iA 0), loRow (w 0)⟩]) (ix3 g' row lane)
      = if g' = g ∧ row.val / 4 = tb.val then w ⟨row.val % 4 / 2, by omega⟩ (ix2 0 ⟨row.val % 2 * 128 + lane.val, by omega⟩) else rdM c M f (ix3 g' row lane) := by
  have hw : ∀ (u v : Fin 2) (a b : Fin 256), u = v → a = b → w u (ix2 0 a) = w v (ix2 0 b) := by
    rintro u _ a _ rfl rfl; rfl
  have z0 : (0 : Fin 2).val = 0 := rfl
  have z1 : (1 : Fin 2).val = 1 := rfl
  rw [row_piece c f (iB 1) _ _ (hB 1), row_piece c f (iA 1) _ _ (hA 1), row_piece c f (iB 0) _ _ (hB 0), row_piece c f (iA 0) _ _ (hA 0),
    View.writes_nil, loRow_apply, hiRow_apply, loRow_apply, hiRow_apply]
  by_cases hc : g' = g ∧ row.val / 4 = tb.val
  · rw [if_pos hc]
    obtain ⟨rfl, hr⟩ := hc
    split_ifs
    · exact hw _ _ _ _ (Fin.ext (by dsimp only; omega)) (Fin.ext (by dsimp only; omega))
    · exact hw _ _ _ _ (Fin.ext (by dsimp only; omega)) (Fin.ext (by dsimp only; omega))
    · exact hw _ _ _ _ (Fin.ext (by dsimp only; omega)) (Fin.ext (by dsimp only; omega))
    · exact hw _ _ _ _ (Fin.ext (by dsimp only; omega)) (Fin.ext (by dsimp only; omega))
    · omega
  · rw [if_neg hc]
    have hc' : ¬ (g'.val = g.val ∧ row.val / 4 = tb.val) := fun h => hc ⟨Fin.ext h.1, h.2⟩
    rw [if_neg (by omega), if_neg (by omega), if_neg (by omega), if_neg (by omega)]

/-- A trip's two tiles. -/
theorem tiles_at {M : Memref sig .tc .vmem S1x1x1x64x64x128 .f32} (f : Buf (Elt Ideal) (M.view.loc (c : Thread nD τ))) (g : Fin 8) (w : Fin 2 → Vec Ideal S1x1x1x32x8x128 .f32)
    {o0 o1 : Fin 6 → ℕ} (i0 : ∀ a, o0 a + S1x1x1x32x8x128.size a ≤ S1x1x1x64x64x128.size a) (i1 : ∀ a, o1 a + S1x1x1x32x8x128.size a ≤ S1x1x1x64x64x128.size a)
    (h0 : o0 = ![0, 0, 0, 0, 8 * g.val, 0]) (h1 : o1 = ![0, 0, 0, 32, 8 * g.val, 0]) (t h : Fin 64) (d : Fin 128) :
    rdM c M (M.view.writes (Elt Ideal) f [⟨Rect.unit o1 S1x1x1x32x8x128.size i1, w 1⟩, ⟨Rect.unit o0 S1x1x1x32x8x128.size i0, w 0⟩]) (ix6 0 0 0 t h d)
      = if h.val / 8 = g.val then w ⟨t.val / 32, by omega⟩ (ix6 0 0 0 ⟨t.val % 32, by omega⟩ ⟨h.val % 8, by omega⟩ d) else rdM c M f (ix6 0 0 0 t h d) := by
  have hw : ∀ (u v : Fin 2) (j : S1x1x1x32x8x128.Idx), u = v → w u j = w v j := by
    rintro u _ j rfl; rfl
  rw [tile_piece c f i1 _ _ (u := 1) (g := g.val) h1, tile_piece c f i0 _ _ (u := 0) (g := g.val) h0, View.writes_nil]
  by_cases hg : h.val / 8 = g.val
  · rw [if_pos hg]
    split_ifs
    · exact hw _ _ _ (Fin.ext (by show 1 = _; dsimp only; omega))
    · exact hw _ _ _ (Fin.ext (by show 0 = _; dsimp only; omega))
    · omega
  · rw [if_neg hg, if_neg (fun h => hg h.2), if_neg (fun h => hg h.2)]

end

section

variable {R : Rd} {al : Fin 2 → Fin 256 → Fin 64 → Bool} {tb : Fin 4} {M0 L0 : Vec Ideal S8x16x128 .f32} {O0 : Vec Ideal S1x1x1x64x64x128 .f32}

theorem Upto.start : Upto R al tb M0 L0 O0 0 M0 L0 O0 where
  m g row lane := by rw [if_neg (fun h => absurd h.1 (Nat.not_lt_zero _))]
  l g row lane := by rw [if_neg (fun h => absurd h.1 (Nat.not_lt_zero _))]
  o t h d := by rw [if_neg (Nat.not_lt_zero _)]

/-- One more trip. -/
theorem Upto.next {g : Fin 8} {M Ls M' Ls' : Vec Ideal S8x16x128 .f32} {O O' : Vec Ideal S1x1x1x64x64x128 .f32} {W : Out Ideal} (h : Upto R al tb M0 L0 O0 g.val M Ls O)
    (hW : IsOut R al M Ls g tb W)
    (hm : ∀ (g' : Fin 8) (row : Fin 16) (lane : Fin 128), M' (ix3 g' row lane) = if g' = g ∧ row.val / 4 = tb.val then W.m ⟨row.val % 4 / 2, by omega⟩ (ix2 0 ⟨row.val % 2 * 128 + lane.val, by omega⟩) else M (ix3 g' row lane))
    (hl : ∀ (g' : Fin 8) (row : Fin 16) (lane : Fin 128), Ls' (ix3 g' row lane) = if g' = g ∧ row.val / 4 = tb.val then W.l ⟨row.val % 4 / 2, by omega⟩ (ix2 0 ⟨row.val % 2 * 128 + lane.val, by omega⟩) else Ls (ix3 g' row lane))
    (ho : ∀ (t hd : Fin 64) (d : Fin 128), O' (ix6 0 0 0 t hd d) = if hd.val / 8 = g.val then W.o ⟨t.val / 32, by omega⟩ (ix6 0 0 0 ⟨t.val % 32, by omega⟩ ⟨hd.val % 8, by omega⟩ d) else O (ix6 0 0 0 t hd d)) :
    Upto R al tb M0 L0 O0 (g.val + 1) M' Ls' O' := by
  have hM : ∀ row lane, M (ix3 g row lane) = M0 (ix3 g row lane) := fun row lane => by rw [h.m, if_neg (fun h => absurd h.1 (Nat.lt_irrefl _))]
  have hL : ∀ row lane, Ls (ix3 g row lane) = L0 (ix3 g row lane) := fun row lane => by rw [h.l, if_neg (fun h => absurd h.1 (Nat.lt_irrefl _))]
  refine ⟨fun g' row lane => ?_, fun g' row lane => ?_, fun t hd d => ?_⟩
  · rw [hm]
    by_cases hg : g' = g
    · subst hg
      by_cases hr : row.val / 4 = tb.val
      · rw [if_pos ⟨rfl, hr⟩, if_pos ⟨Nat.lt_succ_self _, hr⟩, hW.m, rowOf, hM]
        congr 1
        · congr 2
          · exact Fin.ext (by dsimp only; omega)
          · exact Fin.ext (by dsimp only; omega)
        · exact Fin.ext (by dsimp only [tokOf]; omega)
        · exact Fin.ext (by dsimp only [hdOf]; omega)
      · rw [if_neg (fun h => hr h.2), if_neg (fun h => hr h.2), hM]
    · have hg' : g'.val ≠ g.val := fun h => hg (Fin.ext h)
      rw [if_neg (fun h => hg h.1), h.m]
      exact if_congr (by omega) rfl rfl
  · rw [hl]
    by_cases hg : g' = g
    · subst hg
      by_cases hr : row.val / 4 = tb.val
      · rw [if_pos ⟨rfl, hr⟩, if_pos ⟨Nat.lt_succ_self _, hr⟩, hW.l, rowOf, rowOf, hM, hL]
        congr 1
        · congr 2
          · exact Fin.ext (by dsimp only; omega)
          · exact Fin.ext (by dsimp only; omega)
        · congr 2
          · exact Fin.ext (by dsimp only; omega)
          · exact Fin.ext (by dsimp only; omega)
        · exact Fin.ext (by dsimp only [tokOf]; omega)
        · exact Fin.ext (by dsimp only [hdOf]; omega)
      · rw [if_neg (fun h => hr h.2), if_neg (fun h => hr h.2), hL]
    · have hg' : g'.val ≠ g.val := fun h => hg (Fin.ext h)
      rw [if_neg (fun h => hg h.1), h.l]
      exact if_congr (by omega) rfl rfl
  · rw [ho]
    by_cases hg : hd.val / 8 = g.val
    · have e : (⟨hd.val / 8, by omega⟩ : Fin 8) = g := Fin.ext hg
      rw [if_pos hg, if_pos (by omega), hW.o, rowOf, hM, e]
      congr 1
      · congr 2
        · exact Fin.ext (by dsimp only; omega)
        · exact Fin.ext (by dsimp only; omega)
      · exact Fin.ext (by dsimp only; omega)
    · rw [if_neg hg, h.o]
      exact if_congr (by omega) rfl rfl

end

variable (𝒱 : Variants) (c : Dev nD) (bd : Option 𝒱.V) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)
  (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ)))
  (G13 : Buf (Elt Ideal) (arg13.view.loc (c : Thread nD τ))) (G16 : Buf (Elt Ideal) (arg16.view.loc (c : Thread nD τ))) (G17 : Buf (Elt Ideal) (arg17.view.loc (c : Thread nD τ)))

/-- After `k` trips of loop 1. -/
theorem loop1_upto (tb : Fin 4) (htb : tb.val = (i 3).val) : ∀ k : ℕ, k ≤ k0_t1_loop.trips →
    Upto (rdOf c arg6 arg7 arg8 arg9 arg10 arg18 X6 X7 X8 X9 X10 X18) al1 tb (rdM c arg16 G16) (rdM c arg17 G17) (rdM c arg13 G13) k
      (rdM c arg16 (arg16.view.writes (Elt Ideal) G16 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.1)) (rdM c arg17 (arg17.view.writes (Elt Ideal) G17 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.2))
      (rdM c arg13 (arg13.view.writes (Elt Ideal) G13 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).1))
  | 0, _ => Upto.start
  | n + 1, hn => by
    have ih := loop1_upto tb htb n (Nat.le_of_succ_le hn)
    have h8 : k0_t1_loop.trips = 8 := by decide
    obtain ⟨k, rfl⟩ : ∃ k : Fin k0_t1_loop.trips, n = k.val := ⟨⟨n, hn⟩, rfl⟩
    rw [pb_k0_t1_succ]
    dsimp only [tripL_k0_t1]
    rw [trip1_o, trip1_m, trip1_l, View.writes_append, View.writes_append, View.writes_append]
    revert ih
    generalize arg13.view.writes (Elt Ideal) G13 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).1 = f13
    generalize arg16.view.writes (Elt Ideal) G16 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.1 = f16
    generalize arg17.view.writes (Elt Ideal) G17 (pb_k0_t1 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.2 = f17
    intro ih
    have hk : k.val < 8 := h8 ▸ k.isLt
    have hL := lds1_at c i arg6 arg7 arg8 arg9 arg10 arg16 arg17 arg18 X6 X7 X8 X9 X10 X18 f16 f17 k ⟨k.val, hk⟩ rfl tb htb
    have hW : IsOut (rdOf c arg6 arg7 arg8 arg9 arg10 arg18 X6 X7 X8 X9 X10 X18) al1 (rdM c arg16 f16) (rdM c arg17 f17) ⟨k.val, hk⟩ tb (out1 (lds1 c i arg6 arg7 arg8 arg9 arg10 arg16 arg17 arg18 X6 X7 X8 X9 X10 X18 f16 f17 k) (fun u => (lds1 c i arg6 arg7 arg8 arg9 arg10 arg16 arg17 arg18 X6 X7 X8 X9 X10 X18 f16 f17 k).s u 0)) := isOut1 hL _ (fun u key col => by
      rw [hL.s_eq u 0 (by decide)]
      exact (if_pos (by simp [al1])).symm) (fun _ _ => rfl)
    refine Upto.next (g := ⟨k.val, hk⟩) ih hW (fun g' row lane => ?_) (fun g' row lane => ?_) (fun t hd d => ?_)
    · exact rows_at c f16 ⟨k.val, hk⟩ tb (out1 (lds1 c i arg6 arg7 arg8 arg9 arg10 arg16 arg17 arg18 X6 X7 X8 X9 X10 X18 f16 f17 k) (fun u => (lds1 c i arg6 arg7 arg8 arg9 arg10 arg16 arg17 arg18 X6 X7 X8 X9 X10 X18 f16 f17 k).s u 0)).m (oA := fun u => k0_off3 i k (BitVec.ofNat 32 (32 * u.val))) (oB := fun u => k0_off4 i k (BitVec.ofNat 32 (32 * u.val)))
        (fun u => k0_off3_inb i k u) (fun u => k0_off4_inb i k u) (fun u => by rw [htb]; exact k0_off3_eq i k u) (fun u => by rw [htb]; exact k0_off4_eq i k u) g' row lane
    · exact rows_at c f17 ⟨k.val, hk⟩ tb (out1 (lds1 c i arg6 arg7 arg8 arg9 arg10 arg16 arg17 arg18 X6 X7 X8 X9 X10 X18 f16 f17 k) (fun u => (lds1 c i arg6 arg7 arg8 arg9 arg10 arg16 arg17 arg18 X6 X7 X8 X9 X10 X18 f16 f17 k).s u 0)).l (oA := fun u => k0_off3 i k (BitVec.ofNat 32 (32 * u.val))) (oB := fun u => k0_off4 i k (BitVec.ofNat 32 (32 * u.val)))
        (fun u => k0_off3_inb i k u) (fun u => k0_off4_inb i k u) (fun u => by rw [htb]; exact k0_off3_eq i k u) (fun u => by rw [htb]; exact k0_off4_eq i k u) g' row lane
    · exact tiles_at c f13 ⟨k.val, hk⟩ (out1 (lds1 c i arg6 arg7 arg8 arg9 arg10 arg16 arg17 arg18 X6 X7 X8 X9 X10 X18 f16 f17 k) (fun u => (lds1 c i arg6 arg7 arg8 arg9 arg10 arg16 arg17 arg18 X6 X7 X8 X9 X10 X18 f16 f17 k).s u 0)).o (k0_off9_inb k) (k0_off10_inb k) (k0_off9_eq k) (k0_off10_eq k) t hd d

/-- After `k` trips of loop 2. -/
theorem loop2_upto (tb : Fin 4) (htb : tb.val = (i 3).val) : ∀ k : ℕ, k ≤ k0_t2_loop.trips →
    Upto (rdOf c arg6 arg7 arg8 arg9 arg10 arg18 X6 X7 X8 X9 X10 X18) (al2 tb) tb (rdM c arg16 G16) (rdM c arg17 G17) (rdM c arg13 G13) k
      (rdM c arg16 (arg16.view.writes (Elt Ideal) G16 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.1)) (rdM c arg17 (arg17.view.writes (Elt Ideal) G17 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.2))
      (rdM c arg13 (arg13.view.writes (Elt Ideal) G13 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).1))
  | 0, _ => Upto.start
  | n + 1, hn => by
    have ih := loop2_upto tb htb n (Nat.le_of_succ_le hn)
    have h8 : k0_t2_loop.trips = 8 := by decide
    obtain ⟨k, rfl⟩ : ∃ k : Fin k0_t2_loop.trips, n = k.val := ⟨⟨n, hn⟩, rfl⟩
    rw [pb_k0_t2_succ]
    dsimp only [tripL_k0_t2]
    rw [trip2_o, trip2_m, trip2_l, View.writes_append, View.writes_append, View.writes_append]
    revert ih
    generalize arg13.view.writes (Elt Ideal) G13 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).1 = f13
    generalize arg16.view.writes (Elt Ideal) G16 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.1 = f16
    generalize arg17.view.writes (Elt Ideal) G17 (pb_k0_t2 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.2 = f17
    intro ih
    have hk : k.val < 8 := h8 ▸ k.isLt
    have hL := lds2_at c i arg6 arg7 arg8 arg9 arg10 arg16 arg17 arg18 X6 X7 X8 X9 X10 X18 f16 f17 k ⟨k.val, hk⟩ rfl tb htb
    have hW : IsOut (rdOf c arg6 arg7 arg8 arg9 arg10 arg18 X6 X7 X8 X9 X10 X18) (al2 tb) (rdM c arg16 f16) (rdM c arg17 f17) ⟨k.val, hk⟩ tb (out1 (lds2 c i arg6 arg7 arg8 arg9 arg10 arg16 arg17 arg18 X6 X7 X8 X9 X10 X18 f16 f17 k) (fun u => (msk (Scalar.addi (Scalar.muli (BitVec.ofNat 32 tb.val) 64#32) (BitVec.ofNat 32 (32 * u.val))) ((lds2 c i arg6 arg7 arg8 arg9 arg10 arg16 arg17 arg18 X6 X7 X8 X9 X10 X18 f16 f17 k).s u 0)))) := isOut1 hL _ (fun u key col => by
      rw [msk_at, hL.s_eq u 0 (by decide)]
      unfold Rd.s al2
      simp) (fun _ _ => by simp [al2])
    refine Upto.next (g := ⟨k.val, hk⟩) ih hW (fun g' row lane => ?_) (fun g' row lane => ?_) (fun t hd d => ?_)
    · exact rows_at c f16 ⟨k.val, hk⟩ tb (out1 (lds2 c i arg6 arg7 arg8 arg9 arg10 arg16 arg17 arg18 X6 X7 X8 X9 X10 X18 f16 f17 k) (fun u => (msk (Scalar.addi (Scalar.muli (BitVec.ofNat 32 tb.val) 64#32) (BitVec.ofNat 32 (32 * u.val))) ((lds2 c i arg6 arg7 arg8 arg9 arg10 arg16 arg17 arg18 X6 X7 X8 X9 X10 X18 f16 f17 k).s u 0)))).m (oA := fun u => k0_off12 i k (BitVec.ofNat 32 (32 * u.val))) (oB := fun u => k0_off13 i k (BitVec.ofNat 32 (32 * u.val)))
        (fun u => k0_off12_inb i k u) (fun u => k0_off13_inb i k u) (fun u => by rw [htb]; exact k0_off12_eq i k u) (fun u => by rw [htb]; exact k0_off13_eq i k u) g' row lane
    · exact rows_at c f17 ⟨k.val, hk⟩ tb (out1 (lds2 c i arg6 arg7 arg8 arg9 arg10 arg16 arg17 arg18 X6 X7 X8 X9 X10 X18 f16 f17 k) (fun u => (msk (Scalar.addi (Scalar.muli (BitVec.ofNat 32 tb.val) 64#32) (BitVec.ofNat 32 (32 * u.val))) ((lds2 c i arg6 arg7 arg8 arg9 arg10 arg16 arg17 arg18 X6 X7 X8 X9 X10 X18 f16 f17 k).s u 0)))).l (oA := fun u => k0_off12 i k (BitVec.ofNat 32 (32 * u.val))) (oB := fun u => k0_off13 i k (BitVec.ofNat 32 (32 * u.val)))
        (fun u => k0_off12_inb i k u) (fun u => k0_off13_inb i k u) (fun u => by rw [htb]; exact k0_off12_eq i k u) (fun u => by rw [htb]; exact k0_off13_eq i k u) g' row lane
    · exact tiles_at c f13 ⟨k.val, hk⟩ (out1 (lds2 c i arg6 arg7 arg8 arg9 arg10 arg16 arg17 arg18 X6 X7 X8 X9 X10 X18 f16 f17 k) (fun u => (msk (Scalar.addi (Scalar.muli (BitVec.ofNat 32 tb.val) 64#32) (BitVec.ofNat 32 (32 * u.val))) ((lds2 c i arg6 arg7 arg8 arg9 arg10 arg16 arg17 arg18 X6 X7 X8 X9 X10 X18 f16 f17 k).s u 0)))).o (k0_off18_inb k) (k0_off19_inb k) (k0_off18_eq k) (k0_off19_eq k) t hd d

/-- After `k` trips of loop 3. -/
theorem loop3_upto (tb : Fin 4) (htb : tb.val = (i 3).val) : ∀ k : ℕ, k ≤ k0_t3_loop.trips →
    Upto (rdOf c arg6 arg7 arg8 arg9 arg10 arg18 X6 X7 X8 X9 X10 X18) (al3 tb) tb (rdM c arg16 G16) (rdM c arg17 G17) (rdM c arg13 G13) k
      (rdM c arg16 (arg16.view.writes (Elt Ideal) G16 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.1)) (rdM c arg17 (arg17.view.writes (Elt Ideal) G17 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.2))
      (rdM c arg13 (arg13.view.writes (Elt Ideal) G13 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).1))
  | 0, _ => Upto.start
  | n + 1, hn => by
    have ih := loop3_upto tb htb n (Nat.le_of_succ_le hn)
    have h8 : k0_t3_loop.trips = 8 := by decide
    obtain ⟨k, rfl⟩ : ∃ k : Fin k0_t3_loop.trips, n = k.val := ⟨⟨n, hn⟩, rfl⟩
    rw [pb_k0_t3_succ]
    dsimp only [tripL_k0_t3]
    rw [trip3_o, trip3_m, trip3_l, View.writes_append, View.writes_append, View.writes_append]
    revert ih
    generalize arg13.view.writes (Elt Ideal) G13 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).1 = f13
    generalize arg16.view.writes (Elt Ideal) G16 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.1 = f16
    generalize arg17.view.writes (Elt Ideal) G17 (pb_k0_t3 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.2 = f17
    intro ih
    have hk : k.val < 8 := h8 ▸ k.isLt
    have hL := lds3_at c i arg6 arg7 arg8 arg9 arg10 arg16 arg17 arg18 X6 X7 X8 X9 X10 X18 f16 f17 k ⟨k.val, hk⟩ rfl tb htb
    have hW : IsOut (rdOf c arg6 arg7 arg8 arg9 arg10 arg18 X6 X7 X8 X9 X10 X18) (al3 tb) (rdM c arg16 f16) (rdM c arg17 f17) ⟨k.val, hk⟩ tb (out2 (lds3 c i arg6 arg7 arg8 arg9 arg10 arg16 arg17 arg18 X6 X7 X8 X9 X10 X18 f16 f17 k) (fun u => (lds3 c i arg6 arg7 arg8 arg9 arg10 arg16 arg17 arg18 X6 X7 X8 X9 X10 X18 f16 f17 k).s u 0) (fun u => (msk (Scalar.addi (Scalar.muli (BitVec.ofNat 32 tb.val) 64#32) (BitVec.ofNat 32 (32 * u.val))) ((lds3 c i arg6 arg7 arg8 arg9 arg10 arg16 arg17 arg18 X6 X7 X8 X9 X10 X18 f16 f17 k).s u 1)))) := isOut2 hL _ _ (fun u key col => by
      rw [hL.s_eq u 0 (by decide)]
      exact (if_pos (by simp [al3])).symm) (fun u key col => by
      rw [msk_at, hL.s_eq u 1 (by decide)]
      unfold Rd.s al3
      simp)
    refine Upto.next (g := ⟨k.val, hk⟩) ih hW (fun g' row lane => ?_) (fun g' row lane => ?_) (fun t hd d => ?_)
    · exact rows_at c f16 ⟨k.val, hk⟩ tb (out2 (lds3 c i arg6 arg7 arg8 arg9 arg10 arg16 arg17 arg18 X6 X7 X8 X9 X10 X18 f16 f17 k) (fun u => (lds3 c i arg6 arg7 arg8 arg9 arg10 arg16 arg17 arg18 X6 X7 X8 X9 X10 X18 f16 f17 k).s u 0) (fun u => (msk (Scalar.addi (Scalar.muli (BitVec.ofNat 32 tb.val) 64#32) (BitVec.ofNat 32 (32 * u.val))) ((lds3 c i arg6 arg7 arg8 arg9 arg10 arg16 arg17 arg18 X6 X7 X8 X9 X10 X18 f16 f17 k).s u 1)))).m (oA := fun u => k0_off21 i k (BitVec.ofNat 32 (32 * u.val))) (oB := fun u => k0_off22 i k (BitVec.ofNat 32 (32 * u.val)))
        (fun u => k0_off21_inb i k u) (fun u => k0_off22_inb i k u) (fun u => by rw [htb]; exact k0_off21_eq i k u) (fun u => by rw [htb]; exact k0_off22_eq i k u) g' row lane
    · exact rows_at c f17 ⟨k.val, hk⟩ tb (out2 (lds3 c i arg6 arg7 arg8 arg9 arg10 arg16 arg17 arg18 X6 X7 X8 X9 X10 X18 f16 f17 k) (fun u => (lds3 c i arg6 arg7 arg8 arg9 arg10 arg16 arg17 arg18 X6 X7 X8 X9 X10 X18 f16 f17 k).s u 0) (fun u => (msk (Scalar.addi (Scalar.muli (BitVec.ofNat 32 tb.val) 64#32) (BitVec.ofNat 32 (32 * u.val))) ((lds3 c i arg6 arg7 arg8 arg9 arg10 arg16 arg17 arg18 X6 X7 X8 X9 X10 X18 f16 f17 k).s u 1)))).l (oA := fun u => k0_off21 i k (BitVec.ofNat 32 (32 * u.val))) (oB := fun u => k0_off22 i k (BitVec.ofNat 32 (32 * u.val)))
        (fun u => k0_off21_inb i k u) (fun u => k0_off22_inb i k u) (fun u => by rw [htb]; exact k0_off21_eq i k u) (fun u => by rw [htb]; exact k0_off22_eq i k u) g' row lane
    · exact tiles_at c f13 ⟨k.val, hk⟩ (out2 (lds3 c i arg6 arg7 arg8 arg9 arg10 arg16 arg17 arg18 X6 X7 X8 X9 X10 X18 f16 f17 k) (fun u => (lds3 c i arg6 arg7 arg8 arg9 arg10 arg16 arg17 arg18 X6 X7 X8 X9 X10 X18 f16 f17 k).s u 0) (fun u => (msk (Scalar.addi (Scalar.muli (BitVec.ofNat 32 tb.val) 64#32) (BitVec.ofNat 32 (32 * u.val))) ((lds3 c i arg6 arg7 arg8 arg9 arg10 arg16 arg17 arg18 X6 X7 X8 X9 X10 X18 f16 f17 k).s u 1)))).o (k0_off29_inb k) (k0_off30_inb k) (k0_off29_eq k) (k0_off30_eq k) t hd d

/-- After `k` trips of loop 4. -/
theorem loop4_upto (tb : Fin 4) (htb : tb.val = (i 3).val) : ∀ k : ℕ, k ≤ k0_t4_loop.trips →
    Upto (rdOf c arg6 arg7 arg8 arg9 arg10 arg18 X6 X7 X8 X9 X10 X18) al4 tb (rdM c arg16 G16) (rdM c arg17 G17) (rdM c arg13 G13) k
      (rdM c arg16 (arg16.view.writes (Elt Ideal) G16 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.1)) (rdM c arg17 (arg17.view.writes (Elt Ideal) G17 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).2.2))
      (rdM c arg13 (arg13.view.writes (Elt Ideal) G13 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k).1))
  | 0, _ => Upto.start
  | n + 1, hn => by
    have ih := loop4_upto tb htb n (Nat.le_of_succ_le hn)
    have h8 : k0_t4_loop.trips = 8 := by decide
    obtain ⟨k, rfl⟩ : ∃ k : Fin k0_t4_loop.trips, n = k.val := ⟨⟨n, hn⟩, rfl⟩
    rw [pb_k0_t4_succ]
    dsimp only [tripL_k0_t4]
    rw [trip4_o, trip4_m, trip4_l, View.writes_append, View.writes_append, View.writes_append]
    revert ih
    generalize arg13.view.writes (Elt Ideal) G13 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).1 = f13
    generalize arg16.view.writes (Elt Ideal) G16 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.1 = f16
    generalize arg17.view.writes (Elt Ideal) G17 (pb_k0_t4 (F := Ideal) 𝒱 c bd i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) X6 X7 X8 X9 X10 X18 G13 G16 G17 k.val).2.2 = f17
    intro ih
    have hk : k.val < 8 := h8 ▸ k.isLt
    have hL := lds4_at c i arg6 arg7 arg8 arg9 arg10 arg16 arg17 arg18 X6 X7 X8 X9 X10 X18 f16 f17 k ⟨k.val, hk⟩ rfl tb htb
    have hW : IsOut (rdOf c arg6 arg7 arg8 arg9 arg10 arg18 X6 X7 X8 X9 X10 X18) al4 (rdM c arg16 f16) (rdM c arg17 f17) ⟨k.val, hk⟩ tb (out2 (lds4 c i arg6 arg7 arg8 arg9 arg10 arg16 arg17 arg18 X6 X7 X8 X9 X10 X18 f16 f17 k) (fun u => (lds4 c i arg6 arg7 arg8 arg9 arg10 arg16 arg17 arg18 X6 X7 X8 X9 X10 X18 f16 f17 k).s u 0) (fun u => (lds4 c i arg6 arg7 arg8 arg9 arg10 arg16 arg17 arg18 X6 X7 X8 X9 X10 X18 f16 f17 k).s u 1)) := isOut2 hL _ _ (fun u key col => by
      rw [hL.s_eq u 0 (by decide)]
      exact (if_pos (by simp [al4])).symm) (fun u key col => by
      rw [hL.s_eq u 1 (by decide)]
      exact (if_pos (by simp [al4])).symm)
    refine Upto.next (g := ⟨k.val, hk⟩) ih hW (fun g' row lane => ?_) (fun g' row lane => ?_) (fun t hd d => ?_)
    · exact rows_at c f16 ⟨k.val, hk⟩ tb (out2 (lds4 c i arg6 arg7 arg8 arg9 arg10 arg16 arg17 arg18 X6 X7 X8 X9 X10 X18 f16 f17 k) (fun u => (lds4 c i arg6 arg7 arg8 arg9 arg10 arg16 arg17 arg18 X6 X7 X8 X9 X10 X18 f16 f17 k).s u 0) (fun u => (lds4 c i arg6 arg7 arg8 arg9 arg10 arg16 arg17 arg18 X6 X7 X8 X9 X10 X18 f16 f17 k).s u 1)).m (oA := fun u => k0_off32 i k (BitVec.ofNat 32 (32 * u.val))) (oB := fun u => k0_off33 i k (BitVec.ofNat 32 (32 * u.val)))
        (fun u => k0_off32_inb i k u) (fun u => k0_off33_inb i k u) (fun u => by rw [htb]; exact k0_off32_eq i k u) (fun u => by rw [htb]; exact k0_off33_eq i k u) g' row lane
    · exact rows_at c f17 ⟨k.val, hk⟩ tb (out2 (lds4 c i arg6 arg7 arg8 arg9 arg10 arg16 arg17 arg18 X6 X7 X8 X9 X10 X18 f16 f17 k) (fun u => (lds4 c i arg6 arg7 arg8 arg9 arg10 arg16 arg17 arg18 X6 X7 X8 X9 X10 X18 f16 f17 k).s u 0) (fun u => (lds4 c i arg6 arg7 arg8 arg9 arg10 arg16 arg17 arg18 X6 X7 X8 X9 X10 X18 f16 f17 k).s u 1)).l (oA := fun u => k0_off32 i k (BitVec.ofNat 32 (32 * u.val))) (oB := fun u => k0_off33 i k (BitVec.ofNat 32 (32 * u.val)))
        (fun u => k0_off32_inb i k u) (fun u => k0_off33_inb i k u) (fun u => by rw [htb]; exact k0_off32_eq i k u) (fun u => by rw [htb]; exact k0_off33_eq i k u) g' row lane
    · exact tiles_at c f13 ⟨k.val, hk⟩ (out2 (lds4 c i arg6 arg7 arg8 arg9 arg10 arg16 arg17 arg18 X6 X7 X8 X9 X10 X18 f16 f17 k) (fun u => (lds4 c i arg6 arg7 arg8 arg9 arg10 arg16 arg17 arg18 X6 X7 X8 X9 X10 X18 f16 f17 k).s u 0) (fun u => (lds4 c i arg6 arg7 arg8 arg9 arg10 arg16 arg17 arg18 X6 X7 X8 X9 X10 X18 f16 f17 k).s u 1)).o (k0_off40_inb k) (k0_off41_inb k) (k0_off40_eq k) (k0_off41_eq k) t hd d

end Cert.KernelIdeal.Pf
-- ==== Proof.KernelIdeal.Fill.lean ====
/- The first part of the body: on the first token tile it fills the statistics' scratch, and it copies the query tile. And the last:
   on the last token tile it writes the statistics out. -/
module

public import proofs.«01_k».proof.Proof.KernelIdeal.Triples
public import proofs.«01_k».proof.Proof.KernelIdeal.Swap
public import proofs.«01_k».proof.Proof.KernelIdeal.Steps

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD)

section Pieces

/-- A block of eight rows, at an index. -/
theorem piece8 {M : Memref sig .tc .vmem S8x16x128 .f32} (f : Buf (Elt Ideal) (M.view.loc (c : Thread nD τ))) (g : Fin 8) (h : Fin 2) {off : Fin 3 → ℕ} (inb : ∀ a, off a + S1x8x128.size a ≤ S8x16x128.size a)
    (w : Vec Ideal S1x8x128 .f32) (L : List (View.Piece (Elt Ideal) S8x16x128 .f32)) (ho : off = ![g.val, 8 * h.val, 0]) (g' : Fin 8) (h' : Fin 2) (s : Fin 8) (lane : Fin 128) :
    rdM c M (M.view.writes (Elt Ideal) f (⟨Rect.unit off S1x8x128.size inb, w⟩ :: L)) (ix3 g' ⟨8 * h'.val + s.val, by omega⟩ lane)
      = if g' = g ∧ h' = h then w (ix3 0 s lane) else rdM c M (M.view.writes (Elt Ideal) f L) (ix3 g' ⟨8 * h'.val + s.val, by omega⟩ lane) := by
  split
  · rename_i hc
    obtain ⟨rfl, rfl⟩ := hc
    refine View.read_writes_cons_unit_of_mem M.view f inb w L _ (ix3 0 s lane) ho (fun a => ?_)
    match a with
    | 0 => rfl
    | 1 => rfl
    | 2 => show lane.val = 0 + lane.val; omega
  · rename_i hc
    by_cases h1 : g' = g
    · have h2 : h'.val ≠ h.val := fun e => hc ⟨h1, Fin.ext e⟩
      refine View.read_writes_cons_unit_of_not_mem M.view f inb w L _ ho 1 ?_
      show 8 * h'.val + s.val < 8 * h.val ∨ 8 * h.val + 8 ≤ 8 * h'.val + s.val
      omega
    · have h2 : g'.val ≠ g.val := fun e => h1 (Fin.ext e)
      refine View.read_writes_cons_unit_of_not_mem M.view f inb w L _ ho 0 ?_
      show g'.val < g.val ∨ g.val + 1 ≤ g'.val
      omega

/-- A block of eight heads and 128 tokens, at an index. -/
theorem pieceS {M : Memref sig .tc .vmem S1x1x1x64x256 .f32} (f : Buf (Elt Ideal) (M.view.loc (c : Thread nD τ))) (g : Fin 8) (h : Fin 2) {off : Fin 5 → ℕ} (inb : ∀ a, off a + S1x1x1x8x128.size a ≤ S1x1x1x64x256.size a)
    (w : Vec Ideal S1x1x1x8x128 .f32) (L : List (View.Piece (Elt Ideal) S1x1x1x64x256 .f32)) (ho : off = ![0, 0, 0, 8 * g.val, 128 * h.val]) (g' : Fin 8) (h' : Fin 2) (s : Fin 8) (lane : Fin 128) :
    rdM c M (M.view.writes (Elt Ideal) f (⟨Rect.unit off S1x1x1x8x128.size inb, w⟩ :: L)) (ix5 0 0 0 ⟨8 * g'.val + s.val, by omega⟩ ⟨128 * h'.val + lane.val, by omega⟩)
      = if g' = g ∧ h' = h then w (ix5 0 0 0 s lane) else rdM c M (M.view.writes (Elt Ideal) f L) (ix5 0 0 0 ⟨8 * g'.val + s.val, by omega⟩ ⟨128 * h'.val + lane.val, by omega⟩) := by
  split
  · rename_i hc
    obtain ⟨rfl, rfl⟩ := hc
    refine View.read_writes_cons_unit_of_mem M.view f inb w L _ (ix5 0 0 0 s lane) ho (fun a => ?_)
    match a with
    | 0 => rfl
    | 1 => rfl
    | 2 => rfl
    | 3 => rfl
    | 4 => rfl
  · rename_i hc
    by_cases h1 : g' = g
    · have h2 : h'.val ≠ h.val := fun e => hc ⟨h1, Fin.ext e⟩
      refine View.read_writes_cons_unit_of_not_mem M.view f inb w L _ ho 4 ?_
      show 128 * h'.val + lane.val < 128 * h.val ∨ 128 * h.val + 128 ≤ 128 * h'.val + lane.val
      omega
    · have h2 : g'.val ≠ g.val := fun e => h1 (Fin.ext e)
      refine View.read_writes_cons_unit_of_not_mem M.view f inb w L _ ho 3 ?_
      show 8 * g'.val + s.val < 8 * g.val ∨ 8 * g.val + 8 ≤ 8 * g'.val + s.val
      omega

def offR (g : Fin 8) (h : Fin 2) : Fin 3 → ℕ := ![g.val, 8 * h.val, 0]
def offS (g : Fin 8) (h : Fin 2) : Fin 5 → ℕ := ![0, 0, 0, 8 * g.val, 128 * h.val]
theorem offR_inb (g : Fin 8) (h : Fin 2) : ∀ a, offR g h a + S1x8x128.size a ≤ S8x16x128.size a := by
  revert g h; decide
theorem offS_inb (g : Fin 8) (h : Fin 2) : ∀ a, offS g h a + S1x1x1x8x128.size a ≤ S1x1x1x64x256.size a := by
  revert g h; decide

/-- The sixteen blocks of a statistics' scratch, the last stored first. -/
abbrev blocksR (w : Fin 8 → Fin 2 → Vec Ideal S1x8x128 .f32) : List (View.Piece (Elt Ideal) S8x16x128 .f32) :=
  [⟨Rect.unit (offR 7 1) S1x8x128.size (offR_inb 7 1), w 7 1⟩,
   ⟨Rect.unit (offR 7 0) S1x8x128.size (offR_inb 7 0), w 7 0⟩,
   ⟨Rect.unit (offR 6 1) S1x8x128.size (offR_inb 6 1), w 6 1⟩,
   ⟨Rect.unit (offR 6 0) S1x8x128.size (offR_inb 6 0), w 6 0⟩,
   ⟨Rect.unit (offR 5 1) S1x8x128.size (offR_inb 5 1), w 5 1⟩,
   ⟨Rect.unit (offR 5 0) S1x8x128.size (offR_inb 5 0), w 5 0⟩,
   ⟨Rect.unit (offR 4 1) S1x8x128.size (offR_inb 4 1), w 4 1⟩,
   ⟨Rect.unit (offR 4 0) S1x8x128.size (offR_inb 4 0), w 4 0⟩,
   ⟨Rect.unit (offR 3 1) S1x8x128.size (offR_inb 3 1), w 3 1⟩,
   ⟨Rect.unit (offR 3 0) S1x8x128.size (offR_inb 3 0), w 3 0⟩,
   ⟨Rect.unit (offR 2 1) S1x8x128.size (offR_inb 2 1), w 2 1⟩,
   ⟨Rect.unit (offR 2 0) S1x8x128.size (offR_inb 2 0), w 2 0⟩,
   ⟨Rect.unit (offR 1 1) S1x8x128.size (offR_inb 1 1), w 1 1⟩,
   ⟨Rect.unit (offR 1 0) S1x8x128.size (offR_inb 1 0), w 1 0⟩,
   ⟨Rect.unit (offR 0 1) S1x8x128.size (offR_inb 0 1), w 0 1⟩,
   ⟨Rect.unit (offR 0 0) S1x8x128.size (offR_inb 0 0), w 0 0⟩]

/-- The sixteen blocks of a statistics' output tile, the last stored first. -/
abbrev blocksS (w : Fin 8 → Fin 2 → Vec Ideal S1x1x1x8x128 .f32) : List (View.Piece (Elt Ideal) S1x1x1x64x256 .f32) :=
  [⟨Rect.unit (offS 7 1) S1x1x1x8x128.size (offS_inb 7 1), w 7 1⟩,
   ⟨Rect.unit (offS 7 0) S1x1x1x8x128.size (offS_inb 7 0), w 7 0⟩,
   ⟨Rect.unit (offS 6 1) S1x1x1x8x128.size (offS_inb 6 1), w 6 1⟩,
   ⟨Rect.unit (offS 6 0) S1x1x1x8x128.size (offS_inb 6 0), w 6 0⟩,
   ⟨Rect.unit (offS 5 1) S1x1x1x8x128.size (offS_inb 5 1), w 5 1⟩,
   ⟨Rect.unit (offS 5 0) S1x1x1x8x128.size (offS_inb 5 0), w 5 0⟩,
   ⟨Rect.unit (offS 4 1) S1x1x1x8x128.size (offS_inb 4 1), w 4 1⟩,
   ⟨Rect.unit (offS 4 0) S1x1x1x8x128.size (offS_inb 4 0), w 4 0⟩,
   ⟨Rect.unit (offS 3 1) S1x1x1x8x128.size (offS_inb 3 1), w 3 1⟩,
   ⟨Rect.unit (offS 3 0) S1x1x1x8x128.size (offS_inb 3 0), w 3 0⟩,
   ⟨Rect.unit (offS 2 1) S1x1x1x8x128.size (offS_inb 2 1), w 2 1⟩,
   ⟨Rect.unit (offS 2 0) S1x1x1x8x128.size (offS_inb 2 0), w 2 0⟩,
   ⟨Rect.unit (offS 1 1) S1x1x1x8x128.size (offS_inb 1 1), w 1 1⟩,
   ⟨Rect.unit (offS 1 0) S1x1x1x8x128.size (offS_inb 1 0), w 1 0⟩,
   ⟨Rect.unit (offS 0 1) S1x1x1x8x128.size (offS_inb 0 1), w 0 1⟩,
   ⟨Rect.unit (offS 0 0) S1x1x1x8x128.size (offS_inb 0 0), w 0 0⟩]

theorem blocksR_at {M : Memref sig .tc .vmem S8x16x128 .f32} (f : Buf (Elt Ideal) (M.view.loc (c : Thread nD τ))) (w : Fin 8 → Fin 2 → Vec Ideal S1x8x128 .f32) (g : Fin 8) (h : Fin 2) (s : Fin 8) (lane : Fin 128) :
    rdM c M (M.view.writes (Elt Ideal) f (blocksR w)) (ix3 g ⟨8 * h.val + s.val, by omega⟩ lane) = w g h (ix3 0 s lane) := by
  rw [piece8 c f 7 1 (offR_inb 7 1) _ _ rfl,
    piece8 c f 7 0 (offR_inb 7 0) _ _ rfl,
    piece8 c f 6 1 (offR_inb 6 1) _ _ rfl,
    piece8 c f 6 0 (offR_inb 6 0) _ _ rfl,
    piece8 c f 5 1 (offR_inb 5 1) _ _ rfl,
    piece8 c f 5 0 (offR_inb 5 0) _ _ rfl,
    piece8 c f 4 1 (offR_inb 4 1) _ _ rfl,
    piece8 c f 4 0 (offR_inb 4 0) _ _ rfl,
    piece8 c f 3 1 (offR_inb 3 1) _ _ rfl,
    piece8 c f 3 0 (offR_inb 3 0) _ _ rfl,
    piece8 c f 2 1 (offR_inb 2 1) _ _ rfl,
    piece8 c f 2 0 (offR_inb 2 0) _ _ rfl,
    piece8 c f 1 1 (offR_inb 1 1) _ _ rfl,
    piece8 c f 1 0 (offR_inb 1 0) _ _ rfl,
    piece8 c f 0 1 (offR_inb 0 1) _ _ rfl,
    piece8 c f 0 0 (offR_inb 0 0) _ _ rfl]
  fin_cases g <;> fin_cases h <;> rfl

theorem blocksS_at {M : Memref sig .tc .vmem S1x1x1x64x256 .f32} (f : Buf (Elt Ideal) (M.view.loc (c : Thread nD τ))) (w : Fin 8 → Fin 2 → Vec Ideal S1x1x1x8x128 .f32) (g : Fin 8) (h : Fin 2) (s : Fin 8) (lane : Fin 128) :
    rdM c M (M.view.writes (Elt Ideal) f (blocksS w)) (ix5 0 0 0 ⟨8 * g.val + s.val, by omega⟩ ⟨128 * h.val + lane.val, by omega⟩) = w g h (ix5 0 0 0 s lane) := by
  rw [pieceS c f 7 1 (offS_inb 7 1) _ _ rfl,
    pieceS c f 7 0 (offS_inb 7 0) _ _ rfl,
    pieceS c f 6 1 (offS_inb 6 1) _ _ rfl,
    pieceS c f 6 0 (offS_inb 6 0) _ _ rfl,
    pieceS c f 5 1 (offS_inb 5 1) _ _ rfl,
    pieceS c f 5 0 (offS_inb 5 0) _ _ rfl,
    pieceS c f 4 1 (offS_inb 4 1) _ _ rfl,
    pieceS c f 4 0 (offS_inb 4 0) _ _ rfl,
    pieceS c f 3 1 (offS_inb 3 1) _ _ rfl,
    pieceS c f 3 0 (offS_inb 3 0) _ _ rfl,
    pieceS c f 2 1 (offS_inb 2 1) _ _ rfl,
    pieceS c f 2 0 (offS_inb 2 0) _ _ rfl,
    pieceS c f 1 1 (offS_inb 1 1) _ _ rfl,
    pieceS c f 1 0 (offS_inb 1 0) _ _ rfl,
    pieceS c f 0 1 (offS_inb 0 1) _ _ rfl,
    pieceS c f 0 0 (offS_inb 0 0) _ _ rfl]
  fin_cases g <;> fin_cases h <;> rfl

end Pieces

/-- A block of the statistics' input tile, as rows. -/
def fillPay (M : Memref sig .tc .vmem S1x1x1x64x256 .f32) (X : Buf (Elt Ideal) (M.view.loc (c : Thread nD τ))) (g : Fin 8) (h : Fin 2) : Vec Ideal S1x8x128 .f32 :=
  shapeCast S1x8x128 (headsToRows (F := Ideal) (shapeCast S8x128 (ldAt c M (offS g h) S1x1x1x8x128.size (offS_inb g h) X) shapeCasts_S1x1x1x8x128_S8x128)) shapeCasts_S8x128_S1x8x128

/-- A block of the statistics' scratch, as heads. -/
def sendPay (M : Memref sig .tc .vmem S8x16x128 .f32) (X : Buf (Elt Ideal) (M.view.loc (c : Thread nD τ))) (g : Fin 8) (h : Fin 2) : Vec Ideal S1x1x1x8x128 .f32 :=
  shapeCast S1x1x1x8x128 (rowsToHeads (F := Ideal) (shapeCast S8x128 (ldAt c M (offR g h) S1x8x128.size (offR_inb g h) X) shapeCasts_S1x8x128_S8x128)) shapeCasts_S8x128_S1x1x1x8x128

/-- The statistics of a tile of 256 tokens, as rows of 16 tokens of all eight heads of a group. -/
def AsRows (X : Vec Ideal S1x1x1x64x256 .f32) (M : Vec Ideal S8x16x128 .f32) : Prop :=
  ∀ (g : Fin 8) (row : Fin 16) (lane : Fin 128), M (ix3 g row lane) = X (ix5 0 0 0 ⟨8 * g.val + lane.val % 8, by omega⟩ ⟨16 * row.val + lane.val / 8, by omega⟩)

theorem fill_asRows {M : Memref sig .tc .vmem S8x16x128 .f32} (f : Buf (Elt Ideal) (M.view.loc (c : Thread nD τ))) (N : Memref sig .tc .vmem S1x1x1x64x256 .f32) (X : Buf (Elt Ideal) (N.view.loc (c : Thread nD τ))) :
    AsRows (rdM c N X) (rdM c M (M.view.writes (Elt Ideal) f (blocksR (fillPay c N X)))) := by
  intro g row lane
  have hr : row = ⟨8 * (⟨row.val / 8, by omega⟩ : Fin 2).val + (⟨row.val % 8, by omega⟩ : Fin 8).val, by dsimp only; omega⟩ := Fin.ext (by dsimp only; omega)
  refine (congrArg (fun r => rdM c M _ (ix3 g r lane)) hr).trans ((blocksR_at c f _ g _ _ lane).trans ?_)
  have e : fillPay c N X g ⟨row.val / 8, by omega⟩ (ix3 0 ⟨row.val % 8, by omega⟩ lane)
      = headsToRows (F := Ideal) (shapeCast S8x128 (ldAt c N (offS g ⟨row.val / 8, by omega⟩) S1x1x1x8x128.size (offS_inb g ⟨row.val / 8, by omega⟩) X) shapeCasts_S1x1x1x8x128_S8x128) (ix2 ⟨row.val % 8, by omega⟩ lane) := by
    generalize hx : headsToRows (F := Ideal) _ = y
    pointwise [fillPay, hx]
  rw [e, headsToRows_apply]
  generalize hx : ldAt c N (offS g ⟨row.val / 8, by omega⟩) S1x1x1x8x128.size (offS_inb g ⟨row.val / 8, by omega⟩) X = y
  pointwise
  rw [← hx]
  refine ldAt_at c N _ X rfl _ _ fun a => ?_
  match a with
  | 0 => rfl
  | 1 => rfl
  | 2 => rfl
  | 3 => rfl
  | 4 => show 16 * row.val + lane.val / 8 = 128 * (row.val / 8) + (row.val % 8 * 16 + lane.val / 8); omega

theorem send_asRows {M : Memref sig .tc .vmem S1x1x1x64x256 .f32} (f : Buf (Elt Ideal) (M.view.loc (c : Thread nD τ))) (N : Memref sig .tc .vmem S8x16x128 .f32) (X : Buf (Elt Ideal) (N.view.loc (c : Thread nD τ))) :
    AsRows (rdM c M (M.view.writes (Elt Ideal) f (blocksS (sendPay c N X)))) (rdM c N X) := by
  intro g row lane
  have hr : (⟨16 * row.val + lane.val / 8, by omega⟩ : Fin 256) = ⟨128 * (⟨row.val / 8, by omega⟩ : Fin 2).val + (⟨row.val % 8 * 16 + lane.val / 8, by omega⟩ : Fin 128).val, by dsimp only; omega⟩ := Fin.ext (by dsimp only; omega)
  rw [hr]
  refine Eq.symm ((blocksS_at c f _ g _ ⟨lane.val % 8, by omega⟩ _).trans ?_)
  have e : ∀ (h : Fin 2) (s : Fin 8) (l : Fin 128), sendPay c N X g h (ix5 0 0 0 s l)
      = rowsToHeads (F := Ideal) (shapeCast S8x128 (ldAt c N (offR g h) S1x8x128.size (offR_inb g h) X) shapeCasts_S1x8x128_S8x128) (ix2 s l) := by
    intro h s l
    generalize hx : rowsToHeads (F := Ideal) _ = y
    pointwise [sendPay, hx]
  rw [e, rowsToHeads_apply]
  generalize hx : ldAt c N (offR g ⟨row.val / 8, by omega⟩) S1x8x128.size (offR_inb g ⟨row.val / 8, by omega⟩) X = y
  pointwise
  rw [← hx]
  refine ldAt_at c N _ X rfl _ _ fun a => ?_
  match a with
  | 0 => rfl
  | 1 => show row.val = 8 * (row.val / 8) + (row.val % 8 * 16 + lane.val / 8) / 16; omega
  | 2 => show lane.val = 0 + ((row.val % 8 * 16 + lane.val / 8) % 16 * 8 + lane.val % 8); omega

end Cert.KernelIdeal.Pf
-- ==== Proof.KernelIdeal.Strong.lean ====
/- What the blocks of the body compute. -/
module

public import proofs.«01_k».proof.Proof.KernelIdeal.Fill

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- A loop's effect, when its condition holds; nothing otherwise. -/
def Stp (b : Prop) (R : Rd) (al : Fin 2 → Fin 256 → Fin 64 → Bool) (tb : Fin 4) (M L : Vec Ideal S8x16x128 .f32) (O : Vec Ideal S1x1x1x64x64x128 .f32)
    (M' L' : Vec Ideal S8x16x128 .f32) (O' : Vec Ideal S1x1x1x64x64x128 .f32) : Prop :=
  (b → Upto R al tb M L O 8 M' L' O') ∧ (¬b → M' = M ∧ L' = L ∧ O' = O)

/-- The scratch is filled on the first token tile, and kept on the others. -/
def Filled (tb : Fin 4) (X : Vec Ideal S1x1x1x64x256 .f32) (M M' : Vec Ideal S8x16x128 .f32) : Prop :=
  (tb.val = 0 → AsRows X M') ∧ (tb.val ≠ 0 → M' = M)

/-- The statistics are written out on the last token tile. -/
def Sent (tb : Fin 4) (M : Vec Ideal S8x16x128 .f32) (X : Vec Ideal S1x1x1x64x256 .f32) : Prop :=
  tb.val = 3 → AsRows X M

/-- The table's word for the batch row. -/
def word (X4 : Buf (Elt Ideal) (arg4.view.loc (c : Thread nD τ))) : BitVec 32 := arg4.view.read (Elt Ideal) X4 (ix1 ⟨(i 1).val, (i 1).isLt⟩)

theorem k0_first (tb : Fin 4) : Scalar.cmpi .ne (Scalar.extui (Scalar.cmpi .eq (BitVec.ofNat 32 tb.val) 0#32)) 0#32 = 1#1 ↔ tb.val = 0 := by
  revert tb; decide

theorem upto8 {R : Rd} {al : Fin 2 → Fin 256 → Fin 64 → Bool} {tb : Fin 4} {M L : Vec Ideal S8x16x128 .f32} {O : Vec Ideal S1x1x1x64x64x128 .f32}
    {M' L' : Vec Ideal S8x16x128 .f32} {O' : Vec Ideal S1x1x1x64x64x128 .f32} {k : ℕ} (h : k = 8) (u : Upto R al tb M L O k M' L' O') : Upto R al tb M L O 8 M' L' O' := by
  subst h; exact u

theorem blk1_strong (tb : Fin 4) (htb : tb.val = (i 3).val) (v1 : Elt Ideal .i32) (E : Set ℕ) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ))) (X13 : Buf (Elt Ideal) (arg13.view.loc (c : Thread nD τ))) (X16 : Buf (Elt Ideal) (arg16.view.loc (c : Thread nD τ))) (X17 : Buf (Elt Ideal) (arg17.view.loc (c : Thread nD τ))) :
    iprop(At c arg6 X6 ∗ At c arg7 X7 ∗ At c arg8 X8 ∗ At c arg9 X9 ∗ At c arg10 X10 ∗ At c arg18 X18 ∗ At c arg13 X13 ∗ At c arg16 X16 ∗ At c arg17 X17)
      ⊢ wp frame (wpE (defs₀ (F := Ideal)) Variants.none (c : Thread nD τ) none) E (blk1 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) v1)
        (fun _ => iprop(At c arg6 X6 ∗ At c arg7 X7 ∗ At c arg8 X8 ∗ At c arg9 X9 ∗ At c arg10 X10 ∗ At c arg18 X18 ∗ ∃ Y13, ∃ Y16, ∃ Y17, At c arg13 Y13 ∗ At c arg16 Y16 ∗ At c arg17 Y17 ∗
          ⌜Stp (k0_cond2 i v1 = 1#1) (rdOf c arg6 arg7 arg8 arg9 arg10 arg18 X6 X7 X8 X9 X10 X18) al1 tb (rdM c arg16 X16) (rdM c arg17 X17) (rdM c arg13 X13)
            (rdM c arg16 Y16) (rdM c arg17 Y17) (rdM c arg13 Y13)⌝)) := by
  unfold blk1
  iintro ⟨H6, H7, H8, H9, H10, H18, H13, H16, H17⟩
  by_cases hc : k0_cond2 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun _ => upto8 (by decide) (loop1_upto Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X18 X13 X16 X17 tb htb k0_t1_loop.trips le_rfl), fun h => absurd hc h⟩
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun h => absurd h hc, fun _ => ⟨rfl, rfl, rfl⟩⟩

theorem blk2_strong (tb : Fin 4) (htb : tb.val = (i 3).val) (v1 : Elt Ideal .i32) (E : Set ℕ) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ))) (X13 : Buf (Elt Ideal) (arg13.view.loc (c : Thread nD τ))) (X16 : Buf (Elt Ideal) (arg16.view.loc (c : Thread nD τ))) (X17 : Buf (Elt Ideal) (arg17.view.loc (c : Thread nD τ))) :
    iprop(At c arg6 X6 ∗ At c arg7 X7 ∗ At c arg8 X8 ∗ At c arg9 X9 ∗ At c arg10 X10 ∗ At c arg18 X18 ∗ At c arg13 X13 ∗ At c arg16 X16 ∗ At c arg17 X17)
      ⊢ wp frame (wpE (defs₀ (F := Ideal)) Variants.none (c : Thread nD τ) none) E (blk2 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) v1)
        (fun _ => iprop(At c arg6 X6 ∗ At c arg7 X7 ∗ At c arg8 X8 ∗ At c arg9 X9 ∗ At c arg10 X10 ∗ At c arg18 X18 ∗ ∃ Y13, ∃ Y16, ∃ Y17, At c arg13 Y13 ∗ At c arg16 Y16 ∗ At c arg17 Y17 ∗
          ⌜Stp (k0_cond3 i v1 = 1#1) (rdOf c arg6 arg7 arg8 arg9 arg10 arg18 X6 X7 X8 X9 X10 X18) (al2 tb) tb (rdM c arg16 X16) (rdM c arg17 X17) (rdM c arg13 X13)
            (rdM c arg16 Y16) (rdM c arg17 Y17) (rdM c arg13 Y13)⌝)) := by
  unfold blk2
  iintro ⟨H6, H7, H8, H9, H10, H18, H13, H16, H17⟩
  by_cases hc : k0_cond3 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun _ => upto8 (by decide) (loop2_upto Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X18 X13 X16 X17 tb htb k0_t2_loop.trips le_rfl), fun h => absurd hc h⟩
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun h => absurd h hc, fun _ => ⟨rfl, rfl, rfl⟩⟩

theorem blk3_strong (tb : Fin 4) (htb : tb.val = (i 3).val) (v1 : Elt Ideal .i32) (E : Set ℕ) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ))) (X13 : Buf (Elt Ideal) (arg13.view.loc (c : Thread nD τ))) (X16 : Buf (Elt Ideal) (arg16.view.loc (c : Thread nD τ))) (X17 : Buf (Elt Ideal) (arg17.view.loc (c : Thread nD τ))) :
    iprop(At c arg6 X6 ∗ At c arg7 X7 ∗ At c arg8 X8 ∗ At c arg9 X9 ∗ At c arg10 X10 ∗ At c arg18 X18 ∗ At c arg13 X13 ∗ At c arg16 X16 ∗ At c arg17 X17)
      ⊢ wp frame (wpE (defs₀ (F := Ideal)) Variants.none (c : Thread nD τ) none) E (blk3 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) v1)
        (fun _ => iprop(At c arg6 X6 ∗ At c arg7 X7 ∗ At c arg8 X8 ∗ At c arg9 X9 ∗ At c arg10 X10 ∗ At c arg18 X18 ∗ ∃ Y13, ∃ Y16, ∃ Y17, At c arg13 Y13 ∗ At c arg16 Y16 ∗ At c arg17 Y17 ∗
          ⌜Stp (k0_cond4 i v1 = 1#1) (rdOf c arg6 arg7 arg8 arg9 arg10 arg18 X6 X7 X8 X9 X10 X18) (al3 tb) tb (rdM c arg16 X16) (rdM c arg17 X17) (rdM c arg13 X13)
            (rdM c arg16 Y16) (rdM c arg17 Y17) (rdM c arg13 Y13)⌝)) := by
  unfold blk3
  iintro ⟨H6, H7, H8, H9, H10, H18, H13, H16, H17⟩
  by_cases hc : k0_cond4 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun _ => upto8 (by decide) (loop3_upto Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X18 X13 X16 X17 tb htb k0_t3_loop.trips le_rfl), fun h => absurd hc h⟩
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun h => absurd h hc, fun _ => ⟨rfl, rfl, rfl⟩⟩

theorem blk4_strong (tb : Fin 4) (htb : tb.val = (i 3).val) (v1 : Elt Ideal .i32) (E : Set ℕ) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X18 : Buf (Elt Ideal) (arg18.view.loc (c : Thread nD τ))) (X13 : Buf (Elt Ideal) (arg13.view.loc (c : Thread nD τ))) (X16 : Buf (Elt Ideal) (arg16.view.loc (c : Thread nD τ))) (X17 : Buf (Elt Ideal) (arg17.view.loc (c : Thread nD τ))) :
    iprop(At c arg6 X6 ∗ At c arg7 X7 ∗ At c arg8 X8 ∗ At c arg9 X9 ∗ At c arg10 X10 ∗ At c arg18 X18 ∗ At c arg13 X13 ∗ At c arg16 X16 ∗ At c arg17 X17)
      ⊢ wp frame (wpE (defs₀ (F := Ideal)) Variants.none (c : Thread nD τ) none) E (blk4 i arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 tb.val) v1)
        (fun _ => iprop(At c arg6 X6 ∗ At c arg7 X7 ∗ At c arg8 X8 ∗ At c arg9 X9 ∗ At c arg10 X10 ∗ At c arg18 X18 ∗ ∃ Y13, ∃ Y16, ∃ Y17, At c arg13 Y13 ∗ At c arg16 Y16 ∗ At c arg17 Y17 ∗
          ⌜Stp (k0_cond5 i v1 = 1#1) (rdOf c arg6 arg7 arg8 arg9 arg10 arg18 X6 X7 X8 X9 X10 X18) al4 tb (rdM c arg16 X16) (rdM c arg17 X17) (rdM c arg13 X13)
            (rdM c arg16 Y16) (rdM c arg17 Y17) (rdM c arg13 Y13)⌝)) := by
  unfold blk4
  iintro ⟨H6, H7, H8, H9, H10, H18, H13, H16, H17⟩
  by_cases hc : k0_cond5 i v1 = 1#1
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun _ => upto8 (by decide) (loop4_upto Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X18 X13 X16 X17 tb htb k0_t4_loop.trips le_rfl), fun h => absurd hc h⟩
  · sl_exec (disch := sl_exact hc)
    sl_step
    isplitl [H6]; · iexact H6
    isplitl [H7]; · iexact H7
    isplitl [H8]; · iexact H8
    isplitl [H9]; · iexact H9
    isplitl [H10]; · iexact H10
    isplitl [H18]; · iexact H18
    iexists _, _, _
    isplitl [H13]; · iexact H13
    isplitl [H16]; · iexact H16
    isplitl [H17]; · iexact H17
    ipureintro
    exact ⟨fun h => absurd h hc, fun _ => ⟨rfl, rfl, rfl⟩⟩

theorem copy18 {X18 : Buf (Elt Ideal) (arg18.view.loc (c : Thread nD τ))} {X5 : Buf (Elt Ideal) (arg5.view.loc (c : Thread nD τ))} (r : Fin 4096) (d : Fin 128) :
    rdM c arg18 (arg18.view.writes (Elt Ideal) X18 [⟨Rect.unit ![0, 0] S4096x128.size inb_S4096x128_S4096x128_0_0,
      k0_pay650 (F := Ideal) (ldAt c arg5 ![0, 0, 0, 0, 0] S1x1x1x4096x128.size inb_S1x1x1x4096x128_S1x1x1x4096x128_0_0_0_0_0 X5)⟩]) (ix2 r d) = rdM c arg5 X5 (ix5 0 0 0 r d) := by
  refine (View.read_writes_cons_unit_of_mem arg18.view X18 inb_S4096x128_S4096x128_0_0 _ [] _ (ix2 r d) rfl (fun a => ?_)).trans ?_
  · match a with
    | 0 => show r.val = 0 + r.val; omega
    | 1 => show d.val = 0 + d.val; omega
  · generalize hx : ldAt c arg5 ![0, 0, 0, 0, 0] S1x1x1x4096x128.size inb_S1x1x1x4096x128_S1x1x1x4096x128_0_0_0_0_0 X5 = y
    pointwise [k0_pay650]
    rw [← hx]
    refine ldAt_at c arg5 _ X5 rfl _ _ fun a => ?_
    match a with
    | 0 => rfl
    | 1 => rfl
    | 2 => rfl
    | 3 => show r.val = 0 + r.val; omega
    | 4 => show d.val = 0 + d.val; omega

theorem word_eq (X4 : Buf (Elt Ideal) (arg4.view.loc (c : Thread nD τ))) (j : S1.Idx) :
    ldAt c arg4 (k0_off1 i) S1.size (k0_off1_inb i) X4 j = word c i arg4 X4 :=
  ldAt_at c arg4 _ X4 (k0_off1_eq i) j _ fun a => by
    match a with
    | 0 =>
      have h := (j 0).isLt
      have h' : (j 0).val < 1 := h
      show (i 1).val = (i 1).val + (j 0).val
      omega

theorem copy13 {X13 : Buf (Elt Ideal) (arg13.view.loc (c : Thread nD τ))} {X10 : Buf (Elt Ideal) (arg10.view.loc (c : Thread nD τ))} :
    rdM c arg13 (arg13.view.writes (Elt Ideal) X13 [⟨Rect.unit ![0, 0, 0, 0, 0, 0] S1x1x1x64x64x128.size inb_S1x1x1x64x64x128_S1x1x1x64x64x128_0_0_0_0_0_0,
      k0_pay8 (F := Ideal) (ldAt c arg10 ![0, 0, 0, 0, 0, 0] S1x1x1x64x64x128.size inb_S1x1x1x64x64x128_S1x1x1x64x64x128_0_0_0_0_0_0 X10)⟩]) = rdM c arg10 X10 := by
  funext y
  refine (View.read_writes_cons_unit_of_mem arg13.view X13 inb_S1x1x1x64x64x128_S1x1x1x64x64x128_0_0_0_0_0_0 _ [] _ y rfl (fun a => ?_)).trans ?_
  · fin_cases a <;> exact (Nat.zero_add _).symm
  · generalize hx : ldAt c arg10 ![0, 0, 0, 0, 0, 0] S1x1x1x64x64x128.size inb_S1x1x1x64x64x128_S1x1x1x64x64x128_0_0_0_0_0_0 X10 = z
    have e : k0_pay8 (F := Ideal) z y = z y := by
      idx_vars y
      pointwise [k0_pay8]
    refine e.trans ?_
    rw [← hx]
    refine ldAt_at c arg10 _ X10 rfl _ _ fun a => ?_
    fin_cases a <;> exact (Nat.zero_add _).symm

theorem blk5_strong (v1 : Elt Ideal .i32) (E : Set ℕ) (X10 : Buf (Elt Ideal) (arg10.view.loc (c : Thread nD τ))) (X13 : Buf (Elt Ideal) (arg13.view.loc (c : Thread nD τ))) :
    iprop(At c arg10 X10 ∗ At c arg13 X13)
      ⊢ wp frame (wpE (defs₀ (F := Ideal)) Variants.none (c : Thread nD τ) none) E (blk5 i arg10 arg13 v1)
        (fun _ => iprop(At c arg10 X10 ∗ ∃ Y13, At c arg13 Y13 ∗
          ⌜(k0_cond6 i v1 = 1#1 → rdM c arg13 Y13 = rdM c arg10 X10) ∧ (¬k0_cond6 i v1 = 1#1 → Y13 = X13)⌝)) := by
  unfold blk5
  iintro ⟨H10, H13⟩
  by_cases hc : k0_cond6 i v1 = 1#1
  · sl_exec (disch := sl_exact hc)
    sl_step
    isplitl [H10]; · iexact H10
    iexists _
    isplitl [H13]; · iexact H13
    ipureintro
    exact ⟨fun _ => copy13 c arg10 arg13, fun h => absurd hc h⟩
  · sl_exec (disch := sl_exact hc)
    sl_step
    isplitl [H10]; · iexact H10
    iexists _
    isplitl [H13]; · iexact H13
    ipureintro
    exact ⟨fun h => absurd h hc, fun _ => rfl⟩

theorem blk6_strong (tb : Fin 4) (htb : tb.val = (i 3).val) (E : Set ℕ) (X14 : Buf (Elt Ideal) (arg14.view.loc (c : Thread nD τ))) (X15 : Buf (Elt Ideal) (arg15.view.loc (c : Thread nD τ))) (X16 : Buf (Elt Ideal) (arg16.view.loc (c : Thread nD τ))) (X17 : Buf (Elt Ideal) (arg17.view.loc (c : Thread nD τ))) :
    iprop(At c arg14 X14 ∗ At c arg15 X15 ∗ At c arg16 X16 ∗ At c arg17 X17)
      ⊢ wp frame (wpE (defs₀ (F := Ideal)) Variants.none (c : Thread nD τ) none) E (blk6 i arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(At c arg16 X16 ∗ At c arg17 X17 ∗ ∃ Y14, ∃ Y15, At c arg14 Y14 ∗ At c arg15 Y15 ∗
          ⌜Sent tb (rdM c arg16 X16) (rdM c arg14 Y14) ∧ Sent tb (rdM c arg17 X17) (rdM c arg15 Y15)⌝)) := by
  unfold blk6
  iintro ⟨H14, H15, H16, H17⟩
  by_cases hc : k0_cond7 i = 1#1
  · sl_exec (disch := sl_exact hc)
    sl_step
    isplitl [H16]; · iexact H16
    isplitl [H17]; · iexact H17
    iexists _, _
    isplitl [H14]; · iexact H14
    isplitl [H15]; · iexact H15
    ipureintro
    exact ⟨fun _ => send_asRows c X14 arg16 X16, fun _ => send_asRows c X15 arg17 X17⟩
  · sl_exec (disch := sl_exact hc)
    sl_step
    isplitl [H16]; · iexact H16
    isplitl [H17]; · iexact H17
    iexists _, _
    isplitl [H14]; · iexact H14
    isplitl [H15]; · iexact H15
    ipureintro
    have hn : ¬tb.val = 3 := fun e => hc (by
      have e3 : i 3 = (3 : Fin 4) := Fin.ext (htb.symm.trans e)
      unfold k0_cond7
      rw [e3]; rfl)
    exact ⟨fun h => absurd h hn, fun h => absurd h hn⟩

theorem part212_strong (tb : Fin 4) (htb : tb.val = (i 3).val) (E : Set ℕ) (X4 : Buf (Elt Ideal) (arg4.view.loc (c : Thread nD τ))) (X5 : Buf (Elt Ideal) (arg5.view.loc (c : Thread nD τ))) (X11 : Buf (Elt Ideal) (arg11.view.loc (c : Thread nD τ))) (X12 : Buf (Elt Ideal) (arg12.view.loc (c : Thread nD τ))) (X16 : Buf (Elt Ideal) (arg16.view.loc (c : Thread nD τ))) (X17 : Buf (Elt Ideal) (arg17.view.loc (c : Thread nD τ))) (X18 : Buf (Elt Ideal) (arg18.view.loc (c : Thread nD τ))) :
    iprop(Tab c arg4 X4 ∗ At c arg5 X5 ∗ At c arg11 X11 ∗ At c arg12 X12 ∗ At c arg16 X16 ∗ At c arg17 X17 ∗ At c arg18 X18)
      ⊢ wp frame (wpE (defs₀ (F := Ideal)) Variants.none (c : Thread nD τ) none) E (k0_part212 (F := Ideal) i arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun x => iprop(Tab c arg4 X4 ∗ At c arg5 X5 ∗ At c arg11 X11 ∗ At c arg12 X12 ∗ ∃ Y16, ∃ Y17, ∃ Y18, At c arg16 Y16 ∗ At c arg17 Y17 ∗ At c arg18 Y18 ∗
          ⌜x.1 = BitVec.ofNat 32 tb.val ∧ x.2.1 = word c i arg4 X4 ∧ Filled tb (rdM c arg11 X11) (rdM c arg16 X16) (rdM c arg16 Y16) ∧ Filled tb (rdM c arg12 X12) (rdM c arg17 X17) (rdM c arg17 Y17) ∧
            ∀ (r : Fin 4096) (d : Fin 128), rdM c arg18 Y18 (ix2 r d) = rdM c arg5 X5 (ix5 0 0 0 r d)⌝)) := by
  rw [k0_part212_eq_skeleton]; unfold k0_part212_skel
  iintro ⟨H4, H5, H11, H12, H16, H17, H18⟩
  by_cases hc : Scalar.cmpi .ne (Scalar.extui (Scalar.cmpi .eq (BitVec.ofNat 32 (i 3).val) 0#32)) 0#32 = 1#1
  · sl_exec (disch := sl_exact hc)
    sl_step
    isplitl [H4]; · iexact H4
    isplitl [H5]; · iexact H5
    isplitl [H11]; · iexact H11
    isplitl [H12]; · iexact H12
    iexists _, _, _
    isplitl [H16]; · iexact H16
    isplitl [H17]; · iexact H17
    isplitl [H18]; · iexact H18
    ipureintro
    have h0 : tb.val = 0 := (k0_first tb).mp (by rw [htb]; exact hc)
    refine ⟨?_, ?_, ⟨fun _ => fill_asRows c X16 arg11 X11, fun h => absurd h0 h⟩, ⟨fun _ => fill_asRows c X17 arg12 X12, fun h => absurd h0 h⟩, ?_⟩
    · exact congrArg (BitVec.ofNat 32) htb.symm
    · exact word_eq c i arg4 X4 _
    · exact copy18 c arg5 arg18
  · sl_exec (disch := sl_exact hc)
    sl_step
    isplitl [H4]; · iexact H4
    isplitl [H5]; · iexact H5
    isplitl [H11]; · iexact H11
    isplitl [H12]; · iexact H12
    iexists _, _, _
    isplitl [H16]; · iexact H16
    isplitl [H17]; · iexact H17
    isplitl [H18]; · iexact H18
    ipureintro
    have h0 : ¬tb.val = 0 := fun h => hc (by rw [← htb]; exact (k0_first tb).mpr h)
    refine ⟨?_, ?_, ⟨fun h => absurd h h0, fun _ => rfl⟩, ⟨fun h => absurd h h0, fun _ => rfl⟩, ?_⟩
    · exact congrArg (BitVec.ofNat 32) htb.symm
    · exact word_eq c i arg4 X4 _
    · exact copy18 c arg5 arg18

end Cert.KernelIdeal.Pf
-- ==== Proof.KernelIdeal.Body.lean ====
/- What the body computes at a grid point. -/
module

public import proofs.«01_k».proof.Proof.KernelIdeal.Strong

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (c : Dev nD) (i : grid0.Coords)
  (arg4 : Memref sig .tc .smem S3 .i32) (harg4 : arg4.IsWhole)
  (arg5 : Memref sig .tc .vmem S1x1x1x4096x128 .fp8e4m3) (harg5 : arg5.IsWhole)
  (arg6 : Memref sig .tc .vmem S1x1x8x512x128 .fp8e4m3) (harg6 : arg6.IsWhole)
  (arg7 : Memref sig .tc .vmem S1x1x8x128x512 .fp8e4m3) (harg7 : arg7.IsWhole)
  (arg8 : Memref sig .tc .vmem S1x1x1x16x128 .f32) (harg8 : arg8.IsWhole)
  (arg9 : Memref sig .tc .vmem S1x1x16x128 .f32) (harg9 : arg9.IsWhole)
  (arg10 : Memref sig .tc .vmem S1x1x1x64x64x128 .f32) (harg10 : arg10.IsWhole)
  (arg11 : Memref sig .tc .vmem S1x1x1x64x256 .f32) (harg11 : arg11.IsWhole)
  (arg12 : Memref sig .tc .vmem S1x1x1x64x256 .f32) (harg12 : arg12.IsWhole)
  (arg13 : Memref sig .tc .vmem S1x1x1x64x64x128 .f32) (harg13 : arg13.IsWhole)
  (arg14 : Memref sig .tc .vmem S1x1x1x64x256 .f32) (harg14 : arg14.IsWhole)
  (arg15 : Memref sig .tc .vmem S1x1x1x64x256 .f32) (harg15 : arg15.IsWhole)
  (arg16 : Memref sig .tc .vmem S8x16x128 .f32) (harg16 : arg16.IsWhole)
  (arg17 : Memref sig .tc .vmem S8x16x128 .f32) (harg17 : arg17.IsWhole)
  (arg18 : Memref sig .tc .vmem S4096x128 .fp8e4m3) (harg18 : arg18.IsWhole)

/-- What the unit reads, from the tiles. -/
def rdW (x5 : Vec Ideal S1x1x1x4096x128 .fp8e4m3) (x6 : Vec Ideal S1x1x8x512x128 .fp8e4m3) (x7 : Vec Ideal S1x1x8x128x512 .fp8e4m3) (x8 : Vec Ideal S1x1x1x16x128 .f32)
    (x9 : Vec Ideal S1x1x16x128 .f32) (x10 : Vec Ideal S1x1x1x64x64x128 .f32) : Rd :=
  ⟨fun y => x5 (ix5 0 0 0 (y 0) (y 1)), x6, x7, x8, x9, x10⟩

/-- The body, block after block. -/
def Bodied (i : grid0.Coords) (tb : Fin 4) (w : BitVec 32) (R : Rd) (x11 x12 : Vec Ideal S1x1x1x64x256 .f32) (M L M' L' : Vec Ideal S8x16x128 .f32)
    (O' : Vec Ideal S1x1x1x64x64x128 .f32) (mo lo : Vec Ideal S1x1x1x64x256 .f32) : Prop :=
  ∃ M0 L0 O0 M1 L1 O1 M2 L2 O2 M3 L3 O3 O4, Filled tb x11 M M0 ∧ Filled tb x12 L L0 ∧
    Stp (k0_cond2 i w = 1#1) R al1 tb M0 L0 O0 M1 L1 O1 ∧ Stp (k0_cond3 i w = 1#1) R (al2 tb) tb M1 L1 O1 M2 L2 O2 ∧
    Stp (k0_cond4 i w = 1#1) R (al3 tb) tb M2 L2 O2 M3 L3 O3 ∧ Stp (k0_cond5 i w = 1#1) R al4 tb M3 L3 O3 M' L' O4 ∧
    (k0_cond6 i w = 1#1 → O' = R.oi) ∧ (¬k0_cond6 i w = 1#1 → O' = O4) ∧ Sent tb M' mo ∧ Sent tb L' lo

set_option maxHeartbeats 2000000 in
theorem body_strong (tb : Fin 4) (htb : tb.val = (i 3).val) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X11 : Buf (Elt Ideal) (arg11.view.loc (c : Thread nD τ))) (X12 : Buf (Elt Ideal) (arg12.view.loc (c : Thread nD τ))) (X13 : Buf (Elt Ideal) (arg13.view.loc (c : Thread nD τ))) (X14 : Buf (Elt Ideal) (arg14.view.loc (c : Thread nD τ))) (X15 : Buf (Elt Ideal) (arg15.view.loc (c : Thread nD τ))) (X16 : Buf (Elt Ideal) (arg16.view.loc (c : Thread nD τ))) (X17 : Buf (Elt Ideal) (arg17.view.loc (c : Thread nD τ))) (X18 : Buf (Elt Ideal) (arg18.view.loc (c : Thread nD τ))) :
    iprop(Tab c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 X14 ∗ At c arg15 X15 ∗ At c arg16 X16 ∗ At c arg17 X17 ∗ At c arg18 X18)
      ⊢ wp frame (wpE (defs₀ (F := Ideal)) Variants.none (c : Thread nD τ) none) Set.univ (cc0_zigzag_step (F := Ideal) i arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(Tab c arg4 X4 ∗ At c arg5 X5 ∗ At c arg6 X6 ∗ At c arg7 X7 ∗ At c arg8 X8 ∗ At c arg9 X9 ∗ At c arg10 X10 ∗ At c arg11 X11 ∗ At c arg12 X12 ∗ ∃ Y13, ∃ Y14, ∃ Y15, ∃ Y16, ∃ Y17, ∃ Y18, At c arg13 Y13 ∗ At c arg14 Y14 ∗ At c arg15 Y15 ∗ At c arg16 Y16 ∗ At c arg17 Y17 ∗ At c arg18 Y18 ∗
          ⌜Bodied i tb (word c i arg4 X4) (rdW (rdM c arg5 X5) (rdM c arg6 X6) (rdM c arg7 X7) (rdM c arg8 X8) (rdM c arg9 X9) (rdM c arg10 X10)) (rdM c arg11 X11) (rdM c arg12 X12) (rdM c arg16 X16) (rdM c arg17 X17)
            (rdM c arg16 Y16) (rdM c arg17 Y17) (rdM c arg13 Y13) (rdM c arg14 Y14) (rdM c arg15 Y15)⌝)) := by
  rw [body_blocks]
  iintro ⟨H4, H5, H6, H7, H8, H9, H10, H11, H12, H13, H14, H15, H16, H17, H18⟩
  rw [wp_bind]
  iapply (wp_wand_r Idealize.ShloMosaic.frame (wpE (defs₀ (F := Ideal)) Variants.none (c : Thread nD τ) none) Set.univ)
  isplitl [H4 H5 H11 H12 H16 H17 H18]
  · iapply (part212_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb Set.univ X4 X5 X11 X12 X16 X17 X18)
    isplitl [H4]; · iexact H4
    isplitl [H5]; · iexact H5
    isplitl [H11]; · iexact H11
    isplitl [H12]; · iexact H12
    isplitl [H16]; · iexact H16
    isplitl [H17]; · iexact H17
    iexact H18
  iintro %x ⟨H4, H5, H11, H12, %A16, %A17, %Y18, H16, H17, H18, %hp⟩
  obtain ⟨e1, e2, f16, f17, h18⟩ := hp
  rw [e1, e2]
  have hR : rdOf c arg6 arg7 arg8 arg9 arg10 arg18 X6 X7 X8 X9 X10 Y18 = rdW (rdM c arg5 X5) (rdM c arg6 X6) (rdM c arg7 X7) (rdM c arg8 X8) (rdM c arg9 X9) (rdM c arg10 X10) := by
    unfold rdOf rdW
    congr 1
    funext y
    idx_vars y
    exact h18 _ _
  rw [wp_bind]
  iapply (wp_wand_r Idealize.ShloMosaic.frame (wpE (defs₀ (F := Ideal)) Variants.none (c : Thread nD τ) none) Set.univ)
  isplitl [H6 H7 H8 H9 H10 H18 H13 H16 H17]
  · iapply (blk1_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb _ Set.univ X6 X7 X8 X9 X10 Y18 X13 A16 A17)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, %B113, %B116, %B117, H13, H16, H17, %q1⟩
  rw [wp_bind]
  iapply (wp_wand_r Idealize.ShloMosaic.frame (wpE (defs₀ (F := Ideal)) Variants.none (c : Thread nD τ) none) Set.univ)
  isplitl [H6 H7 H8 H9 H10 H18 H13 H16 H17]
  · iapply (blk2_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb _ Set.univ X6 X7 X8 X9 X10 Y18 B113 B116 B117)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, %B213, %B216, %B217, H13, H16, H17, %q2⟩
  rw [wp_bind]
  iapply (wp_wand_r Idealize.ShloMosaic.frame (wpE (defs₀ (F := Ideal)) Variants.none (c : Thread nD τ) none) Set.univ)
  isplitl [H6 H7 H8 H9 H10 H18 H13 H16 H17]
  · iapply (blk3_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb _ Set.univ X6 X7 X8 X9 X10 Y18 B213 B216 B217)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, %B313, %B316, %B317, H13, H16, H17, %q3⟩
  rw [wp_bind]
  iapply (wp_wand_r Idealize.ShloMosaic.frame (wpE (defs₀ (F := Ideal)) Variants.none (c : Thread nD τ) none) Set.univ)
  isplitl [H6 H7 H8 H9 H10 H18 H13 H16 H17]
  · iapply (blk4_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb _ Set.univ X6 X7 X8 X9 X10 Y18 B313 B316 B317)
    isplitl [H6]; · iexact H6
    isplitl [H7]; · iexact H7
    isplitl [H8]; · iexact H8
    isplitl [H9]; · iexact H9
    isplitl [H10]; · iexact H10
    isplitl [H18]; · iexact H18
    isplitl [H13]; · iexact H13
    isplitl [H16]; · iexact H16
    iexact H17
  iintro %_ ⟨H6, H7, H8, H9, H10, H18, %B413, %B416, %B417, H13, H16, H17, %q4⟩
  rw [wp_bind]
  iapply (wp_wand_r Idealize.ShloMosaic.frame (wpE (defs₀ (F := Ideal)) Variants.none (c : Thread nD τ) none) Set.univ)
  isplitl [H10 H13]
  · iapply (blk5_strong c i arg10 arg13 _ Set.univ X10 B413)
    isplitl [H10]; · iexact H10
    iexact H13
  iintro %_ ⟨H10, %Y13, H13, %q5⟩
  rw [wp_bind]
  iapply (wp_wand_r Idealize.ShloMosaic.frame (wpE (defs₀ (F := Ideal)) Variants.none (c : Thread nD τ) none) Set.univ)
  isplitl [H14 H15 H16 H17]
  · iapply (blk6_strong c i arg4 harg4 arg5 harg5 arg6 harg6 arg7 harg7 arg8 harg8 arg9 harg9 arg10 harg10 arg11 harg11 arg12 harg12 arg13 harg13 arg14 harg14 arg15 harg15 arg16 harg16 arg17 harg17 arg18 harg18 tb htb Set.univ X14 X15 B416 B417)
    isplitl [H14]; · iexact H14
    isplitl [H15]; · iexact H15
    isplitl [H16]; · iexact H16
    iexact H17
  iintro %_ ⟨H16, H17, %Y14, %Y15, H14, H15, %q6⟩
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _, _, _, _, _, _
  isplitl [H13]; · iexact H13
  isplitl [H14]; · iexact H14
  isplitl [H15]; · iexact H15
  isplitl [H16]; · iexact H16
  isplitl [H17]; · iexact H17
  isplitl [H18]; · iexact H18
  ipureintro
  rw [hR] at q1 q2 q3 q4
  exact ⟨_, _, _, _, _, _, _, _, _, _, _, _, _, f16, f17, q1, q2, q3, q4, q5.1, fun h => congrArg (rdM c arg13) (q5.2 h), q6.1, q6.2⟩

end Cert.KernelIdeal.Pf
-- ==== Proof.KernelIdeal.Cases.lean ====
/- Which branch a grid point takes, and what it leaves: the body's blocks collapsed to one update. -/
module

public import proofs.«01_k».proof.Proof.KernelIdeal.Body

@[expose] public section

set_option maxRecDepth 65536
set_option maxHeartbeats 1000000

noncomputable section

namespace Cert.KernelIdeal.Pf

open Cert.KernelIdeal Cert.KernelIdeal.Gen
open Idealize.ShloMosaic Idealize.ShloMosaic.TcCoe

/-- The rank whose keys are in hand: the own rank less the step, modulo the ring. -/
def srcW (r : ℕ) (w : BitVec 32) : BitVec 32 :=
  Scalar.remsi (Scalar.addi (Scalar.remsi (Scalar.subi (BitVec.ofNat 32 r) w) 4#32) 4#32) 4#32

/-- How that rank compares with the own one: below, equal, above. -/
def cls (r : ℕ) (w : BitVec 32) : Fin 3 :=
  if Scalar.cmpi .slt (srcW r w) (BitVec.ofNat 32 r) = 1#1 then 0
  else if Scalar.cmpi .eq (srcW r w) (BitVec.ofNat 32 r) = 1#1 then 1 else 2

/-- Early queries against a later rank's keys attend to nothing. -/
def skipI (r j : ℕ) (w : BitVec 32) : Bool := decide (j = 0 ∧ cls r w = 2)

/-- What the queries attend to otherwise. -/
def alI (r j : ℕ) (w : BitVec 32) (tb : Fin 4) : Fin 2 → Fin 256 → Fin 64 → Bool :=
  if cls r w = 0 then al1 else if cls r w = 1 then (if j = 0 then al2 tb else al3 tb) else al4

theorem j_first (j : Fin 2) : Scalar.cmpi .eq (BitVec.ofNat 32 j.val) 0#32 = if j.val = 0 then 1#1 else 0#1 := by
  revert j; decide

theorem cond2_iff (i : grid0.Coords) (w : BitVec 32) : k0_cond2 i w = 1#1 ↔ cls (i 0).val w = 0 := by
  have hj := j_first (i 2)
  unfold k0_cond2 cls srcW
  dsimp only
  rw [hj]
  generalize Scalar.cmpi .slt _ _ = A
  generalize Scalar.cmpi .eq _ (BitVec.ofNat 32 (i 0).val) = B
  split <;> revert A B <;> decide

theorem cond3_iff (i : grid0.Coords) (w : BitVec 32) : k0_cond3 i w = 1#1 ↔ (i 2).val = 0 ∧ cls (i 0).val w = 1 := by
  have hj := j_first (i 2)
  unfold k0_cond3 cls srcW
  dsimp only
  rw [hj]
  generalize Scalar.cmpi .slt _ _ = A
  generalize Scalar.cmpi .eq _ (BitVec.ofNat 32 (i 0).val) = B
  split <;> rename_i h <;> simp only [h, true_and, false_and] <;> revert A B <;> decide

theorem cond4_iff (i : grid0.Coords) (w : BitVec 32) : k0_cond4 i w = 1#1 ↔ ¬(i 2).val = 0 ∧ cls (i 0).val w = 1 := by
  have hj := j_first (i 2)
  unfold k0_cond4 cls srcW
  dsimp only
  rw [hj]
  generalize Scalar.cmpi .slt _ _ = A
  generalize Scalar.cmpi .eq _ (BitVec.ofNat 32 (i 0).val) = B
  split <;> rename_i h <;> simp only [h, not_true_eq_false, not_false_eq_true, true_and, false_and] <;> revert A B <;> decide

theorem cond5_iff (i : grid0.Coords) (w : BitVec 32) : k0_cond5 i w = 1#1 ↔ ¬(i 2).val = 0 ∧ cls (i 0).val w = 2 := by
  have hj := j_first (i 2)
  unfold k0_cond5 cls srcW
  dsimp only
  rw [hj]
  generalize Scalar.cmpi .slt _ _ = A
  generalize Scalar.cmpi .eq _ (BitVec.ofNat 32 (i 0).val) = B
  split <;> rename_i h <;> simp only [h, not_true_eq_false, not_false_eq_true, true_and, false_and] <;> revert A B <;> decide

theorem cond6_iff (i : grid0.Coords) (w : BitVec 32) : k0_cond6 i w = 1#1 ↔ (i 2).val = 0 ∧ cls (i 0).val w = 2 := by
  have hj := j_first (i 2)
  unfold k0_cond6 cls srcW
  dsimp only
  rw [hj]
  generalize Scalar.cmpi .slt _ _ = A
  generalize Scalar.cmpi .eq _ (BitVec.ofNat 32 (i 0).val) = B
  split <;> rename_i h <;> simp only [h, true_and, false_and] <;> revert A B <;> decide

/-- The values a query ends with. -/
def mV (r j : ℕ) (w : BitVec 32) (tb : Fin 4) (R : Rd) (mi : EReal) (t : Fin 64) (g n : Fin 8) : EReal :=
  if skipI r j w then mi else R.mN (alI r j w tb) mi t g n
def lV (r j : ℕ) (w : BitVec 32) (tb : Fin 4) (R : Rd) (li mi : EReal) (t : Fin 64) (g n : Fin 8) : EReal :=
  if skipI r j w then li else R.lN (alI r j w tb) li mi t g n
def oV (r j : ℕ) (w : BitVec 32) (tb : Fin 4) (R : Rd) (mi : EReal) (t : Fin 64) (g n : Fin 8) (d : Fin 128) : EReal :=
  if skipI r j w then R.oi (ix6 0 0 0 t ⟨8 * g.val + n.val, by omega⟩ d) else R.oN (alI r j w tb) mi t g n d

/-- One update of the scratch and of the outputs. -/
structure Upd (r j : ℕ) (w : BitVec 32) (tb : Fin 4) (R : Rd) (M0 L0 M L : Vec Ideal S8x16x128 .f32) (O : Vec Ideal S1x1x1x64x64x128 .f32) : Prop where
  m : ∀ (g : Fin 8) (row : Fin 16) (lane : Fin 128), M (ix3 g row lane) = if row.val / 4 = tb.val then
    mV r j w tb R (M0 (ix3 g row lane)) ⟨row.val % 4 * 16 + lane.val / 8, by omega⟩ g ⟨lane.val % 8, by omega⟩ else M0 (ix3 g row lane)
  l : ∀ (g : Fin 8) (row : Fin 16) (lane : Fin 128), L (ix3 g row lane) = if row.val / 4 = tb.val then
    lV r j w tb R (L0 (ix3 g row lane)) (M0 (ix3 g row lane)) ⟨row.val % 4 * 16 + lane.val / 8, by omega⟩ g ⟨lane.val % 8, by omega⟩ else L0 (ix3 g row lane)
  o : ∀ (t h : Fin 64) (d : Fin 128), O (ix6 0 0 0 t h d) =
    oV r j w tb R (M0 (ix3 ⟨h.val / 8, by omega⟩ ⟨4 * tb.val + t.val / 16, by omega⟩ ⟨t.val % 16 * 8 + h.val % 8, by omega⟩)) t ⟨h.val / 8, by omega⟩ ⟨h.val % 8, by omega⟩ d

theorem Upd.of_upto {r j : ℕ} {w : BitVec 32} {tb : Fin 4} {R : Rd} {M0 L0 M L : Vec Ideal S8x16x128 .f32} {O0 O : Vec Ideal S1x1x1x64x64x128 .f32}
    {al : Fin 2 → Fin 256 → Fin 64 → Bool} (hs : skipI r j w = false) (ha : alI r j w tb = al) (h : Upto R al tb M0 L0 O0 8 M L O) : Upd r j w tb R M0 L0 M L O where
  m g row lane := by
    rw [h.m]; unfold mV; rw [hs, ha]
    simp only [g.isLt, true_and, Bool.false_eq_true, if_false]
  l g row lane := by
    rw [h.l]; unfold lV; rw [hs, ha]
    simp only [g.isLt, true_and, Bool.false_eq_true, if_false]
  o t hd d := by
    have e : hd.val / 8 < 8 := by omega
    rw [h.o, if_pos e]; unfold oV; rw [hs, ha]
    simp only [Bool.false_eq_true, if_false]

theorem bodied_upd {i : grid0.Coords} {tb : Fin 4} {w : BitVec 32} {R : Rd} {x11 x12 : Vec Ideal S1x1x1x64x256 .f32} {M L M' L' : Vec Ideal S8x16x128 .f32}
    {O' : Vec Ideal S1x1x1x64x64x128 .f32} {mo lo : Vec Ideal S1x1x1x64x256 .f32} (h : Bodied i tb w R x11 x12 M L M' L' O' mo lo) :
    ∃ M0 L0, Filled tb x11 M M0 ∧ Filled tb x12 L L0 ∧ Upd (i 0).val (i 2).val w tb R M0 L0 M' L' O' ∧ Sent tb M' mo ∧ Sent tb L' lo := by
  obtain ⟨M0, L0, O0, M1, L1, O1, M2, L2, O2, M3, L3, O3, O4, f1, f2, s2, s3, s4, s5, o6, o6', sm, sl⟩ := h
  refine ⟨M0, L0, f1, f2, ?_, sm, sl⟩
  unfold Stp at s2 s3 s4 s5
  rw [cond2_iff] at s2
  rw [cond3_iff] at s3
  rw [cond4_iff] at s4
  rw [cond5_iff] at s5
  rw [cond6_iff] at o6 o6'
  have key : ∀ k : Fin 3, k = 0 ∨ k = 1 ∨ k = 2 := by decide
  have n10 : ¬(1 : Fin 3) = 0 := by decide
  have n20 : ¬(2 : Fin 3) = 0 := by decide
  have n21 : ¬(2 : Fin 3) = 1 := by decide
  rcases key (cls (i 0).val w) with hc | hc | hc
  · rw [hc] at s2 s3 s4 s5 o6 o6'
    obtain ⟨rfl, rfl, rfl⟩ := s3.2 fun h => absurd h.2 (by decide)
    obtain ⟨rfl, rfl, rfl⟩ := s4.2 fun h => absurd h.2 (by decide)
    obtain ⟨rfl, rfl, rfl⟩ := s5.2 fun h => absurd h.2 (by decide)
    obtain rfl := o6' fun h => absurd h.2 (by decide)
    exact .of_upto (by unfold skipI; rw [hc]; exact decide_eq_false fun h => absurd h.2 (by decide)) (by unfold alI; rw [hc]; rfl) (s2.1 rfl)
  · rw [hc] at s2 s3 s4 s5 o6 o6'
    obtain ⟨rfl, rfl, rfl⟩ := s2.2 n10
    obtain ⟨rfl, rfl, rfl⟩ := s5.2 fun h => absurd h.2 (by decide)
    obtain rfl := o6' fun h => absurd h.2 (by decide)
    have hs : skipI (i 0).val (i 2).val w = false := by unfold skipI; rw [hc]; exact decide_eq_false fun h => absurd h.2 (by decide)
    by_cases hj : (i 2).val = 0
    · obtain ⟨rfl, rfl, rfl⟩ := s4.2 fun h => h.1 hj
      exact .of_upto hs (by unfold alI; rw [hc, if_neg n10, if_pos rfl, if_pos hj]) (s3.1 ⟨hj, rfl⟩)
    · obtain ⟨rfl, rfl, rfl⟩ := s3.2 fun h => hj h.1
      exact .of_upto hs (by unfold alI; rw [hc, if_neg n10, if_pos rfl, if_neg hj]) (s4.1 ⟨hj, rfl⟩)
  · rw [hc] at s2 s3 s4 s5 o6 o6'
    obtain ⟨rfl, rfl, rfl⟩ := s2.2 n20
    obtain ⟨rfl, rfl, rfl⟩ := s3.2 fun h => n21 h.2
    obtain ⟨rfl, rfl, rfl⟩ := s4.2 fun h => n21 h.2
    by_cases hj : (i 2).val = 0
    · have hs : skipI (i 0).val (i 2).val w = true := by unfold skipI; rw [hc]; exact decide_eq_true ⟨hj, rfl⟩
      obtain ⟨rfl, rfl, rfl⟩ := s5.2 fun h => h.1 hj
      obtain rfl := o6 ⟨hj, rfl⟩
      refine ⟨fun g row lane => ?_, fun g row lane => ?_, fun t hd d => ?_⟩
      · unfold mV; rw [hs, if_pos rfl]; split <;> rfl
      · unfold lV; rw [hs, if_pos rfl]; split <;> rfl
      · unfold oV; rw [hs, if_pos rfl]
        exact congrArg (fun a => R.oi (ix6 0 0 0 t a d)) (Fin.ext (by show hd.val = 8 * (hd.val / 8) + hd.val % 8; omega))
    · obtain rfl := o6' fun h => hj h.1
      have hs : skipI (i 0).val (i 2).val w = false := by unfold skipI; exact decide_eq_false fun h => hj h.1
      exact .of_upto hs (by unfold alI; rw [hc, if_neg n20, if_neg n21]) (s5.1 ⟨hj, rfl⟩)

/-- The scratch before token tile `k` of a pass: the rows of the tiles before it hold `μ`, the others still the input. -/
def Carry (k : ℕ) (X : Vec Ideal S1x1x1x64x256 .f32) (μ : Fin 64 → Fin 256 → EReal) (M : Vec Ideal S8x16x128 .f32) : Prop :=
  ∀ (g : Fin 8) (row : Fin 16) (lane : Fin 128), M (ix3 g row lane) =
    if row.val / 4 < k then μ ⟨8 * g.val + lane.val % 8, by omega⟩ ⟨16 * row.val + lane.val / 8, by omega⟩
    else X (ix5 0 0 0 ⟨8 * g.val + lane.val % 8, by omega⟩ ⟨16 * row.val + lane.val / 8, by omega⟩)

theorem carry_filled {tb : Fin 4} {X : Vec Ideal S1x1x1x64x256 .f32} {μ : Fin 64 → Fin 256 → EReal} {M M0 : Vec Ideal S8x16x128 .f32}
    (h : tb.val ≠ 0 → Carry tb.val X μ M) (f : Filled tb X M M0) : Carry tb.val X μ M0 := by
  by_cases h0 : tb.val = 0
  · intro g row lane
    rw [if_neg (by omega), f.1 h0]
  · rw [f.2 h0]; exact h h0

theorem carry_sent {tb : Fin 4} {X : Vec Ideal S1x1x1x64x256 .f32} {μ : Fin 64 → Fin 256 → EReal} {M : Vec Ideal S8x16x128 .f32} {mo : Vec Ideal S1x1x1x64x256 .f32}
    (h : Carry (tb.val + 1) X μ M) (s : Sent tb M mo) (h3 : tb.val = 3) (hd : Fin 64) (τ : Fin 256) : mo (ix5 0 0 0 hd τ) = μ hd τ := by
  have e := s h3 ⟨hd.val / 8, by omega⟩ ⟨τ.val / 16, by omega⟩ ⟨τ.val % 16 * 8 + hd.val % 8, by omega⟩
  have e' := h ⟨hd.val / 8, by omega⟩ ⟨τ.val / 16, by omega⟩ ⟨τ.val % 16 * 8 + hd.val % 8, by omega⟩
  have h1 : (⟨8 * (hd.val / 8) + (τ.val % 16 * 8 + hd.val % 8) % 8, by omega⟩ : Fin 64) = hd := Fin.ext (by dsimp only; omega)
  have h2 : (⟨16 * (τ.val / 16) + (τ.val % 16 * 8 + hd.val % 8) / 8, by omega⟩ : Fin 256) = τ := Fin.ext (by dsimp only; omega)
  dsimp only at e e'
  rw [h1, h2] at e e'
  rw [← e, e', if_pos (by omega)]

/-- A point's update carries the scratch on to the next token tile. -/
theorem upd_carry {r j : ℕ} {w : BitVec 32} {tb : Fin 4} {R : Rd} {x11 x12 : Vec Ideal S1x1x1x64x256 .f32} {μ ν : Fin 64 → Fin 256 → EReal}
    {M0 L0 M L : Vec Ideal S8x16x128 .f32} {O : Vec Ideal S1x1x1x64x64x128 .f32} (hM : Carry tb.val x11 μ M0) (hL : Carry tb.val x12 ν L0) (u : Upd r j w tb R M0 L0 M L O)
    (hμ : ∀ (g n : Fin 8) (t : Fin 64), μ ⟨8 * g.val + n.val, by omega⟩ ⟨64 * tb.val + t.val, by omega⟩
      = mV r j w tb R (x11 (ix5 0 0 0 ⟨8 * g.val + n.val, by omega⟩ ⟨64 * tb.val + t.val, by omega⟩)) t g n)
    (hν : ∀ (g n : Fin 8) (t : Fin 64), ν ⟨8 * g.val + n.val, by omega⟩ ⟨64 * tb.val + t.val, by omega⟩
      = lV r j w tb R (x12 (ix5 0 0 0 ⟨8 * g.val + n.val, by omega⟩ ⟨64 * tb.val + t.val, by omega⟩)) (x11 (ix5 0 0 0 ⟨8 * g.val + n.val, by omega⟩ ⟨64 * tb.val + t.val, by omega⟩)) t g n) :
    Carry (tb.val + 1) x11 μ M ∧ Carry (tb.val + 1) x12 ν L
      ∧ ∀ (t hd : Fin 64) (d : Fin 128), O (ix6 0 0 0 t hd d) = oV r j w tb R (x11 (ix5 0 0 0 hd ⟨64 * tb.val + t.val, by omega⟩)) t ⟨hd.val / 8, by omega⟩ ⟨hd.val % 8, by omega⟩ d := by
  refine ⟨fun g row lane => ?_, fun g row lane => ?_, fun t hd d => ?_⟩
  · rw [u.m, hM]
    have e := hμ g ⟨lane.val % 8, by omega⟩ ⟨row.val % 4 * 16 + lane.val / 8, by omega⟩
    dsimp only at e
    by_cases h1 : row.val / 4 = tb.val
    · have et : (⟨64 * tb.val + (row.val % 4 * 16 + lane.val / 8), by omega⟩ : Fin 256) = ⟨16 * row.val + lane.val / 8, by omega⟩ := Fin.ext (by dsimp only; omega)
      rw [et] at e
      rw [if_pos h1, if_neg (by omega), if_pos (by omega), e]
    · rw [if_neg h1]
      by_cases h2 : row.val / 4 < tb.val
      · rw [if_pos h2, if_pos (by omega)]
      · rw [if_neg h2, if_neg (by omega)]
  · rw [u.l, hL, hM]
    have e := hν g ⟨lane.val % 8, by omega⟩ ⟨row.val % 4 * 16 + lane.val / 8, by omega⟩
    dsimp only at e
    by_cases h1 : row.val / 4 = tb.val
    · have et : (⟨64 * tb.val + (row.val % 4 * 16 + lane.val / 8), by omega⟩ : Fin 256) = ⟨16 * row.val + lane.val / 8, by omega⟩ := Fin.ext (by dsimp only; omega)
      rw [et] at e
      rw [if_pos h1, if_neg (by omega), if_neg (by omega), if_pos (by omega), e]
    · rw [if_neg h1]
      by_cases h2 : row.val / 4 < tb.val
      · rw [if_pos h2, if_pos (by omega)]
      · rw [if_neg h2, if_neg (by omega)]
  · rw [u.o, hM]
    have h1 : (⟨8 * (hd.val / 8) + (t.val % 16 * 8 + hd.val % 8) % 8, by omega⟩ : Fin 64) = hd := Fin.ext (by dsimp only; omega)
    have h2 : (⟨16 * (4 * tb.val + t.val / 16) + (t.val % 16 * 8 + hd.val % 8) / 8, by omega⟩ : Fin 256) = ⟨64 * tb.val + t.val, by omega⟩ := Fin.ext (by dsimp only; omega)
    dsimp only
    rw [if_neg (by omega), h1, h2]

end Cert.KernelIdeal.Pf
-- ==== Proof.KernelIdeal.Tiles.lean ====
/- Which part of each array a grid point's tile is. -/
module

public import proofs.«01_k».proof.Proof.KernelIdeal.Cases
public import proofs.«01_k».proof.Proof.KernelIdeal.Frame
public import Idealize.ShloMosaic.Lib.Pipeline.ValueKit

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic

variable (m : (ℓ : Loc nD τ sig) → Buf (Elt Ideal) ℓ) (hO : Ok m) (c : Dev nD) (t : Fin (cfgM m hO).N)

theorem cr_eq : (((cfgM m hO).grid.coords t) 0).val = t.val / 24 := (by decide +kernel : ∀ t : Fin grid0.N, (grid0.coords t 0).val = t.val / 24) t
theorem cb_eq : (((cfgM m hO).grid.coords t) 1).val = t.val / 8 % 3 := (by decide +kernel : ∀ t : Fin grid0.N, (grid0.coords t 1).val = t.val / 8 % 3) t
theorem cj_eq : (((cfgM m hO).grid.coords t) 2).val = t.val / 4 % 2 := (by decide +kernel : ∀ t : Fin grid0.N, (grid0.coords t 2).val = t.val / 4 % 2) t
theorem ct_eq : (((cfgM m hO).grid.coords t) 3).val = t.val % 4 := (by decide +kernel : ∀ t : Fin grid0.N, (grid0.coords t 3).val = t.val % 4) t

theorem idx0 : ((cfgM m hO).win 0).index t = ![t.val / 24, t.val / 4 % 2, t.val / 8 % 3, t.val % 4, 0] :=
  (by decide +kernel : ∀ t : Fin grid0.N, cc0_transform_0 (grid0.coords t) = ![t.val / 24, t.val / 4 % 2, t.val / 8 % 3, t.val % 4, 0]) t
theorem idx1 : ((cfgM m hO).win 1).index t = ![t.val / 24, t.val / 8 % 3, 0, 0, 0] :=
  (by decide +kernel : ∀ t : Fin grid0.N, cc0_transform_1 (grid0.coords t) = ![t.val / 24, t.val / 8 % 3, 0, 0, 0]) t
theorem idx2 : ((cfgM m hO).win 2).index t = ![t.val / 24, t.val / 8 % 3, 0, 0, 0] :=
  (by decide +kernel : ∀ t : Fin grid0.N, cc0_transform_2 (grid0.coords t) = ![t.val / 24, t.val / 8 % 3, 0, 0, 0]) t
theorem idx3 : ((cfgM m hO).win 3).index t = ![t.val / 24, t.val / 4 % 2, t.val / 8 % 3, 0, 0] :=
  (by decide +kernel : ∀ t : Fin grid0.N, cc0_transform_3 (grid0.coords t) = ![t.val / 24, t.val / 4 % 2, t.val / 8 % 3, 0, 0]) t
theorem idx4 : ((cfgM m hO).win 4).index t = ![t.val / 24, t.val / 8 % 3, 0, 0] :=
  (by decide +kernel : ∀ t : Fin grid0.N, cc0_transform_4 (grid0.coords t) = ![t.val / 24, t.val / 8 % 3, 0, 0]) t
theorem idx5 : ((cfgM m hO).win 5).index t = ![t.val / 24, t.val / 4 % 2, t.val / 8 % 3, t.val % 4, 0, 0] :=
  (by decide +kernel : ∀ t : Fin grid0.N, cc0_transform_5 (grid0.coords t) = ![t.val / 24, t.val / 4 % 2, t.val / 8 % 3, t.val % 4, 0, 0]) t
theorem idx6 : ((cfgM m hO).win 6).index t = ![t.val / 24, t.val / 4 % 2, t.val / 8 % 3, 0, 0] :=
  (by decide +kernel : ∀ t : Fin grid0.N, cc0_transform_6 (grid0.coords t) = ![t.val / 24, t.val / 4 % 2, t.val / 8 % 3, 0, 0]) t
theorem idx7 : ((cfgM m hO).win 7).index t = ![t.val / 24, t.val / 4 % 2, t.val / 8 % 3, 0, 0] :=
  (by decide +kernel : ∀ t : Fin grid0.N, cc0_transform_7 (grid0.coords t) = ![t.val / 24, t.val / 4 % 2, t.val / 8 % 3, 0, 0]) t
theorem idx8 : ((cfgM m hO).win 8).index t = ![t.val / 24, t.val / 4 % 2, t.val / 8 % 3, t.val % 4, 0, 0] :=
  (by decide +kernel : ∀ t : Fin grid0.N, cc0_transform_8 (grid0.coords t) = ![t.val / 24, t.val / 4 % 2, t.val / 8 % 3, t.val % 4, 0, 0]) t
theorem idx9 : ((cfgM m hO).win 9).index t = ![t.val / 24, t.val / 4 % 2, t.val / 8 % 3, 0, 0] :=
  (by decide +kernel : ∀ t : Fin grid0.N, cc0_transform_9 (grid0.coords t) = ![t.val / 24, t.val / 4 % 2, t.val / 8 % 3, 0, 0]) t
theorem idx10 : ((cfgM m hO).win 10).index t = ![t.val / 24, t.val / 4 % 2, t.val / 8 % 3, 0, 0] :=
  (by decide +kernel : ∀ t : Fin grid0.N, cc0_transform_10 (grid0.coords t) = ![t.val / 24, t.val / 4 % 2, t.val / 8 % 3, 0, 0]) t

theorem tval : t.val < 96 := t.isLt

theorem tile0 (y : Fin 4096) (d : Fin 128) : iblk m hO c 0 t (ix5 (n0 := 1) (n1 := 1) (n2 := 1) 0 0 0 y d)
    = V m c main_v0 (ix5 (⟨t.val / 24, by have := tval m hO t; omega⟩ : Fin 4) (⟨t.val / 4 % 2, by omega⟩ : Fin 2) (⟨t.val / 8 % 3, by omega⟩ : Fin 3) (⟨4096 * (t.val % 4) + y.val, by omega⟩ : Fin 16384) d) := by
  blk_ext [iblk, idx0 m hO t]

theorem tile1 (g : Fin 8) (key : Fin 512) (d : Fin 128) : iblk m hO c 1 t (ix5 (n0 := 1) (n1 := 1) 0 0 g key d)
    = V m c main_v2 (ix5 (⟨t.val / 24, by have := tval m hO t; omega⟩ : Fin 4) (⟨t.val / 8 % 3, by omega⟩ : Fin 3) g key d) := by
  blk_ext [iblk, idx1 m hO t]

theorem tile2 (g : Fin 8) (d : Fin 128) (key : Fin 512) : iblk m hO c 2 t (ix5 (n0 := 1) (n1 := 1) 0 0 g d key)
    = V m c main_v4 (ix5 (⟨t.val / 24, by have := tval m hO t; omega⟩ : Fin 4) (⟨t.val / 8 % 3, by omega⟩ : Fin 3) g d key) := by
  blk_ext [iblk, idx2 m hO t]

theorem tile3 (a : Fin 16) (l : Fin 128) : iblk m hO c 3 t (ix5 (n0 := 1) (n1 := 1) (n2 := 1) 0 0 0 a l)
    = V m c main_v14 (ix5 (⟨t.val / 24, by have := tval m hO t; omega⟩ : Fin 4) (⟨t.val / 4 % 2, by omega⟩ : Fin 2) (⟨t.val / 8 % 3, by omega⟩ : Fin 3) a l) := by
  blk_ext [iblk, idx3 m hO t]

theorem tile4 (a : Fin 16) (l : Fin 128) : iblk m hO c 4 t (ix4 (n0 := 1) (n1 := 1) 0 0 a l)
    = V m c main_v19 (ix4 (⟨t.val / 24, by have := tval m hO t; omega⟩ : Fin 4) (⟨t.val / 8 % 3, by omega⟩ : Fin 3) a l) := by
  blk_ext [iblk, idx4 m hO t]

theorem tile5 (s h : Fin 64) (d : Fin 128) : iblk m hO c 5 t (ix6 (n0 := 1) (n1 := 1) (n2 := 1) 0 0 0 s h d)
    = V m c main_arg7 (ix6 (⟨t.val / 24, by have := tval m hO t; omega⟩ : Fin 4) (⟨t.val / 4 % 2, by omega⟩ : Fin 2) (⟨t.val / 8 % 3, by omega⟩ : Fin 3) (⟨64 * (t.val % 4) + s.val, by omega⟩ : Fin 256) h d) := by
  blk_ext [iblk, idx5 m hO t]

theorem tile6 (h : Fin 64) (s : Fin 256) : iblk m hO c 6 t (ix5 (n0 := 1) (n1 := 1) (n2 := 1) 0 0 0 h s)
    = V m c main_arg8 (ix5 (⟨t.val / 24, by have := tval m hO t; omega⟩ : Fin 4) (⟨t.val / 4 % 2, by omega⟩ : Fin 2) (⟨t.val / 8 % 3, by omega⟩ : Fin 3) h s) := by
  blk_ext [iblk, idx6 m hO t]

theorem tile7 (h : Fin 64) (s : Fin 256) : iblk m hO c 7 t (ix5 (n0 := 1) (n1 := 1) (n2 := 1) 0 0 0 h s)
    = V m c main_arg9 (ix5 (⟨t.val / 24, by have := tval m hO t; omega⟩ : Fin 4) (⟨t.val / 4 % 2, by omega⟩ : Fin 2) (⟨t.val / 8 % 3, by omega⟩ : Fin 3) h s) := by
  blk_ext [iblk, idx7 m hO t]

end Cert.KernelIdeal.Pf
-- ==== Proof.KernelIdeal.Value.lean ====
/- What the scratch carries from a token tile to the next, and the proof data of the call. -/
module

public import proofs.«01_k».proof.Proof.KernelIdeal.Tiles
public import Idealize.ShloMosaic.Lib.Pipeline.ArrRel
public import Idealize.ShloMosaic.Lib.Pipeline.DatRel

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The table's word at a point. -/
noncomputable def wd (hO : Ok m) (c : Dev nD) (t : Fin (cfgM m hO).N) : BitVec 32 := word c ((cfgM m hO).grid.coords t) tbM0_0 (tbl m 0)

/-- What a point reads. -/
noncomputable def Rt (hO : Ok m) (c : Dev nD) (t : Fin (cfgM m hO).N) : Rd :=
  rdW (iblk m hO c 0 t) (iblk m hO c 1 t) (iblk m hO c 2 t) (iblk m hO c 3 t) (iblk m hO c 4 t) (iblk m hO c 5 t)

/-- The maxima and sums that a point reads. -/
noncomputable def xm (hO : Ok m) (c : Dev nD) (t : Fin (cfgM m hO).N) : Vec Ideal S1x1x1x64x256 .f32 := iblk m hO c 6 t
noncomputable def xl (hO : Ok m) (c : Dev nD) (t : Fin (cfgM m hO).N) : Vec Ideal S1x1x1x64x256 .f32 := iblk m hO c 7 t

/-- The point of the same pass on token tile `k`. -/
noncomputable def ptOf (hO : Ok m) (t : Fin (cfgM m hO).N) (k : Fin 4) : Fin (cfgM m hO).N := ⟨4 * (t.val / 4) + k.val, by have : t.val < 96 := t.isLt; show _ < 96; omega⟩

theorem ptOf_self (hO : Ok m) (t : Fin (cfgM m hO).N) (h : t.val % 4 < 4) : ptOf m hO t ⟨t.val % 4, h⟩ = t :=
  Fin.ext (by show 4 * (t.val / 4) + t.val % 4 = t.val; omega)

theorem ptOf_congr (hO : Ok m) {t t' : Fin (cfgM m hO).N} (h : t.val / 4 = t'.val / 4) : ptOf m hO t = ptOf m hO t' :=
  funext fun k => Fin.ext (by show 4 * (t.val / 4) + k.val = 4 * (t'.val / 4) + k.val; rw [h])

/-- The new maximum of a query of a point's tile. -/
noncomputable def mP (hO : Ok m) (c : Dev nD) (t : Fin (cfgM m hO).N) (k : Fin 4) (s : Fin 64) (g n : Fin 8) : EReal :=
  mV (t.val / 24) (t.val / 4 % 2) (wd m hO c t) k (Rt m hO c t) (xm m hO c t (ix5 0 0 0 ⟨8 * g.val + n.val, by omega⟩ ⟨64 * k.val + s.val, by omega⟩)) s g n
/-- The new sum of weights. -/
noncomputable def lP (hO : Ok m) (c : Dev nD) (t : Fin (cfgM m hO).N) (k : Fin 4) (s : Fin 64) (g n : Fin 8) : EReal :=
  lV (t.val / 24) (t.val / 4 % 2) (wd m hO c t) k (Rt m hO c t) (xl m hO c t (ix5 0 0 0 ⟨8 * g.val + n.val, by omega⟩ ⟨64 * k.val + s.val, by omega⟩))
    (xm m hO c t (ix5 0 0 0 ⟨8 * g.val + n.val, by omega⟩ ⟨64 * k.val + s.val, by omega⟩)) s g n
/-- The new output. -/
noncomputable def oP (hO : Ok m) (c : Dev nD) (t : Fin (cfgM m hO).N) (k : Fin 4) (s h : Fin 64) (d : Fin 128) : EReal :=
  oV (t.val / 24) (t.val / 4 % 2) (wd m hO c t) k (Rt m hO c t) (xm m hO c t (ix5 0 0 0 h ⟨64 * k.val + s.val, by omega⟩)) s ⟨h.val / 8, by omega⟩ ⟨h.val % 8, by omega⟩ d

/-- The maxima of a pass, over all its token tiles. -/
noncomputable def mT (hO : Ok m) (c : Dev nD) (t : Fin (cfgM m hO).N) (h : Fin 64) (s : Fin 256) : EReal :=
  mP m hO c (ptOf m hO t ⟨s.val / 64, by omega⟩) ⟨s.val / 64, by omega⟩ ⟨s.val % 64, by omega⟩ ⟨h.val / 8, by omega⟩ ⟨h.val % 8, by omega⟩
/-- The sums of a pass. -/
noncomputable def lT (hO : Ok m) (c : Dev nD) (t : Fin (cfgM m hO).N) (h : Fin 64) (s : Fin 256) : EReal :=
  lP m hO c (ptOf m hO t ⟨s.val / 64, by omega⟩) ⟨s.val / 64, by omega⟩ ⟨s.val % 64, by omega⟩ ⟨h.val / 8, by omega⟩ ⟨h.val % 8, by omega⟩

theorem xm_congr (hO : Ok m) (c : Dev nD) {t t' : Fin (cfgM m hO).N} (h : t.val / 4 = t'.val / 4) (a : Fin 64) (s : Fin 256) :
    xm m hO c t (ix5 0 0 0 a s) = xm m hO c t' (ix5 0 0 0 a s) := by
  have h1 : t.val / 24 = t'.val / 24 := by omega
  have h2 : t.val / 8 % 3 = t'.val / 8 % 3 := by omega
  refine (tile6 m hO c t a s).trans (Eq.trans ?_ (tile6 m hO c t' a s).symm)
  simp only [h1, h2, h]
  rfl
theorem xl_congr (hO : Ok m) (c : Dev nD) {t t' : Fin (cfgM m hO).N} (h : t.val / 4 = t'.val / 4) (a : Fin 64) (s : Fin 256) :
    xl m hO c t (ix5 0 0 0 a s) = xl m hO c t' (ix5 0 0 0 a s) := by
  have h1 : t.val / 24 = t'.val / 24 := by omega
  have h2 : t.val / 8 % 3 = t'.val / 8 % 3 := by omega
  refine (tile7 m hO c t a s).trans (Eq.trans ?_ (tile7 m hO c t' a s).symm)
  simp only [h1, h2, h]
  rfl

/-- What the scratch holds before point `n`: on a later token tile, what the earlier ones of the pass have left. -/
noncomputable def Car (hO : Ok m) (c : Dev nD) (n : ℕ) (M L : Vec Ideal S8x16x128 .f32) : Prop :=
  ∀ t : Fin (cfgM m hO).N, t.val = n → n % 4 ≠ 0 → Carry (n % 4) (xm m hO c t) (mT m hO c t) M ∧ Carry (n % 4) (xl m hO c t) (lT m hO c t) L

/-- What a point leaves in the output windows. -/
noncomputable def Rl0 (hO : Ok m) (c : Dev nD) : (w : Fin (cfgM m hO).W) → (t : Fin (cfgM m hO).N) → (((cfgM m hO).win w).block.Idx → Elt Ideal ((cfgM m hO).win w).elt) → Prop
  | ⟨8, _⟩, t, X => ∀ (s h : Fin 64) (d : Fin 128), X (ix6 (n0 := 1) (n1 := 1) (n2 := 1) 0 0 0 s h d) = oP m hO c t ⟨t.val % 4, by omega⟩ s h d
  | ⟨9, _⟩, t, X => t.val % 4 = 3 → ∀ (h : Fin 64) (s : Fin 256), X (ix5 (n0 := 1) (n1 := 1) (n2 := 1) 0 0 0 h s) = mT m hO c t h s
  | ⟨10, _⟩, t, X => t.val % 4 = 3 → ∀ (h : Fin 64) (s : Fin 256), X (ix5 (n0 := 1) (n1 := 1) (n2 := 1) 0 0 0 h s) = lT m hO c t h s
  | _, _, _ => True

theorem mT_at (hO : Ok m) (c : Dev nD) (t : Fin (cfgM m hO).N) (g n : Fin 8) (s : Fin 64) :
    mT m hO c t ⟨8 * g.val + n.val, by omega⟩ ⟨64 * (t.val % 4) + s.val, by omega⟩ = mP m hO c t ⟨t.val % 4, by omega⟩ s g n := by
  unfold mT
  have e1 : (⟨(64 * (t.val % 4) + s.val) / 64, by omega⟩ : Fin 4) = ⟨t.val % 4, by omega⟩ := Fin.ext (by dsimp only; omega)
  have e2 : (⟨(64 * (t.val % 4) + s.val) % 64, by omega⟩ : Fin 64) = s := Fin.ext (by dsimp only; omega)
  have e3 : (⟨(8 * g.val + n.val) / 8, by omega⟩ : Fin 8) = g := Fin.ext (by dsimp only; omega)
  have e4 : (⟨(8 * g.val + n.val) % 8, by omega⟩ : Fin 8) = n := Fin.ext (by dsimp only; omega)
  rw [e1, e2, e3, e4, ptOf_self]
theorem lT_at (hO : Ok m) (c : Dev nD) (t : Fin (cfgM m hO).N) (g n : Fin 8) (s : Fin 64) :
    lT m hO c t ⟨8 * g.val + n.val, by omega⟩ ⟨64 * (t.val % 4) + s.val, by omega⟩ = lP m hO c t ⟨t.val % 4, by omega⟩ s g n := by
  unfold lT
  have e1 : (⟨(64 * (t.val % 4) + s.val) / 64, by omega⟩ : Fin 4) = ⟨t.val % 4, by omega⟩ := Fin.ext (by dsimp only; omega)
  have e2 : (⟨(64 * (t.val % 4) + s.val) % 64, by omega⟩ : Fin 64) = s := Fin.ext (by dsimp only; omega)
  have e3 : (⟨(8 * g.val + n.val) / 8, by omega⟩ : Fin 8) = g := Fin.ext (by dsimp only; omega)
  have e4 : (⟨(8 * g.val + n.val) % 8, by omega⟩ : Fin 8) = n := Fin.ext (by dsimp only; omega)
  rw [e1, e2, e3, e4, ptOf_self]

/-- From the body's result to what is carried and what is left. -/
theorem step_car (hO : Ok m) (c : Dev nD) (t : Fin (cfgM m hO).N) {M L M' L' : Vec Ideal S8x16x128 .f32} {O' : Vec Ideal S1x1x1x64x64x128 .f32} {mo lo : Vec Ideal S1x1x1x64x256 .f32}
    (hC : Car m hO c t.val M L)
    (hB : Bodied ((cfgM m hO).grid.coords t) ⟨t.val % 4, by omega⟩ (wd m hO c t) (Rt m hO c t) (xm m hO c t) (xl m hO c t) M L M' L' O' mo lo) :
    Car m hO c (t.val + 1) M' L' ∧ Rl0 m hO c 8 t O' ∧ Rl0 m hO c 9 t mo ∧ Rl0 m hO c 10 t lo := by
  obtain ⟨M0, L0, f1, f2, u, s1, s2⟩ := bodied_upd hB
  rw [cr_eq, cj_eq] at u
  have hM : Carry (t.val % 4) (xm m hO c t) (mT m hO c t) M0 := carry_filled (tb := ⟨t.val % 4, by omega⟩) (fun h => (hC t rfl h).1) f1
  have hL : Carry (t.val % 4) (xl m hO c t) (lT m hO c t) L0 := carry_filled (tb := ⟨t.val % 4, by omega⟩) (fun h => (hC t rfl h).2) f2
  obtain ⟨cM, cL, ho⟩ := upd_carry (tb := ⟨t.val % 4, by omega⟩) hM hL u (fun g n s => mT_at m hO c t g n s) (fun g n s => lT_at m hO c t g n s)
  refine ⟨?_, ?_, ?_, ?_⟩
  · intro t' ht' hne
    have e4 : (t.val + 1) % 4 = t.val % 4 + 1 := by omega
    have ed : t'.val / 4 = t.val / 4 := by omega
    have em : mT m hO c t' = mT m hO c t := by unfold mT; rw [ptOf_congr m hO ed]
    have el : lT m hO c t' = lT m hO c t := by unfold lT; rw [ptOf_congr m hO ed]
    rw [e4, em, el]
    refine ⟨fun g row lane => ?_, fun g row lane => ?_⟩
    · rw [xm_congr m hO c ed]; exact cM g row lane
    · rw [xl_congr m hO c ed]; exact cL g row lane
  · intro s h d
    exact ho s h d
  · intro h3 h s
    exact carry_sent cM s1 h3 h s
  · intro h3 h s
    exact carry_sent cL s2 h3 h s

/-- The scratch, the generator's register and the table's half, before point `n`. -/
noncomputable def Φv (hO : Ok m) (c : Dev nD) (n : ℕ) : sProp 𝕄 :=
  iprop(((∃ a, ∃ b, owns (c : Thread nD τ) scM0_0 fullShare a ∗ owns (c : Thread nD τ) scM0_1 fullShare b ∗ ⌜Car m hO c n a b⌝) ∗ (∃ d, owns (c : Thread nD τ) scM0_2 fullShare d))
    ∗ (∃ r, prngReg c r) ∗ tbPt0 c tbM0_0 (tbl m 0))

/-- The proof data: `dats` with the carried scratch. -/
noncomputable def datv (hO : Ok m) (c : Dev nD) : Dat τ (Elt Ideal) Unit ℕ (UR sig nD τ) ℕ (cfgM m hO) c :=
  { dats m hO 0 c with Φ := fun n => Φv m hO c n.val }

theorem Av_eq (hO : Ok m) (c : Dev nD) (w : Fin (cfgM m hO).W) : (datv m hO c).A w = V m c (Pipeline.arrRef spec0 w) := A_eq m hO c w
theorem afterv_0 (hO : Ok m) (c : Dev nD) (t : Fin (cfgM m hO).N) : (datv m hO c).after 0 t = iblk m hO c 0 t := after0_0 m hO c t
theorem beforev_0 (hO : Ok m) (c : Dev nD) (t : Fin (cfgM m hO).N) (d) : (datv m hO c).before 0 t d = iblk m hO c 0 t :=
  before0_0_of m hO (datv m hO c) (Av_eq m hO c 0) (afterv_0 m hO c) t d
theorem leavesv_0 (hO : Ok m) (c : Dev nD) (t : Fin (cfgM m hO).N) : (datv m hO c).leavesExact 0 t = owns (c : Thread nD τ) (ms0_0 m hO t) fullShare (iblk m hO c 0 t) := by
  rw [show (datv m hO c).leavesExact 0 t = owns (c : Thread nD τ) (ms0_0 m hO t) fullShare ((datv m hO c).after 0 t) from by
    unfold Dat.leavesExact; rw [liveAt0_0 m hO t]; try rfl, afterv_0]
theorem afterv_1 (hO : Ok m) (c : Dev nD) (t : Fin (cfgM m hO).N) : (datv m hO c).after 1 t = iblk m hO c 1 t := after0_1 m hO c t
theorem beforev_1 (hO : Ok m) (c : Dev nD) (t : Fin (cfgM m hO).N) (d) : (datv m hO c).before 1 t d = iblk m hO c 1 t :=
  before0_1_of m hO (datv m hO c) (Av_eq m hO c 1) (afterv_1 m hO c) t d
theorem leavesv_1 (hO : Ok m) (c : Dev nD) (t : Fin (cfgM m hO).N) : (datv m hO c).leavesExact 1 t = owns (c : Thread nD τ) (ms0_1 m hO t) fullShare (iblk m hO c 1 t) := by
  rw [show (datv m hO c).leavesExact 1 t = owns (c : Thread nD τ) (ms0_1 m hO t) fullShare ((datv m hO c).after 1 t) from by
    unfold Dat.leavesExact; rw [liveAt0_1 m hO t]; try rfl, afterv_1]
theorem afterv_2 (hO : Ok m) (c : Dev nD) (t : Fin (cfgM m hO).N) : (datv m hO c).after 2 t = iblk m hO c 2 t := after0_2 m hO c t
theorem beforev_2 (hO : Ok m) (c : Dev nD) (t : Fin (cfgM m hO).N) (d) : (datv m hO c).before 2 t d = iblk m hO c 2 t :=
  before0_2_of m hO (datv m hO c) (Av_eq m hO c 2) (afterv_2 m hO c) t d
theorem leavesv_2 (hO : Ok m) (c : Dev nD) (t : Fin (cfgM m hO).N) : (datv m hO c).leavesExact 2 t = owns (c : Thread nD τ) (ms0_2 m hO t) fullShare (iblk m hO c 2 t) := by
  rw [show (datv m hO c).leavesExact 2 t = owns (c : Thread nD τ) (ms0_2 m hO t) fullShare ((datv m hO c).after 2 t) from by
    unfold Dat.leavesExact; rw [liveAt0_2 m hO t]; try rfl, afterv_2]
theorem afterv_3 (hO : Ok m) (c : Dev nD) (t : Fin (cfgM m hO).N) : (datv m hO c).after 3 t = iblk m hO c 3 t := after0_3 m hO c t
theorem beforev_3 (hO : Ok m) (c : Dev nD) (t : Fin (cfgM m hO).N) (d) : (datv m hO c).before 3 t d = iblk m hO c 3 t :=
  before0_3_of m hO (datv m hO c) (Av_eq m hO c 3) (afterv_3 m hO c) t d
theorem leavesv_3 (hO : Ok m) (c : Dev nD) (t : Fin (cfgM m hO).N) : (datv m hO c).leavesExact 3 t = owns (c : Thread nD τ) (ms0_3 m hO t) fullShare (iblk m hO c 3 t) := by
  rw [show (datv m hO c).leavesExact 3 t = owns (c : Thread nD τ) (ms0_3 m hO t) fullShare ((datv m hO c).after 3 t) from by
    unfold Dat.leavesExact; rw [liveAt0_3 m hO t]; try rfl, afterv_3]
theorem afterv_4 (hO : Ok m) (c : Dev nD) (t : Fin (cfgM m hO).N) : (datv m hO c).after 4 t = iblk m hO c 4 t := after0_4 m hO c t
theorem beforev_4 (hO : Ok m) (c : Dev nD) (t : Fin (cfgM m hO).N) (d) : (datv m hO c).before 4 t d = iblk m hO c 4 t :=
  before0_4_of m hO (datv m hO c) (Av_eq m hO c 4) (afterv_4 m hO c) t d
theorem leavesv_4 (hO : Ok m) (c : Dev nD) (t : Fin (cfgM m hO).N) : (datv m hO c).leavesExact 4 t = owns (c : Thread nD τ) (ms0_4 m hO t) fullShare (iblk m hO c 4 t) := by
  rw [show (datv m hO c).leavesExact 4 t = owns (c : Thread nD τ) (ms0_4 m hO t) fullShare ((datv m hO c).after 4 t) from by
    unfold Dat.leavesExact; rw [liveAt0_4 m hO t]; try rfl, afterv_4]
theorem afterv_5 (hO : Ok m) (c : Dev nD) (t : Fin (cfgM m hO).N) : (datv m hO c).after 5 t = iblk m hO c 5 t := after0_5 m hO c t
theorem beforev_5 (hO : Ok m) (c : Dev nD) (t : Fin (cfgM m hO).N) (d) : (datv m hO c).before 5 t d = iblk m hO c 5 t :=
  before0_5_of m hO (datv m hO c) (Av_eq m hO c 5) (afterv_5 m hO c) t d
theorem leavesv_5 (hO : Ok m) (c : Dev nD) (t : Fin (cfgM m hO).N) : (datv m hO c).leavesExact 5 t = owns (c : Thread nD τ) (ms0_5 m hO t) fullShare (iblk m hO c 5 t) := by
  rw [show (datv m hO c).leavesExact 5 t = owns (c : Thread nD τ) (ms0_5 m hO t) fullShare ((datv m hO c).after 5 t) from by
    unfold Dat.leavesExact; rw [liveAt0_5 m hO t]; try rfl, afterv_5]
theorem afterv_6 (hO : Ok m) (c : Dev nD) (t : Fin (cfgM m hO).N) : (datv m hO c).after 6 t = iblk m hO c 6 t := after0_6 m hO c t
theorem beforev_6 (hO : Ok m) (c : Dev nD) (t : Fin (cfgM m hO).N) (d) : (datv m hO c).before 6 t d = iblk m hO c 6 t :=
  before0_6_of m hO (datv m hO c) (Av_eq m hO c 6) (afterv_6 m hO c) t d
theorem leavesv_6 (hO : Ok m) (c : Dev nD) (t : Fin (cfgM m hO).N) : (datv m hO c).leavesExact 6 t = owns (c : Thread nD τ) (ms0_6 m hO t) fullShare (iblk m hO c 6 t) := by
  rw [show (datv m hO c).leavesExact 6 t = owns (c : Thread nD τ) (ms0_6 m hO t) fullShare ((datv m hO c).after 6 t) from by
    unfold Dat.leavesExact; rw [liveAt0_6 m hO t]; try rfl, afterv_6]
theorem afterv_7 (hO : Ok m) (c : Dev nD) (t : Fin (cfgM m hO).N) : (datv m hO c).after 7 t = iblk m hO c 7 t := after0_7 m hO c t
theorem beforev_7 (hO : Ok m) (c : Dev nD) (t : Fin (cfgM m hO).N) (d) : (datv m hO c).before 7 t d = iblk m hO c 7 t :=
  before0_7_of m hO (datv m hO c) (Av_eq m hO c 7) (afterv_7 m hO c) t d
theorem leavesv_7 (hO : Ok m) (c : Dev nD) (t : Fin (cfgM m hO).N) : (datv m hO c).leavesExact 7 t = owns (c : Thread nD τ) (ms0_7 m hO t) fullShare (iblk m hO c 7 t) := by
  rw [show (datv m hO c).leavesExact 7 t = owns (c : Thread nD τ) (ms0_7 m hO t) fullShare ((datv m hO c).after 7 t) from by
    unfold Dat.leavesExact; rw [liveAt0_7 m hO t]; try rfl, afterv_7]

noncomputable def preV (hO : Ok m) (c : Dev nD) (t : Fin (cfgM m hO).N) : sProp 𝕄 :=
  iprop((datv m hO c).Φ t.castSucc ∗ (datv m hO c).owesAt () t.castSucc
    ∗ (∃ d, owns (c : Thread nD τ) (ms0_0 m hO t) fullShare ((datv m hO c).before 0 t d))
    ∗ (∃ d, owns (c : Thread nD τ) (ms0_1 m hO t) fullShare ((datv m hO c).before 1 t d))
    ∗ (∃ d, owns (c : Thread nD τ) (ms0_2 m hO t) fullShare ((datv m hO c).before 2 t d))
    ∗ (∃ d, owns (c : Thread nD τ) (ms0_3 m hO t) fullShare ((datv m hO c).before 3 t d))
    ∗ (∃ d, owns (c : Thread nD τ) (ms0_4 m hO t) fullShare ((datv m hO c).before 4 t d))
    ∗ (∃ d, owns (c : Thread nD τ) (ms0_5 m hO t) fullShare ((datv m hO c).before 5 t d))
    ∗ (∃ d, owns (c : Thread nD τ) (ms0_6 m hO t) fullShare ((datv m hO c).before 6 t d))
    ∗ (∃ d, owns (c : Thread nD τ) (ms0_7 m hO t) fullShare ((datv m hO c).before 7 t d))
    ∗ (∃ Y, ⌜((datv m hO c).toRRel forgets0 (Rl0 m hO c)).Finds 8 t Y⌝ ∗ owns (c : Thread nD τ) (ms0_8 m hO t) fullShare Y)
    ∗ (∃ Y, ⌜((datv m hO c).toRRel forgets0 (Rl0 m hO c)).Finds 9 t Y⌝ ∗ owns (c : Thread nD τ) (ms0_9 m hO t) fullShare Y)
    ∗ (∃ Y, ⌜((datv m hO c).toRRel forgets0 (Rl0 m hO c)).Finds 10 t Y⌝ ∗ owns (c : Thread nD τ) (ms0_10 m hO t) fullShare Y))

noncomputable def postV (hO : Ok m) (c : Dev nD) (t : Fin (cfgM m hO).N) : sProp 𝕄 :=
  iprop((datv m hO c).Φ t.succ ∗ (datv m hO c).owesAt () t.succ
    ∗ (datv m hO c).leavesExact 0 t
    ∗ (datv m hO c).leavesExact 1 t
    ∗ (datv m hO c).leavesExact 2 t
    ∗ (datv m hO c).leavesExact 3 t
    ∗ (datv m hO c).leavesExact 4 t
    ∗ (datv m hO c).leavesExact 5 t
    ∗ (datv m hO c).leavesExact 6 t
    ∗ (datv m hO c).leavesExact 7 t
    ∗ (∃ X, ⌜Rl0 m hO c 8 t X⌝ ∗ owns (c : Thread nD τ) (ms0_8 m hO t) fullShare X)
    ∗ (∃ X, ⌜Rl0 m hO c 9 t X⌝ ∗ owns (c : Thread nD τ) (ms0_9 m hO t) fullShare X)
    ∗ (∃ X, ⌜Rl0 m hO c 10 t X⌝ ∗ owns (c : Thread nD τ) (ms0_10 m hO t) fullShare X))

theorem scW0 : (scM0_0).IsWhole := Memref.isWhole_whole _
theorem scW1 : (scM0_1).IsWhole := Memref.isWhole_whole _
theorem scW2 : (scM0_2).IsWhole := Memref.isWhole_whole _

theorem Φ_apply (hO : Ok m) (c : Dev nD) (n : Fin ((cfgM m hO).N + 1)) : (datv m hO c).Φ n = Φv m hO c n.val := rfl

theorem Φ_cast (hO : Ok m) (c : Dev nD) (t : Fin (cfgM m hO).N) : (datv m hO c).Φ t.castSucc = Φv m hO c t.val := by
  have e := Φ_apply m hO c t.castSucc
  rw [Fin.val_castSucc] at e
  exact e

theorem Φ_succ (hO : Ok m) (c : Dev nD) (t : Fin (cfgM m hO).N) : (datv m hO c).Φ t.succ = Φv m hO c (t.val + 1) := by
  have e := Φ_apply m hO c t.succ
  rw [Fin.val_succ] at e
  exact e

end Cert.KernelIdeal.Pf
-- ==== Proof.KernelIdeal.Run.lean ====
/- The run of the call. -/
module

public import proofs.«01_k».proof.Proof.KernelIdeal.Value
public import Idealize.ShloMosaic.Lib.Pipeline.ArrRel
public import Idealize.ShloMosaic.Lib.Pipeline.DatRel

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What a body does, of equal readings. -/
theorem bodied_eq {i : grid0.Coords} {tb : Fin 4} {w : BitVec 32} {q q' : Vec Ideal S1x1x1x4096x128 .fp8e4m3} {k k' : Vec Ideal S1x1x8x512x128 .fp8e4m3}
    {v v' : Vec Ideal S1x1x8x128x512 .fp8e4m3} {a a' : Vec Ideal S1x1x1x16x128 .f32} {s s' : Vec Ideal S1x1x16x128 .f32} {o o' : Vec Ideal S1x1x1x64x64x128 .f32}
    {x y x' y' : Vec Ideal S1x1x1x64x256 .f32} {M L M0 L0 M' L' : Vec Ideal S8x16x128 .f32} {O' : Vec Ideal S1x1x1x64x64x128 .f32} {mo lo : Vec Ideal S1x1x1x64x256 .f32}
    (hq : q = q') (hk : k = k') (hv : v = v') (ha : a = a') (hs : s = s') (ho : o = o') (hx : x = x') (hy : y = y') (hM : M = M0) (hL : L = L0)
    (h : Bodied i tb w (rdW q k v a s o) x y M L M' L' O' mo lo) : Bodied i tb w (rdW q' k' v' a' s' o') x' y' M0 L0 M' L' O' mo lo := by
  subst hq hk hv ha hs ho hx hy hM hL
  exact h

set_option maxHeartbeats 3200000 in
/-- The body at any point: the inputs' blocks kept, the scratch carried on, the outputs as stated. -/
theorem sound_value (hO : Ok m) (c : Dev nD) (t : Fin (cfgM m hO).N) :
    preV m hO c t ⊢ wp Idealize.ShloMosaic.frame (wpE (defs₀ (F := Ideal)) Variants.none c none) Set.univ (bodyAt0 (adm m hO) t) (fun _ => postV m hO c t) := by
  unfold preV postV bodyAt0
  simp only [beforev_0, beforev_1, beforev_2, beforev_3, beforev_4, beforev_5, beforev_6, beforev_7]
  rw [show (datv m hO c).owesAt () t.succ = (datv m hO c).owesAt () t.castSucc from rfl]
  rw [Φ_cast, Φ_succ]
  unfold Φv
  rw [leavesv_0, leavesv_1, leavesv_2, leavesv_3, leavesv_4, leavesv_5, leavesv_6, leavesv_7]
  iintro ⟨⟨⟨⟨%s0, %s1, S0, S1, %hC⟩, ⟨%s2, S2⟩⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %f8, H8⟩, ⟨%d9, %f9, H9⟩, ⟨%d10, %f10, H10⟩⟩
  iapply (wp_wand_r Idealize.ShloMosaic.frame (wpE (defs₀ (F := Ideal)) Variants.none (c : Thread nD τ) none) Set.univ)
  isplitl [HT H0 H1 H2 H3 H4 H5 H6 H7 H8 H9 H10 S0 S1 S2]
  · iapply (body_strong c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) ⟨t.val % 4, by omega⟩ (ct_eq m hO t).symm (tbl m 0) ((hs0_0 m hO t).unread (iblk m hO c 0 t)) ((hs0_1 m hO t).unread (iblk m hO c 1 t)) ((hs0_2 m hO t).unread (iblk m hO c 2 t)) ((hs0_3 m hO t).unread (iblk m hO c 3 t)) ((hs0_4 m hO t).unread (iblk m hO c 4 t)) ((hs0_5 m hO t).unread (iblk m hO c 5 t)) ((hs0_6 m hO t).unread (iblk m hO c 6 t)) ((hs0_7 m hO t).unread (iblk m hO c 7 t)) ((hs0_8 m hO t).unread d8) ((hs0_9 m hO t).unread d9) ((hs0_10 m hO t).unread d10) (scW0.unread s0) (scW1.unread s1) (scW2.unread s2))
    isplitl [HT]; · iexact HT
    isplitl [H0]; · iapply (at_of_owns c (hs0_0 m hO t) _); iexact H0
    isplitl [H1]; · iapply (at_of_owns c (hs0_1 m hO t) _); iexact H1
    isplitl [H2]; · iapply (at_of_owns c (hs0_2 m hO t) _); iexact H2
    isplitl [H3]; · iapply (at_of_owns c (hs0_3 m hO t) _); iexact H3
    isplitl [H4]; · iapply (at_of_owns c (hs0_4 m hO t) _); iexact H4
    isplitl [H5]; · iapply (at_of_owns c (hs0_5 m hO t) _); iexact H5
    isplitl [H6]; · iapply (at_of_owns c (hs0_6 m hO t) _); iexact H6
    isplitl [H7]; · iapply (at_of_owns c (hs0_7 m hO t) _); iexact H7
    isplitl [H8]; · iapply (at_of_owns c (hs0_8 m hO t) _); iexact H8
    isplitl [H9]; · iapply (at_of_owns c (hs0_9 m hO t) _); iexact H9
    isplitl [H10]; · iapply (at_of_owns c (hs0_10 m hO t) _); iexact H10
    isplitl [S0]; · iapply (at_of_owns c scW0 _); iexact S0
    isplitl [S1]; · iapply (at_of_owns c scW1 _); iexact S1
    iapply (at_of_owns c scW2 _); iexact S2
  iintro %u ⟨HT, H0, H1, H2, H3, H4, H5, H6, H7, %Y8, %Y9, %Y10, %Y0, %Y1, %Y2, H8, H9, H10, S0, S1, S2, %hB⟩
  have hB' : Bodied ((cfgM m hO).grid.coords t) ⟨t.val % 4, by omega⟩ (wd m hO c t) (Rt m hO c t) (xm m hO c t) (xl m hO c t) s0 s1
      (rdM c scM0_0 Y0) (rdM c scM0_1 Y1) (rdM c (ms0_8 m hO t) Y8) (rdM c (ms0_9 m hO t) Y9) (rdM c (ms0_10 m hO t) Y10) := by
    refine bodied_eq ?_ ?_ ?_ ?_ ?_ ?_ ?_ ?_ ?_ ?_ hB
    · exact (hs0_0 m hO t).read_unread _
    · exact (hs0_1 m hO t).read_unread _
    · exact (hs0_2 m hO t).read_unread _
    · exact (hs0_3 m hO t).read_unread _
    · exact (hs0_4 m hO t).read_unread _
    · exact (hs0_5 m hO t).read_unread _
    · exact (hs0_6 m hO t).read_unread _
    · exact (hs0_7 m hO t).read_unread _
    · exact scW0.read_unread _
    · exact scW1.read_unread _
  obtain ⟨hC', h8, h9, h10⟩ := step_car m hO c t hC hB'
  isplitl [HT Hg S0 S1 S2]
  · isplitl [S0 S1 S2]
    · isplitl [S0 S1]
      · iexists _, _
        isplitl [S0]; · iapply (owns_of_at c (Memref.isWhole_whole _) _); iexact S0
        isplitl [S1]; · iapply (owns_of_at c (Memref.isWhole_whole _) _); iexact S1
        ipureintro; exact hC'
      iexists _; iapply (owns_of_at c (Memref.isWhole_whole _) _); iexact S2
    isplitl [Hg]; · iexact Hg
    iexact HT
  isplitl [Ho]; · iexact Ho
  isplitl [H0]; · iapply (owns_of_unread c (hs0_0 m hO t) _); iexact H0
  isplitl [H1]; · iapply (owns_of_unread c (hs0_1 m hO t) _); iexact H1
  isplitl [H2]; · iapply (owns_of_unread c (hs0_2 m hO t) _); iexact H2
  isplitl [H3]; · iapply (owns_of_unread c (hs0_3 m hO t) _); iexact H3
  isplitl [H4]; · iapply (owns_of_unread c (hs0_4 m hO t) _); iexact H4
  isplitl [H5]; · iapply (owns_of_unread c (hs0_5 m hO t) _); iexact H5
  isplitl [H6]; · iapply (owns_of_unread c (hs0_6 m hO t) _); iexact H6
  isplitl [H7]; · iapply (owns_of_unread c (hs0_7 m hO t) _); iexact H7
  isplitl [H8]
  · iexists _
    isplitr; swap
    · iapply (owns_of_at c (hs0_8 m hO t) _); iexact H8
    ipureintro; exact h8
  isplitl [H9]
  · iexists _
    isplitr; swap
    · iapply (owns_of_at c (hs0_9 m hO t) _); iexact H9
    ipureintro; exact h9
  iexists _
  isplitr; swap
  · iapply (owns_of_at c (hs0_10 m hO t) _); iexact H10
  ipureintro; exact h10

/-- The library's body obligation, the output windows held to what is left in them. -/
theorem body_value (hO : Ok m) (c : Dev nD) : Pipeline.BodyObligationRel (datv m hO c) (defs₀ (F := Ideal)) Variants.none () Set.univ forgets0 (Rl0 m hO c) := fun t => by
  rw [bigSep_W0, bigSep_W0, defs₀_row m hO]
  exact triple_restated (sound_value m hO c t) rfl .rfl fun _ => .rfl

theorem Φv_in (hO : Ok m) (c : Dev nD) : iprop(Pipeline.ΦA spec0 c ∗ Pipeline.ΦT pre0 (tbl m) c) ⊢ Φv m hO c 0 := by
  rw [PhiT0_eq, PhiA0_eq]; unfold Φv
  iintro ⟨⟨⟨⟨%s0, S0⟩, ⟨%s1, S1⟩, S2⟩, Hg⟩, HT⟩
  isplitl [S0 S1 S2]
  · isplitl [S0 S1]
    · iexists s0, s1
      isplitl [S0]; · iexact S0
      isplitl [S1]; · iexact S1
      ipureintro; exact fun t _ h => absurd rfl h
    iexact S2
  isplitl [Hg]; · iexact Hg
  iexact HT

theorem Φv_out (hO : Ok m) (c : Dev nD) (n : ℕ) : Φv m hO c n ⊢ Pipeline.ΦA spec0 c := by
  rw [PhiA0_eq]; unfold Φv
  iintro ⟨⟨⟨%s0, %s1, S0, S1, %hC⟩, S2⟩, Hg, HT⟩
  isplitl [S0 S1 S2]
  · isplitl [S0]; · iexists _; iexact S0
    isplitl [S1]; · iexists _; iexact S1
    iexact S2
  iexact Hg

set_option backward.isDefEq.respectTransparency.types false in
/-- The launch: every output window's array holds blocks that the points left. -/
theorem run_value (hO : Ok m) : θ_run defs (onTc (τ := τ) (main (F := Ideal))) (s₀ m ρ) (Pipeline.RDat.FramePost ((Pipeline.pin pcfgs fun _ => adm m hO) 0) (fun c => (datv m hO c).toRRel forgets0 (Rl0 m hO c)) (V m)) :=
  Pipeline.RDat.θ_run_frameP_track (Q' := _) pcfgs (fun _ => adm m hO) (0 : Fin 1) launch0 defs₀ Variants.none (fun c => (datv m hO c).toRRel forgets0 (Rl0 m hO c)) m ρ main
    (hbody := fun c => (body_value m hO c).toRRel) (hshare := fun c => (datv m hO c).share_full fun _ => rfl)
    (howed := fun _ _ => rfl) (V := V m) (hmain := hmain m Variants.none) (hA := Av_eq m hO) (hpf := V_pre m) (hin := fun c => Φv_in m hO c) (hout := fun c => Φv_out m hO c _)

end Cert.KernelIdeal.Pf
-- ==== Proof.KernelIdeal.Result.lean ====
/- The arrays that the call leaves, element by element. -/
module

public import proofs.«01_k».proof.Proof.KernelIdeal.Run
public import Idealize.ShloMosaic.Lib.Pipeline.ValueKit
public import Idealize.ShloMosaic.Lib.Pipeline.ArrRel
public import Idealize.ShloMosaic.Lib.Pipeline.DatRel

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The grid point of device `r`, half `j`, batch `b` and token tile `k`. -/
noncomputable def pt (hO : Ok m) (r : Fin 4) (j : Fin 2) (b : Fin 3) (k : Fin 4) : Fin (cfgM m hO).N :=
  ⟨((r.val * 3 + b.val) * 2 + j.val) * 4 + k.val, by show _ < 96; omega⟩

/-- The outputs as they are left. -/
noncomputable def outO (hO : Ok m) (c : Dev nD) (r : Fin 4) (j : Fin 2) (b : Fin 3) (t : Fin 256) (h : Fin 64) (d : Fin 128) : EReal :=
  oP m hO c (pt m hO r j b ⟨t.val / 64, by omega⟩) ⟨t.val / 64, by omega⟩ ⟨t.val % 64, by omega⟩ h d
/-- The maxima as they are left. -/
noncomputable def outM (hO : Ok m) (c : Dev nD) (r : Fin 4) (j : Fin 2) (b : Fin 3) (h : Fin 64) (t : Fin 256) : EReal :=
  mT m hO c (pt m hO r j b 3) h t
/-- The sums as they are left. -/
noncomputable def outL (hO : Ok m) (c : Dev nD) (r : Fin 4) (j : Fin 2) (b : Fin 3) (h : Fin 64) (t : Fin 256) : EReal :=
  lT m hO c (pt m hO r j b 3) h t

/-- Arrays that hold those. -/
noncomputable def arrO (hO : Ok m) (c : Dev nD) : Buf (Elt Ideal) ((c.tc : Thread nD τ).loc main_v20_0) :=
  fun i => outO m hO c (i 0) (i 1) (i 2) (i 3) (i 4) (i 5)
noncomputable def arrM (hO : Ok m) (c : Dev nD) : Buf (Elt Ideal) ((c.tc : Thread nD τ).loc main_v20_1) :=
  fun i => outM m hO c (i 0) (i 1) (i 2) (i 3) (i 4)
noncomputable def arrL (hO : Ok m) (c : Dev nD) : Buf (Elt Ideal) ((c.tc : Thread nD τ).loc main_v20_2) :=
  fun i => outL m hO c (i 0) (i 1) (i 2) (i 3) (i 4)

/-- The maxima and the sums are written back after the last token tile. -/
theorem flush9 (hO : Ok m) (t : Fin (cfgM m hO).N) (h : ((cfgM m hO).win 9).flush t = true) : t.val % 4 = 3 :=
  (by decide +kernel : ∀ t : Fin grid0.N, Pipeline.Window.flushOf grid0 true cc0_transform_9 t = true → t.val % 4 = 3) t h
theorem flush10 (hO : Ok m) (t : Fin (cfgM m hO).N) (h : ((cfgM m hO).win 10).flush t = true) : t.val % 4 = 3 :=
  (by decide +kernel : ∀ t : Fin grid0.N, Pipeline.Window.flushOf grid0 true cc0_transform_10 t = true → t.val % 4 = 3) t h

/-- Every block of the outputs is some point's, which writes it back. -/
theorem cover8 (hO : Ok m) : ((cfgM m hO).win 8).Covers := by
  refine ⟨show ∀ a : Fin 6, 0 < (![1, 1, 1, 64, 64, 128] : Fin 6 → ℕ) a from by decide, fun β => ?_⟩
  have key : ∀ β : (a : Fin 6) → Fin ((![4, 2, 3, 4, 1, 1] : Fin 6 → ℕ) a), ∃ t : Fin grid0.N,
      Pipeline.Window.flushOf grid0 true cc0_transform_8 t = true ∧ ∀ a : Fin 6, cc0_transform_8 (grid0.coords t) a = (β a).val := by
    intro β
    obtain ⟨t, hf, hi⟩ := (by decide +kernel : ∀ (r : Fin 4) (j : Fin 2) (b : Fin 3) (k : Fin 4), ∃ t : Fin grid0.N,
      Pipeline.Window.flushOf grid0 true cc0_transform_8 t = true ∧ cc0_transform_8 (grid0.coords t) = ![r.val, j.val, b.val, k.val, 0, 0]) (β 0) (β 1) (β 2) (β 3)
    have h4 : (β 4).val < 1 := (β 4).isLt
    have h5 : (β 5).val < 1 := (β 5).isLt
    refine ⟨t, hf, fun a => (congrFun hi a).trans ?_⟩
    fin_cases a
    · rfl
    · rfl
    · rfl
    · rfl
    · show 0 = (β 4).val; omega
    · show 0 = (β 5).val; omega
  have e : ∀ a : Fin 6, ((![4, 2, 3, 256, 64, 128] : Fin 6 → ℕ) a + (![1, 1, 1, 64, 64, 128] : Fin 6 → ℕ) a - 1) / (![1, 1, 1, 64, 64, 128] : Fin 6 → ℕ) a = (![4, 2, 3, 4, 1, 1] : Fin 6 → ℕ) a := by decide
  obtain ⟨t, hf, hi⟩ := key fun a => Fin.cast (e a) (β a)
  exact ⟨t, hf, fun a => ⟨hi a, .inl rfl⟩⟩

/-- The same of a window whose blocks are whole passes. -/
theorem cover_pass {ix : grid0.Coords → Fin 5 → ℕ}
    (h : ∀ (r : Fin 4) (j : Fin 2) (b : Fin 3), ∃ t : Fin grid0.N, Pipeline.Window.flushOf grid0 true ix t = true ∧ ix (grid0.coords t) = ![r.val, j.val, b.val, 0, 0])
    (β : (a : Fin 5) → Fin ((![4, 2, 3, 1, 1] : Fin 5 → ℕ) a)) :
    ∃ t : Fin grid0.N, Pipeline.Window.flushOf grid0 true ix t = true ∧ ∀ a : Fin 5, ix (grid0.coords t) a = (β a).val := by
  obtain ⟨t, hf, hi⟩ := h (β 0) (β 1) (β 2)
  have h4 : (β 3).val < 1 := (β 3).isLt
  have h5 : (β 4).val < 1 := (β 4).isLt
  refine ⟨t, hf, fun a => (congrFun hi a).trans ?_⟩
  fin_cases a
  · rfl
  · rfl
  · rfl
  · show 0 = (β 3).val; omega
  · show 0 = (β 4).val; omega

theorem cover9 (hO : Ok m) : ((cfgM m hO).win 9).Covers := by
  refine ⟨show ∀ a : Fin 5, 0 < (![1, 1, 1, 64, 256] : Fin 5 → ℕ) a from by decide, fun β => ?_⟩
  have e : ∀ a : Fin 5, ((![4, 2, 3, 64, 256] : Fin 5 → ℕ) a + (![1, 1, 1, 64, 256] : Fin 5 → ℕ) a - 1) / (![1, 1, 1, 64, 256] : Fin 5 → ℕ) a = (![4, 2, 3, 1, 1] : Fin 5 → ℕ) a := by decide
  obtain ⟨t, hf, hi⟩ := cover_pass (ix := cc0_transform_9) (by decide +kernel) fun a => Fin.cast (e a) (β a)
  exact ⟨t, hf, fun a => ⟨hi a, .inl rfl⟩⟩
theorem cover10 (hO : Ok m) : ((cfgM m hO).win 10).Covers := by
  refine ⟨show ∀ a : Fin 5, 0 < (![1, 1, 1, 64, 256] : Fin 5 → ℕ) a from by decide, fun β => ?_⟩
  have e : ∀ a : Fin 5, ((![4, 2, 3, 64, 256] : Fin 5 → ℕ) a + (![1, 1, 1, 64, 256] : Fin 5 → ℕ) a - 1) / (![1, 1, 1, 64, 256] : Fin 5 → ℕ) a = (![4, 2, 3, 1, 1] : Fin 5 → ℕ) a := by decide
  obtain ⟨t, hf, hi⟩ := cover_pass (ix := cc0_transform_10) (by decide +kernel) fun a => Fin.cast (e a) (β a)
  exact ⟨t, hf, fun a => ⟨hi a, .inl rfl⟩⟩

/-- An index of a block of one pass. -/
theorem ones6 (y : (⟨6, ![1, 1, 1, 64, 64, 128]⟩ : Shape).Idx) : ∃ (s h : Fin 64) (d : Fin 128), y = ix6 0 0 0 s h d := by
  refine ⟨y 3, y 4, y 5, ?_⟩
  rw [eq_ix6 y]
  congr 1 <;> exact Subsingleton.elim (α := Fin 1) _ _
theorem ones5 (y : (⟨5, ![1, 1, 1, 64, 256]⟩ : Shape).Idx) : ∃ (h : Fin 64) (s : Fin 256), y = ix5 0 0 0 h s := by
  refine ⟨y 3, y 4, ?_⟩
  rw [eq_ix5 y]
  congr 1 <;> exact Subsingleton.elim (α := Fin 1) _ _

theorem emb8 (hO : Ok m) (t : Fin (cfgM m hO).N) (s h : Fin 64) (d : Fin 128) :
    (((cfgM m hO).win 8).blk t).view.emb (ix6 (n0 := 1) (n1 := 1) (n2 := 1) 0 0 0 s h d)
      = ix6 (⟨t.val / 24, by have := tval m hO t; omega⟩ : Fin 4) (⟨t.val / 4 % 2, by omega⟩ : Fin 2) (⟨t.val / 8 % 3, by omega⟩ : Fin 3) (⟨64 * (t.val % 4) + s.val, by omega⟩ : Fin 256) h d := by
  blk_ext [idx8 m hO t]
theorem emb9 (hO : Ok m) (t : Fin (cfgM m hO).N) (h : Fin 64) (s : Fin 256) :
    (((cfgM m hO).win 9).blk t).view.emb (ix5 (n0 := 1) (n1 := 1) (n2 := 1) 0 0 0 h s)
      = ix5 (⟨t.val / 24, by have := tval m hO t; omega⟩ : Fin 4) (⟨t.val / 4 % 2, by omega⟩ : Fin 2) (⟨t.val / 8 % 3, by omega⟩ : Fin 3) h s := by
  blk_ext [idx9 m hO t]
theorem emb10 (hO : Ok m) (t : Fin (cfgM m hO).N) (h : Fin 64) (s : Fin 256) :
    (((cfgM m hO).win 10).blk t).view.emb (ix5 (n0 := 1) (n1 := 1) (n2 := 1) 0 0 0 h s)
      = ix5 (⟨t.val / 24, by have := tval m hO t; omega⟩ : Fin 4) (⟨t.val / 4 % 2, by omega⟩ : Fin 2) (⟨t.val / 8 % 3, by omega⟩ : Fin 3) h s := by
  blk_ext [idx10 m hO t]

theorem pt_last (hO : Ok m) {t : Fin (cfgM m hO).N} (h3 : t.val % 4 = 3) (hN : t.val < 96) :
    pt m hO ⟨t.val / 24, by omega⟩ ⟨t.val / 4 % 2, by omega⟩ ⟨t.val / 8 % 3, by omega⟩ 3 = t :=
  Fin.ext (by show (((t.val / 24) * 3 + t.val / 8 % 3) * 2 + t.val / 4 % 2) * 4 + 3 = t.val; omega)

section Final

variable (hO : Ok m) (c : Dev nD)
  (after : (w : Fin (cfgM m hO).W) → Fin (cfgM m hO).N → ((cfgM m hO).win w).block.Idx → Elt Ideal ((cfgM m hO).win w).elt)
  (hL : ∀ (w : Fin (cfgM m hO).W) (u : Fin (cfgM m hO).N), ((cfgM m hO).win w).flush u = true →
    ((datv m hO c).toRRel forgets0 (Rl0 m hO c)).Leaves w u (after w u))

include hL

theorem final8 : (((datv m hO c).toRRel forgets0 (Rl0 m hO c)).withAfter after).arrAt 8 (cfgM m hO).N = arrO m hO c := by
  refine Dat.arrAt_eq_of_covers (((datv m hO c).toRRel forgets0 (Rl0 m hO c)).withAfter after) 8 (arrO m hO c) (cover8 m hO) fun t hf y => ?_
  have hr : ∀ (s h : Fin 64) (d : Fin 128), after 8 t (ix6 (n0 := 1) (n1 := 1) (n2 := 1) 0 0 0 s h d) = oP m hO c t ⟨t.val % 4, by omega⟩ s h d :=
    (datv m hO c).toRRel_leaves (w := 8) rfl (hL 8 t hf)
  have hN := tval m hO t
  obtain ⟨s, h, d, e⟩ := ones6 y
  subst e
  refine Eq.trans ?_ (congrArg (arrO m hO c) (emb8 m hO t s h d)).symm
  refine (hr s h d).trans ?_
  show _ = outO m hO c _ _ _ _ _ _
  unfold outO
  have e1 : (⟨(64 * (t.val % 4) + s.val) / 64, by omega⟩ : Fin 4) = ⟨t.val % 4, by omega⟩ := Fin.ext (by dsimp only; omega)
  have e2 : (⟨(64 * (t.val % 4) + s.val) % 64, by omega⟩ : Fin 64) = s := Fin.ext (by dsimp only; omega)
  have e3 : pt m hO ⟨t.val / 24, by omega⟩ ⟨t.val / 4 % 2, by omega⟩ ⟨t.val / 8 % 3, by omega⟩ ⟨t.val % 4, by omega⟩ = t :=
    Fin.ext (by show (((t.val / 24) * 3 + t.val / 8 % 3) * 2 + t.val / 4 % 2) * 4 + t.val % 4 = t.val; omega)
  show _ = oP m hO c (pt m hO ⟨t.val / 24, _⟩ ⟨t.val / 4 % 2, _⟩ ⟨t.val / 8 % 3, _⟩ ⟨(64 * (t.val % 4) + s.val) / 64, _⟩) ⟨(64 * (t.val % 4) + s.val) / 64, _⟩ ⟨(64 * (t.val % 4) + s.val) % 64, _⟩ h d
  rw [e1, e2, e3]

theorem final9 : (((datv m hO c).toRRel forgets0 (Rl0 m hO c)).withAfter after).arrAt 9 (cfgM m hO).N = arrM m hO c := by
  refine Dat.arrAt_eq_of_covers (((datv m hO c).toRRel forgets0 (Rl0 m hO c)).withAfter after) 9 (arrM m hO c) (cover9 m hO) fun t hf y => ?_
  have hN := tval m hO t
  have h3 := flush9 m hO t hf
  have hr : t.val % 4 = 3 → ∀ (h : Fin 64) (s : Fin 256), after 9 t (ix5 (n0 := 1) (n1 := 1) (n2 := 1) 0 0 0 h s) = mT m hO c t h s :=
    (datv m hO c).toRRel_leaves (w := 9) rfl (hL 9 t hf)
  obtain ⟨h, s, e⟩ := ones5 y
  subst e
  refine Eq.trans ?_ (congrArg (arrM m hO c) (emb9 m hO t h s)).symm
  refine (hr h3 h s).trans ?_
  show _ = mT m hO c (pt m hO ⟨t.val / 24, _⟩ ⟨t.val / 4 % 2, _⟩ ⟨t.val / 8 % 3, _⟩ 3) h s
  rw [pt_last m hO h3 hN]

theorem final10 : (((datv m hO c).toRRel forgets0 (Rl0 m hO c)).withAfter after).arrAt 10 (cfgM m hO).N = arrL m hO c := by
  refine Dat.arrAt_eq_of_covers (((datv m hO c).toRRel forgets0 (Rl0 m hO c)).withAfter after) 10 (arrL m hO c) (cover10 m hO) fun t hf y => ?_
  have hN := tval m hO t
  have h3 := flush10 m hO t hf
  have hr : t.val % 4 = 3 → ∀ (h : Fin 64) (s : Fin 256), after 10 t (ix5 (n0 := 1) (n1 := 1) (n2 := 1) 0 0 0 h s) = lT m hO c t h s :=
    (datv m hO c).toRRel_leaves (w := 10) rfl (hL 10 t hf)
  obtain ⟨h, s, e⟩ := ones5 y
  subst e
  refine Eq.trans ?_ (congrArg (arrL m hO c) (emb10 m hO t h s)).symm
  refine (hr h3 h s).trans ?_
  show _ = lT m hO c (pt m hO ⟨t.val / 24, _⟩ ⟨t.val / 4 % 2, _⟩ ⟨t.val / 8 % 3, _⟩ 3) h s
  rw [pt_last m hO h3 hN]

end Final

/-- Every run ends with the three results as stated and the arguments as they were. -/
theorem results (hO : Ok m) : θ_run defs (onTc (τ := τ) (main (F := Ideal))) ⟨m, fun _ => 0, ρ⟩ (fun r => ∀ c : Dev nD,
    r.2.mem ((c.tc : Thread nD τ).loc main_v20_0) = arrO m hO c
      ∧ r.2.mem ((c.tc : Thread nD τ).loc main_v20_1) = arrM m hO c
      ∧ r.2.mem ((c.tc : Thread nD τ).loc main_v20_2) = arrL m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    obtain ⟨after, hL, hA⟩ := Pipeline.RDat.FramePost.exists_exact h c
    exact ⟨(hA 8).trans (final8 m hO c after hL), (hA 9).trans (final9 m hO c after hL), (hA 10).trans (final10 m hO c after hL),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      (Pipeline.RDat.FramePost.arr_in h c 5 rfl).trans ((Av_eq m hO c 5).trans (V_main_arg7 m c)),
      (Pipeline.RDat.FramePost.arr_in h c 6 rfl).trans ((Av_eq m hO c 6).trans (V_main_arg8 m c)),
      (Pipeline.RDat.FramePost.arr_in h c 7 rfl).trans ((Av_eq m hO c 7).trans (V_main_arg9 m c))⟩) (run_value m ρ hO)

end Cert.KernelIdeal.Pf
-- ==== Proof.Spec.lean ====
/- One attention step, as formulas over the elements of the arguments. -/
module

public import Idealize.ShloMosaic.PureOps.Ideal

/-!
# The step, over the elements of the arguments

`Args` is what both programs read, element by element.  The formulas here are the ones that the reference computes:
the score of a query against a key, masked; the new running maximum; the new sum of weights; the new output.
-/

@[expose] public section

noncomputable section

namespace Cert.Spec

open Idealize.ShloMosaic

/-- The elements of the arguments: codes and scales of the queries, keys and values, the steps, and what the steps
before have left: outputs, maxima and sums. -/
structure Args where
  q : Fin 4 → Fin 2 → Fin 3 → Fin 256 → Fin 64 → Fin 128 → EReal
  qs : Fin 4 → Fin 2 → Fin 3 → Fin 64 → EReal
  k : Fin 4 → Fin 2 → Fin 3 → Fin 256 → Fin 8 → Fin 128 → EReal
  ks : Fin 4 → Fin 2 → Fin 3 → Fin 8 → EReal
  v : Fin 4 → Fin 2 → Fin 3 → Fin 256 → Fin 8 → Fin 128 → EReal
  vs : Fin 4 → Fin 2 → Fin 3 → Fin 8 → EReal
  w : Fin 3 → BitVec 32
  o : Fin 4 → Fin 2 → Fin 3 → Fin 256 → Fin 64 → Fin 128 → EReal
  mx : Fin 4 → Fin 2 → Fin 3 → Fin 64 → Fin 256 → EReal
  l : Fin 4 → Fin 2 → Fin 3 → Fin 64 → Fin 256 → EReal

/-- The remainder of `r` less the step. -/
def remW (r : ℕ) (w : BitVec 32) : BitVec 32 := IntOp.remsi .host (IntOp.subi (BitVec.ofNat 32 r) w) 4#32

/-- The device that the keys came from: that remainder, made nonnegative. -/
def srcH (r : ℕ) (w : BitVec 32) : BitVec 32 :=
  Scalar.select (IntOp.cmpi .slt (remW r w) 0#32) (IntOp.addi (remW r w) 4#32) (remW r w)

/-- The bit that says whether token `t` of half `j` of device `r` attends to key `key` of half `x`. -/
def attH (r j t x key : ℕ) (w : BitVec 32) : BitVec 1 :=
  IntOp.cmpi .sle
    (IntOp.addi (IntOp.muli (if x < 1 then srcH r w else IntOp.subi 7#32 (srcH r w)) 256#32) (BitVec.ofNat 32 key))
    (IntOp.addi (IntOp.muli (Scalar.select (IntOp.cmpi .eq (BitVec.ofNat 32 j) 0#32) (BitVec.ofNat 32 r)
      (IntOp.subi 7#32 (BitVec.ofNat 32 r))) 256#32) (BitVec.ofNat 32 t))

/-- The head at place `n` of group `g`. -/
abbrev hd (g n : Fin 8) : Fin 64 := ⟨g.val * 8 + n.val, by omega⟩

namespace Args

variable (A : Args)

/-- The score, before the mask. -/
def sc (r : Fin 4) (j : Fin 2) (b : Fin 3) (g n : Fin 8) (t : Fin 256) (x : Fin 2) (key : Fin 256) : EReal :=
  (∑ d : Fin 128, A.k r x b key g d * A.q r j b t (hd g n) d) * A.qs r j b (hd g n) * A.ks r x b g * Ideal.ofBits .f32 1035273459#32

/-- The score, minus infinity where the mask forbids. -/
def s (r : Fin 4) (j : Fin 2) (b : Fin 3) (g n : Fin 8) (t : Fin 256) (x : Fin 2) (key : Fin 256) : EReal :=
  if attH r j t x key (A.w b) = 1#1 then A.sc r j b g n t x key else ⊥

/-- The new maximum. -/
def mN (r : Fin 4) (j : Fin 2) (b : Fin 3) (g n : Fin 8) (t : Fin 256) : EReal :=
  max (A.mx r j b (hd g n) t) (Finset.univ.sup fun k : Fin 2 × Fin 256 => A.s r j b g n t k.1 k.2)

/-- The factor on what the steps before have left. -/
def alpha (r : Fin 4) (j : Fin 2) (b : Fin 3) (g n : Fin 8) (t : Fin 256) : EReal :=
  Ideal.exp (A.mx r j b (hd g n) t - A.mN r j b g n t)

/-- The weight of a key. -/
def p (r : Fin 4) (j : Fin 2) (b : Fin 3) (g n : Fin 8) (t : Fin 256) (x : Fin 2) (key : Fin 256) : EReal :=
  Ideal.exp (A.s r j b g n t x key - A.mN r j b g n t)

/-- The new sum of weights. -/
def lN (r : Fin 4) (j : Fin 2) (b : Fin 3) (g n : Fin 8) (t : Fin 256) : EReal :=
  A.alpha r j b g n t * A.l r j b (hd g n) t + ∑ x : Fin 2, ∑ key : Fin 256, A.p r j b g n t x key

/-- The new output. -/
def oN (r : Fin 4) (j : Fin 2) (b : Fin 3) (g n : Fin 8) (t : Fin 256) (d : Fin 128) : EReal :=
  A.alpha r j b g n t * A.o r j b t (hd g n) d
    + ∑ x : Fin 2, ∑ key : Fin 256, A.v r x b key g d * (A.p r j b g n t x key * A.vs r x b g)

end Args

end Cert.Spec

end
-- ==== Proof.KernelIdeal.Host.lean ====
/- The operations before the call, element by element. -/
module

public import proofs.«01_k».proof.Proof.KernelIdeal.Kit
public import proofs.«01_k».proof.Proof.Spec
public import Idealize.ShloMosaic.Lib.Pointwise
public import Idealize.ShloMosaic.Lib.Pipeline.Value

@[expose] public section

set_option maxRecDepth 65536
set_option maxHeartbeats 1000000

noncomputable section

namespace Cert.KernelIdeal.Pf

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The elements of the arguments, as the kernel finds them. -/
def args : Cert.Spec.Args where
  q r j b t h d := m ((c : Thread nD τ).loc main_arg0) (ix6 r j b t h d)
  qs r j b h := m ((c : Thread nD τ).loc main_arg1) (ix4 r j b h)
  k r j b t h d := m ((c : Thread nD τ).loc main_arg2) (ix6 r j b t h d)
  ks r j b h := m ((c : Thread nD τ).loc main_arg3) (ix4 r j b h)
  v r j b t h d := m ((c : Thread nD τ).loc main_arg4) (ix6 r j b t h d)
  vs r j b h := m ((c : Thread nD τ).loc main_arg5) (ix4 r j b h)
  w b := m ((c : Thread nD τ).loc main_arg6) (ix1 b)
  o r j b t h d := m ((c : Thread nD τ).loc main_arg7) (ix6 r j b t h d)
  mx r j b h t := m ((c : Thread nD τ).loc main_arg8) (ix5 r j b h t)
  l r j b h t := m ((c : Thread nD τ).loc main_arg9) (ix5 r j b h t)

theorem V_v0 (r : Fin 4) (j : Fin 2) (b : Fin 3) (y : Fin 16384) (d : Fin 128) :
    V m c main_v0 (ix5 r j b y d) = (args m c).q r j b ⟨y.val / 64, by omega⟩ ⟨y.val % 64, by omega⟩ d := by
  unfold V args
  simp only [hostOps0]
  after_results_simp
  pointwise

theorem V_v2 (r : Fin 4) (b : Fin 3) (g : Fin 8) (y : Fin 512) (d : Fin 128) :
    V m c main_v2 (ix5 r b g y d) = (args m c).k r ⟨y.val / 256, by omega⟩ b ⟨y.val % 256, by omega⟩ g d := by
  unfold V args
  simp only [hostOps0]
  after_results_simp
  pointwise

theorem V_v4 (r : Fin 4) (b : Fin 3) (g : Fin 8) (y : Fin 512) (d : Fin 128) :
    V m c main_v4 (ix5 r b g d y) = (args m c).v r ⟨y.val / 256, by omega⟩ b ⟨y.val % 256, by omega⟩ g d := by
  unfold V args
  simp only [hostOps0]
  after_results_simp
  pointwise

theorem V_v19 (r : Fin 4) (b : Fin 3) (a : Fin 16) (l : Fin 128) :
    V m c main_v19 (ix4 r b a l) = (args m c).vs r ⟨a.val % 2, by omega⟩ b ⟨a.val / 2, by omega⟩ := by
  unfold V args
  simp only [hostOps0]
  after_results_simp
  pointwise

/-- The rank-12 index with the given coordinates. -/
def ix12 {n0 n1 n2 n3 n4 n5 n6 n7 n8 n9 n10 n11 : ℕ} (a0 : Fin n0) (a1 : Fin n1) (a2 : Fin n2) (a3 : Fin n3) (a4 : Fin n4) (a5 : Fin n5) (a6 : Fin n6) (a7 : Fin n7) (a8 : Fin n8) (a9 : Fin n9) (a10 : Fin n10) (a11 : Fin n11) : (⟨12, ![n0, n1, n2, n3, n4, n5, n6, n7, n8, n9, n10, n11]⟩ : Shape).Idx :=
  fun i => match i with | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7 | ⟨8, _⟩ => a8 | ⟨9, _⟩ => a9 | ⟨10, _⟩ => a10 | ⟨11, _⟩ => a11

/-- Row-major position at rank 12: each coordinate times its stride. -/
theorem rowMajor_val12 {d : Fin 12 → ℕ} (f : (⟨12, d⟩ : Shape).Idx) (σ0 σ1 σ2 σ3 σ4 σ5 σ6 σ7 σ8 σ9 σ10 : ℕ)
    (h0 : d 1 * (d 2 * (d 3 * (d 4 * (d 5 * (d 6 * (d 7 * (d 8 * (d 9 * (d 10 * (d 11)))))))))) = σ0) (h1 : d 2 * (d 3 * (d 4 * (d 5 * (d 6 * (d 7 * (d 8 * (d 9 * (d 10 * (d 11))))))))) = σ1) (h2 : d 3 * (d 4 * (d 5 * (d 6 * (d 7 * (d 8 * (d 9 * (d 10 * (d 11)))))))) = σ2) (h3 : d 4 * (d 5 * (d 6 * (d 7 * (d 8 * (d 9 * (d 10 * (d 11))))))) = σ3) (h4 : d 5 * (d 6 * (d 7 * (d 8 * (d 9 * (d 10 * (d 11)))))) = σ4) (h5 : d 6 * (d 7 * (d 8 * (d 9 * (d 10 * (d 11))))) = σ5) (h6 : d 7 * (d 8 * (d 9 * (d 10 * (d 11)))) = σ6) (h7 : d 8 * (d 9 * (d 10 * (d 11))) = σ7) (h8 : d 9 * (d 10 * (d 11)) = σ8) (h9 : d 10 * (d 11) = σ9) (h10 : d 11 = σ10) :
    ((⟨12, d⟩ : Shape).rowMajor f : ℕ) = (f 0).val * σ0 + (f 1).val * σ1 + (f 2).val * σ2 + (f 3).val * σ3 + (f 4).val * σ4 + (f 5).val * σ5 + (f 6).val * σ6 + (f 7).val * σ7 + (f 8).val * σ8 + (f 9).val * σ9 + (f 10).val * σ10 + (f 11).val := by
  subst h0 h1 h2 h3 h4 h5 h6 h7 h8 h9 h10
  show (Shape.rowMajorPi d f).val = _
  simp [Shape.rowMajorPi_succ_val, Fin.prod_univ_succ, Shape.rowMajorPi_fin0_val]
  simp only [Nat.add_assoc]

/-- Sixteen copies along the last axis, side by side. -/
theorem copies (y : S4x2x3x8x2x8.Idx → EReal) (r : Fin 4) (j : Fin 2) (b : Fin 3) (g : Fin 8) (x : Fin 2) (l : Fin 128) :
    shapeCast S4x2x3x8x2x128 (broadcastInDim S1x4x1x2x1x3x1x8x1x2x16x8 ![0, 1, 2, 3, 4, 5, 6, 7, 8, 9, 10, 11]
        bcast_S1x4x1x2x1x3x1x8x1x2x1x8_S1x4x1x2x1x3x1x8x1x2x16x8_0_1_2_3_4_5_6_7_8_9_10_11
        (shapeCast S1x4x1x2x1x3x1x8x1x2x1x8 y shapeCasts_S4x2x3x8x2x8_S1x4x1x2x1x3x1x8x1x2x1x8))
      shapeCasts_S1x4x1x2x1x3x1x8x1x2x16x8_S4x2x3x8x2x128 (ix6 r j b g x l)
      = y (ix6 r j b g x ⟨l.val % 8, by omega⟩) := by
  refine (shapeCast_apply _ _ _ (ix12 0 r 0 j 0 b 0 g 0 x ⟨l.val / 8, by omega⟩ ⟨l.val % 8, by omega⟩) ?_).trans
    ((broadcastInDim_apply _ _ _ _ (ix12 0 r 0 j 0 b 0 g 0 x 0 ⟨l.val % 8, by omega⟩) ?_).trans
      (shapeCast_apply _ _ _ (ix6 r j b g x ⟨l.val % 8, by omega⟩) ?_))
  · rw [rowMajor_val12 (d := ![1, 4, 1, 2, 1, 3, 1, 8, 1, 2, 16, 8]) _ 49152 12288 12288 6144 6144 2048 2048 256 256 128 8 rfl rfl rfl rfl rfl rfl rfl rfl rfl rfl rfl,
      rowMajor_val6 (d := ![4, 2, 3, 8, 2, 128]) _ 12288 6144 2048 256 128 rfl rfl rfl rfl rfl]
    simp [ix12, ix6]
    omega
  · intro a
    fin_cases a <;> simp [ix12]
  · rw [rowMajor_val12 (d := ![1, 4, 1, 2, 1, 3, 1, 8, 1, 2, 1, 8]) _ 3072 768 768 384 384 128 128 16 16 8 8 rfl rfl rfl rfl rfl rfl rfl rfl rfl rfl rfl,
      rowMajor_val6 (d := ![4, 2, 3, 8, 2, 8]) _ 768 384 128 16 8 rfl rfl rfl rfl rfl]
    simp [ix12, ix6]

theorem V_v14 (r : Fin 4) (j : Fin 2) (b : Fin 3) (a : Fin 16) (l : Fin 128) :
    V m c main_v14 (ix5 r j b a l) = ((args m c).qs r j b ⟨a.val / 2 * 8 + l.val % 8, by omega⟩
      * (args m c).ks r ⟨a.val % 2, by omega⟩ b ⟨a.val / 2, by omega⟩) := by
  unfold V args
  simp only [hostOps0]
  after_results_simp
  refine (shapeCast_apply _ _ _ (ix6 r j b ⟨a.val / 2, by omega⟩ ⟨a.val % 2, by omega⟩ l) ?_).trans ((copies _ r j b _ _ l).trans ?_)
  · rw [rowMajor_val6 (d := ![4, 2, 3, 8, 2, 128]) _ 12288 6144 2048 256 128 rfl rfl rfl rfl rfl]
    refine Eq.trans ?_ (rowMajor_val5 (d := ![4, 2, 3, 16, 128]) _ 12288 6144 2048 128 rfl rfl rfl rfl).symm
    simp [ix5, ix6]
    omega
  · pointwise

end Cert.KernelIdeal.Pf
-- ==== Proof.Equal.Mask.lean ====
/- The two programs' masks agree. -/
module

public import proofs.«01_k».proof.Proof.KernelIdeal.Cases
public import proofs.«01_k».proof.Proof.Spec

@[expose] public section

set_option maxRecDepth 65536

noncomputable section

namespace Cert.Equal

open Cert.KernelIdeal.Pf Cert.Spec
open Idealize.ShloMosaic

/-- A remainder by four is one of seven words. -/
theorem srem_four (X : BitVec 32) : ∃ v : Fin 7, X.srem 4#32 = BitVec.ofInt 32 ((v.val : ℤ) - 3) := by
  have h : (X.srem 4#32).toInt = X.toInt.tmod 4 := by rw [BitVec.toInt_srem]; rfl
  have h1 := Int.tmod_lt_of_pos X.toInt (b := 4) (by decide)
  have h2 := Int.lt_tmod_of_pos X.toInt (b := 4) (by decide)
  refine ⟨⟨(X.toInt.tmod 4 + 3).toNat, by omega⟩, ?_⟩
  rw [← BitVec.ofInt_toInt (x := X.srem 4#32), h]
  congr 1
  dsimp only
  omega

theorem remsi_four (u : ArithUnit) (X : BitVec 32) : IntOp.remsi u X 4#32 = X.srem 4#32 := by
  unfold IntOp.remsi
  exact if_neg (by unfold IntOp.SDivCorner; simp)

/-- Both programs find the same source, one of four. -/
theorem src_eq (r : ℕ) (w : BitVec 32) : ∃ σ : Fin 4, srcH r w = BitVec.ofNat 32 σ.val ∧ srcW r w = BitVec.ofNat 32 σ.val := by
  unfold srcH srcW remW Scalar.remsi Scalar.addi Scalar.subi
  simp only [remsi_four]
  obtain ⟨v, hv⟩ := srem_four (IntOp.subi (BitVec.ofNat 32 r) w)
  rw [hv]
  clear hv
  revert v
  decide

theorem sle_small {a b : ℕ} (ha : a < 2 ^ 31) (hb : b < 2 ^ 31) :
    IntOp.cmpi .sle (BitVec.ofNat 32 a) (BitVec.ofNat 32 b) = 1#1 ↔ a ≤ b := by
  have e : ∀ x : Bool, BitVec.ofBool x = 1#1 ↔ x = true := by decide
  unfold IntOp.cmpi
  have t : ∀ n : ℕ, n < 2 ^ 31 → (BitVec.ofNat 32 n).toInt = n := fun n hn => by
    have hm : n % 2 ^ 32 = n := Nat.mod_eq_of_lt (by omega)
    rw [BitVec.toInt_eq_toNat_of_lt (by rw [BitVec.toNat_ofNat, hm]; omega), BitVec.toNat_ofNat, hm]
  rw [e, BitVec.sle_iff_toInt_le, t a ha, t b hb]
  exact Int.ofNat_le

theorem cls_eq (r : Fin 4) (σ : Fin 4) {w : BitVec 32} (h : srcW r w = BitVec.ofNat 32 σ.val) :
    cls r w = if σ.val < r.val then 0 else if σ.val = r.val then 1 else 2 := by
  unfold cls
  rw [h]
  clear h
  revert r σ
  decide

theorem attH_iff (r σ : Fin 4) (j x : Fin 2) (t key : Fin 256) {w : BitVec 32} (h : srcH r w = BitVec.ofNat 32 σ.val) :
    attH r j t x key w = 1#1 ↔ (if x.val < 1 then σ.val else 7 - σ.val) * 256 + key.val ≤ (if j.val = 0 then r.val else 7 - r.val) * 256 + t.val := by
  have hl : IntOp.muli (if x.val < 1 then BitVec.ofNat 32 σ.val else IntOp.subi 7#32 (BitVec.ofNat 32 σ.val)) 256#32
      = BitVec.ofNat 32 ((if x.val < 1 then σ.val else 7 - σ.val) * 256) := by clear h; revert x σ; decide
  have hr : IntOp.muli (Scalar.select (IntOp.cmpi .eq (BitVec.ofNat 32 j.val) 0#32) (BitVec.ofNat 32 r.val) (IntOp.subi 7#32 (BitVec.ofNat 32 r.val))) 256#32
      = BitVec.ofNat 32 ((if j.val = 0 then r.val else 7 - r.val) * 256) := by clear h; revert r j; decide
  have ea : ∀ a b : ℕ, IntOp.addi (BitVec.ofNat 32 a) (BitVec.ofNat 32 b) = BitVec.ofNat 32 (a + b) := fun a b => (BitVec.ofNat_add a b).symm
  unfold attH
  rw [h, hl, hr, ea, ea]
  refine sle_small ?_ ?_
  · split <;> omega
  · split <;> omega

/-- The reference attends exactly where the kernel does: nowhere on a skipped pass, elsewhere as the branch taken says. -/
theorem att_eq (r : Fin 4) (j x : Fin 2) (k : Fin 4) (s : Fin 64) (key : Fin 256) (w : BitVec 32) :
    attH r j (⟨64 * k.val + s.val, by omega⟩ : Fin 256) x key w = 1#1 ↔ skipI r j w = false ∧ alI r j w k x key s = true := by
  obtain ⟨σ, h, h'⟩ := src_eq r w
  rw [attH_iff r σ j x _ key h]
  have hc := cls_eq r σ h'
  have hx : x = 0 ∨ x = 1 := by omega
  unfold skipI alI
  rw [hc]
  dsimp only
  by_cases h1 : σ.val < r.val
  · rcases hx with rfl | rfl <;> by_cases hj : j.val = 0 <;> simp [h1, hj, al1] <;> omega
  · by_cases h2 : σ.val = r.val
    · rcases hx with rfl | rfl <;> by_cases hj : j.val = 0 <;> simp [h2, hj, al2, al3] <;> omega
    · rcases hx with rfl | rfl <;> by_cases hj : j.val = 0 <;> simp [h1, h2, hj, al4] <;> omega

/-- On a skipped pass the half is the first, and the source is above the device. -/
theorem skip_src {r : Fin 4} {j : ℕ} {w : BitVec 32} (hs : skipI r j w = true) :
    j = 0 ∧ IntOp.cmpi .sle (srcH r w) (BitVec.ofNat 32 r.val) = 0#1 := by
  obtain ⟨hj, hc⟩ := of_decide_eq_true hs
  obtain ⟨σ, h, h'⟩ := src_eq r w
  refine ⟨hj, ?_⟩
  rw [cls_eq r σ h'] at hc
  rw [h]
  clear h h' hs hj
  revert r σ
  decide

end Cert.Equal

end
-- ==== Proof.Equal.Real.lean ====
/- The two programs' formulas agree over the extended reals. -/
module

public import proofs.«01_k».proof.Proof.KernelIdeal.Model
public import proofs.«01_k».proof.Proof.Spec

@[expose] public section

set_option maxRecDepth 65536

noncomputable section

namespace Cert.Equal

open Cert.KernelIdeal.Pf Cert.Spec
open Idealize.ShloMosaic

/-- The natural logarithm of two and its inverse, as the kernel's constants. -/
theorem κln_eq : κln = ((Real.log 2 : ℝ) : EReal) := rfl
theorem κlg_eq : κlg = (((Real.log 2)⁻¹ : ℝ) : EReal) := rfl
theorem κs_eq : κs = (((11863283 / 134217728) * (Real.log 2)⁻¹ : ℝ) : EReal) := rfl

/-- The reference's factor on the scores. -/
theorem score_const : Ideal.ofBits .f32 1035273459#32 = ((11863283 / 134217728 : ℝ) : EReal) := by
  simp [Ideal.ofBits, Ideal.ieee]
  rw [show (11863283 / 134217728 : ℝ) = 11863283 * (2 ^ 27)⁻¹ by norm_num, EReal.coe_mul]

theorem log_two_pos : 0 < Real.log 2 := Real.log_pos (by norm_num)

theorem κlg_nonneg : 0 ≤ κlg := by
  rw [κlg_eq]; exact_mod_cast (inv_pos.2 log_two_pos).le
theorem κlg_ne_top : κlg ≠ ⊤ := by rw [κlg_eq]; exact EReal.coe_ne_top _
theorem κlg_ln : κlg * κln = 1 := by
  rw [κlg_eq, κln_eq, ← EReal.coe_mul, inv_mul_cancel₀ log_two_pos.ne']; rfl
theorem κs_lg : κs = Ideal.ofBits .f32 1035273459#32 * κlg := by
  rw [κs_eq, score_const, κlg_eq, ← EReal.coe_mul]

/-- The power of two of a multiple of `1 / log 2` is the exponential. -/
theorem exp2_lg (x : EReal) : Ideal.exp2 (x * κlg) = Ideal.exp x := by
  rw [κlg_eq]
  have hp : 0 < (Real.log 2)⁻¹ := inv_pos.2 log_two_pos
  induction x with
  | bot => rw [EReal.bot_mul_coe_of_pos hp]; rfl
  | top => rw [EReal.top_mul_coe_of_pos hp]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = _
    rw [Real.rpow_def_of_pos (by norm_num)]
    congr 1
    field_simp [log_two_pos.ne']

theorem sub_lg (a b : EReal) : a * κlg - b * κlg = (a - b) * κlg := by
  rw [sub_eq_add_neg, sub_eq_add_neg, EReal.right_distrib_of_nonneg_of_ne_top κlg_nonneg κlg_ne_top, EReal.neg_mul]

theorem kA_eq (mi M : EReal) : kA mi M = Ideal.exp (mi - M) := exp2_lg _

theorem kP_eq (a M : EReal) : kP (a * κlg) M = Ideal.exp (a - M) := by
  unfold kP; rw [sub_lg, exp2_lg]

theorem mul_lg_ln (a : EReal) : a * κlg * κln = a := by rw [mul_assoc, κlg_ln, mul_one]

/-- Scores in units of `log 2` have the maximum in units of `log 2`. -/
theorem sup_ln (f : Fin 2 → Fin 256 → EReal) :
    max (Finset.univ.sup fun key => f 0 key * κlg) (Finset.univ.sup fun key => f 1 key * κlg) * κln
      = Finset.univ.sup fun k : Fin 2 × Fin 256 => f k.1 k.2 := by
  have hm : Monotone fun x : EReal => x * κln := fun a b h => mul_le_mul_of_nonneg_right h (by rw [κln_eq]; exact_mod_cast log_two_pos.le)
  have hb : (fun x : EReal => x * κln) ⊥ = ⊥ := by
    show ⊥ * κln = ⊥
    rw [κln_eq, EReal.bot_mul_coe_of_pos log_two_pos]
  have hs : ∀ g : Fin 256 → EReal, (Finset.univ.sup fun key => g key * κlg) * κln = Finset.univ.sup g := fun g => by
    rw [Finset.comp_sup_eq_sup_comp_of_is_total (fun x : EReal => x * κln) hm hb]
    congr 1; funext key; exact mul_lg_ln _
  rw [hm.map_max (a := Finset.univ.sup fun key => f 0 key * κlg), hs, hs]
  refine le_antisymm (max_le (Finset.sup_le fun k _ => ?_) (Finset.sup_le fun k _ => ?_)) (Finset.sup_le fun k _ => ?_)
  · exact Finset.le_sup (f := fun k : Fin 2 × Fin 256 => f k.1 k.2) (Finset.mem_univ ((0 : Fin 2), k))
  · exact Finset.le_sup (f := fun k : Fin 2 × Fin 256 => f k.1 k.2) (Finset.mem_univ ((1 : Fin 2), k))
  · obtain ⟨x, key⟩ := k
    have hx : x = 0 ∨ x = 1 := by omega
    rcases hx with rfl | rfl
    · exact (Finset.le_sup (f := f 0) (Finset.mem_univ key)).trans (le_max_left _ _)
    · exact (Finset.le_sup (f := f 1) (Finset.mem_univ key)).trans (le_max_right _ _)

variable (f : Fin 2 → Fin 256 → EReal)

theorem kM_eq (mi : EReal) : kM mi (fun x key => f x key * κlg) = max mi (Finset.univ.sup fun k : Fin 2 × Fin 256 => f k.1 k.2) := by
  unfold kM; rw [sup_ln]

theorem kL_eq (li mi : EReal) : kL li mi (fun x key => f x key * κlg)
    = Ideal.exp (mi - max mi (Finset.univ.sup fun k : Fin 2 × Fin 256 => f k.1 k.2)) * li
      + ∑ x : Fin 2, ∑ key : Fin 256, Ideal.exp (f x key - max mi (Finset.univ.sup fun k : Fin 2 × Fin 256 => f k.1 k.2)) := by
  unfold kL
  rw [kM_eq, kA_eq, Fin.sum_univ_two]
  simp only [kP_eq]

theorem kO_eq (oi mi : EReal) (v : Fin 2 → Fin 256 → EReal) (vs : Fin 2 → EReal) :
    kO oi mi (fun x key => f x key * κlg) (fun x key => v x key * vs x)
    = Ideal.exp (mi - max mi (Finset.univ.sup fun k : Fin 2 × Fin 256 => f k.1 k.2)) * oi
      + ∑ x : Fin 2, ∑ key : Fin 256, v x key * (Ideal.exp (f x key - max mi (Finset.univ.sup fun k : Fin 2 × Fin 256 => f k.1 k.2)) * vs x) := by
  unfold kO
  rw [kM_eq, kA_eq, Fin.sum_univ_two, add_comm, mul_comm oi]
  congr 1
  congr 1 <;> refine Finset.sum_congr rfl fun key _ => ?_ <;> rw [kP_eq, mul_assoc, mul_comm (vs _)]

end Cert.Equal

end
-- ==== Proof.Equal.Point.lean ====
/- One grid point's update is the reference's step. -/
module

public import proofs.«01_k».proof.Proof.Equal.Mask
public import proofs.«01_k».proof.Proof.Equal.Real

/-!
# One grid point

`Fits R A r j b k`: the blocks `R` that a grid point reads hold the arguments `A` of device `r`, half `j`, batch `b`,
token tile `k`.  Then the point leaves what the reference computes (`mV_eq`, `lV_eq`, `oV_eq`).  On a skipped pass,
which is one of half `0`, the reference's scores are all minus infinity: it leaves the old values where the old maximum is finite.
-/

@[expose] public section

set_option maxRecDepth 65536

noncomputable section

namespace Cert.Equal

open Cert.KernelIdeal Cert.KernelIdeal.Pf Cert.Spec
open Idealize.ShloMosaic Idealize.ShloMosaic.TcCoe

/-- Token `s` of tile `k`. -/
abbrev tok (k : Fin 4) (s : Fin 64) : Fin 256 := ⟨64 * k.val + s.val, by omega⟩

structure Fits (R : Rd) (A : Args) (r : Fin 4) (j : Fin 2) (b : Fin 3) (k : Fin 4) : Prop where
  q : ∀ (s : Fin 64) (g n : Fin 8) (d : Fin 128), R.q (ix2 ⟨64 * s.val + 8 * g.val + n.val, by omega⟩ d) = A.q r j b (tok k s) (hd g n) d
  kk : ∀ (x : Fin 2) (key : Fin 256) (g : Fin 8) (d : Fin 128), R.k (ix5 0 0 g ⟨256 * x.val + key.val, by omega⟩ d) = A.k r x b key g d
  v : ∀ (x : Fin 2) (key : Fin 256) (g : Fin 8) (d : Fin 128), R.vt (ix5 0 0 g d ⟨256 * x.val + key.val, by omega⟩) = A.v r x b key g d
  c : ∀ (x : Fin 2) (s : Fin 64) (g n : Fin 8), R.c (ix5 0 0 0 ⟨2 * g.val + x.val, by omega⟩ ⟨s.val % 16 * 8 + n.val, by omega⟩) = A.qs r j b (hd g n) * A.ks r x b g
  vs : ∀ (x : Fin 2) (key : Fin 256) (g : Fin 8), R.vs (ix4 0 0 ⟨2 * g.val + x.val, by omega⟩ ⟨key.val % 128, by omega⟩) = A.vs r x b g
  o : ∀ (s : Fin 64) (g n : Fin 8) (d : Fin 128), R.oi (ix6 0 0 0 s ⟨8 * g.val + n.val, by omega⟩ d) = A.o r j b (tok k s) (hd g n) d

variable {R : Rd} {A : Args} {r : Fin 4} {j : Fin 2} {b : Fin 3} {k : Fin 4} (H : Fits R A r j b k)

include H

theorem sc_eq (s : Fin 64) (g n : Fin 8) (x : Fin 2) (key : Fin 256) :
    R.sc x key s g n = A.sc r j b g n (tok k s) x key * κlg := by
  unfold Rd.sc Args.sc
  have e : (∑ d : Fin 128, (R.k (ix5 0 0 g ⟨256 * x.val + key.val, by omega⟩ d) : EReal) * R.q (ix2 ⟨64 * s.val + 8 * g.val + n.val, by omega⟩ d))
      = ∑ d : Fin 128, A.k r x b key g d * A.q r j b (tok k s) (hd g n) d :=
    Finset.sum_congr rfl fun d _ => congrArg₂ (fun a b : EReal => a * b) (H.kk x key g d) (H.q s g n d)
  refine (congrArg₂ (fun a b : EReal => a * (b * κs)) e (H.c x s g n)).trans ?_
  rw [κs_lg]
  simp only [mul_assoc]

/-- Where the pass is not skipped the scores are the reference's. -/
theorem s_eq (hs : skipI r j (A.w b) = false) (s : Fin 64) (g n : Fin 8) :
    R.s (alI r j (A.w b) k) s g n = fun x key => A.s r j b g n (tok k s) x key * κlg := by
  funext x key
  unfold Rd.s Args.s
  by_cases h : alI r j (A.w b) k x key s = true
  · rw [if_pos h, if_pos ((att_eq r j x k s key (A.w b)).2 ⟨hs, h⟩), sc_eq H]
  · rw [if_neg h, if_neg fun h' => h ((att_eq r j x k s key (A.w b)).1 h').2, κlg_eq, EReal.bot_mul_coe_of_pos (inv_pos.2 log_two_pos)]

omit H in
/-- On a skipped pass they are all minus infinity. -/
theorem s_skip (hs : skipI r j (A.w b) = true) (s : Fin 64) (g n : Fin 8) (x : Fin 2) (key : Fin 256) :
    A.s r j b g n (tok k s) x key = ⊥ := by
  unfold Args.s
  rw [if_neg fun h' => by rw [((att_eq r j x k s key (A.w b)).1 h').1] at hs; exact Bool.false_ne_true hs]

omit H in
theorem m_skip (hs : skipI r j (A.w b) = true) (s : Fin 64) (g n : Fin 8) :
    A.mN r j b g n (tok k s) = A.mx r j b (hd g n) (tok k s) := by
  unfold Args.mN
  have e : (Finset.univ.sup fun y : Fin 2 × Fin 256 => A.s r j b g n (tok k s) y.1 y.2) = ⊥ :=
    (Finset.sup_eq_bot_iff _ _).2 fun y _ => s_skip hs s g n y.1 y.2
  rw [e, max_bot_right]

omit H in
theorem alpha_skip (hs : skipI r j (A.w b) = true) (s : Fin 64) (g n : Fin 8) (ht : A.mx r j b (hd g n) (tok k s) ≠ ⊤) (hb : A.mx r j b (hd g n) (tok k s) ≠ ⊥) :
    A.alpha r j b g n (tok k s) = 1 := by
  unfold Args.alpha
  rw [m_skip hs, EReal.sub_self ht hb]
  show ((Real.exp 0 : ℝ) : EReal) = 1
  rw [Real.exp_zero]; rfl

omit H in
theorem p_skip (hs : skipI r j (A.w b) = true) (s : Fin 64) (g n : Fin 8) (x : Fin 2) (key : Fin 256) :
    A.p r j b g n (tok k s) x key = 0 := by
  unfold Args.p
  rw [s_skip hs, EReal.bot_sub]
  rfl

theorem mV_eq (s : Fin 64) (g n : Fin 8) :
    mV r j (A.w b) k R (A.mx r j b (hd g n) (tok k s)) s g n = A.mN r j b g n (tok k s) := by
  unfold mV
  cases hs : skipI r j (A.w b)
  · rw [if_neg Bool.false_ne_true]
    unfold Rd.mN
    rw [s_eq H hs, kM_eq]
    rfl
  · rw [if_pos rfl, m_skip hs]

theorem lV_eq (s : Fin 64) (g n : Fin 8) (hf : skipI r j (A.w b) = true → A.mx r j b (hd g n) (tok k s) ≠ ⊤ ∧ A.mx r j b (hd g n) (tok k s) ≠ ⊥) :
    lV r j (A.w b) k R (A.l r j b (hd g n) (tok k s)) (A.mx r j b (hd g n) (tok k s)) s g n = A.lN r j b g n (tok k s) := by
  unfold lV
  cases hs : skipI r j (A.w b)
  · rw [if_neg Bool.false_ne_true]
    unfold Rd.lN
    rw [s_eq H hs, kL_eq]
    rfl
  · rw [if_pos rfl]
    unfold Args.lN
    rw [alpha_skip hs s g n (hf hs).1 (hf hs).2]
    simp only [p_skip hs, Finset.sum_const_zero, one_mul, add_zero]

theorem oV_eq (s : Fin 64) (g n : Fin 8) (d : Fin 128) (hf : skipI r j (A.w b) = true → A.mx r j b (hd g n) (tok k s) ≠ ⊤ ∧ A.mx r j b (hd g n) (tok k s) ≠ ⊥) :
    oV r j (A.w b) k R (A.mx r j b (hd g n) (tok k s)) s g n d = A.oN r j b g n (tok k s) d := by
  unfold oV
  cases hs : skipI r j (A.w b)
  · rw [if_neg Bool.false_ne_true]
    unfold Rd.oN
    have ev : R.v g d = fun x key => A.v r x b key g d * A.vs r x b g := by
      funext x key
      unfold Rd.v
      exact congrArg₂ (fun a b : EReal => a * b) (H.v x key g d) (H.vs x key g)
    rw [s_eq H hs, ev, kO_eq]
    exact congrArg (fun a : EReal => A.alpha r j b g n (tok k s) * a + _) (H.o s g n d)
  · rw [if_pos rfl]
    unfold Args.oN
    rw [alpha_skip hs s g n (hf hs).1 (hf hs).2]
    simp only [p_skip hs, zero_mul, mul_zero, Finset.sum_const_zero, one_mul, add_zero]
    exact H.o s g n d

end Cert.Equal

end
-- ==== Proof.KernelIdeal.Reads.lean ====
/- What a grid point reads, as elements of the arguments, and the results as the reference's step. -/
module

public import proofs.«01_k».proof.Proof.KernelIdeal.Result
public import proofs.«01_k».proof.Proof.KernelIdeal.Host
public import proofs.«01_k».proof.Proof.KernelIdeal.Tiles
public import proofs.«01_k».proof.Proof.Equal.Point

@[expose] public section

set_option maxRecDepth 65536
set_option maxHeartbeats 400000

noncomputable section

namespace Cert.KernelIdeal.Pf

open Cert.KernelIdeal Cert.KernelIdeal.Gen Cert.Spec Cert.Equal
open Idealize.ShloMosaic Idealize.ShloMosaic.TcCoe

variable (m : (ℓ : Loc nD τ sig) → Buf (Elt Ideal) ℓ) (hO : Ok m) (c : Dev nD)

theorem wd_eq (r : Fin 4) (j : Fin 2) (b : Fin 3) (k : Fin 4) : wd m hO c (pt m hO r j b k) = (args m c).w b := by
  have e : (((cfgM m hO).grid.coords (pt m hO r j b k)) 1).val = b.val := by
    refine (cb_eq m hO (pt m hO r j b k)).trans ?_
    show ((((r.val * 3 + b.val) * 2 + j.val) * 4 + k.val) / 8 % 3) = b.val
    omega
  have ec : c = 0 := Subsingleton.elim _ _
  subst ec
  show V m 0 main_arg6 (ix1 _) = m (((0 : Dev nD) : Thread nD τ).loc main_arg6) (ix1 b)
  rw [V_main_arg6]
  exact congrArg (fun y : Fin 3 => m (((0 : Dev nD) : Thread nD τ).loc main_arg6) (ix1 y)) (Fin.ext e)

theorem fit_q (r : Fin 4) (j : Fin 2) (b : Fin 3) (k : Fin 4) (s : Fin 64) (g n : Fin 8) (d : Fin 128) :
    (Rt m hO c (pt m hO r j b k)).q (ix2 ⟨64 * s.val + 8 * g.val + n.val, by omega⟩ d) = (args m c).q r j b (tok k s) (hd g n) d := by
  have hv : (pt m hO r j b k).val = ((r.val * 3 + b.val) * 2 + j.val) * 4 + k.val := rfl
  refine (tile0 m hO c (pt m hO r j b k) ⟨64 * s.val + 8 * g.val + n.val, by omega⟩ d).trans ((V_v0 m c _ _ _ _ _).trans ?_)
  congr 1 <;> exact Fin.ext (by dsimp only; omega)

theorem fit_k (r : Fin 4) (j : Fin 2) (b : Fin 3) (k : Fin 4) (x : Fin 2) (key : Fin 256) (g : Fin 8) (d : Fin 128) :
    (Rt m hO c (pt m hO r j b k)).k (ix5 0 0 g ⟨256 * x.val + key.val, by omega⟩ d) = (args m c).k r x b key g d := by
  have hv : (pt m hO r j b k).val = ((r.val * 3 + b.val) * 2 + j.val) * 4 + k.val := rfl
  refine (tile1 m hO c (pt m hO r j b k) g ⟨256 * x.val + key.val, by omega⟩ d).trans ((V_v2 m c _ _ _ _ _).trans ?_)
  congr 1 <;> exact Fin.ext (by dsimp only; omega)

theorem fit_v (r : Fin 4) (j : Fin 2) (b : Fin 3) (k : Fin 4) (x : Fin 2) (key : Fin 256) (g : Fin 8) (d : Fin 128) :
    (Rt m hO c (pt m hO r j b k)).vt (ix5 0 0 g d ⟨256 * x.val + key.val, by omega⟩) = (args m c).v r x b key g d := by
  have hv : (pt m hO r j b k).val = ((r.val * 3 + b.val) * 2 + j.val) * 4 + k.val := rfl
  refine (tile2 m hO c (pt m hO r j b k) g d ⟨256 * x.val + key.val, by omega⟩).trans ((V_v4 m c _ _ _ _ _).trans ?_)
  congr 1 <;> exact Fin.ext (by dsimp only; omega)

theorem fit_vs (r : Fin 4) (j : Fin 2) (b : Fin 3) (k : Fin 4) (x : Fin 2) (key : Fin 256) (g : Fin 8) :
    (Rt m hO c (pt m hO r j b k)).vs (ix4 0 0 ⟨2 * g.val + x.val, by omega⟩ ⟨key.val % 128, by omega⟩) = (args m c).vs r x b g := by
  have hv : (pt m hO r j b k).val = ((r.val * 3 + b.val) * 2 + j.val) * 4 + k.val := rfl
  refine (tile4 m hO c (pt m hO r j b k) ⟨2 * g.val + x.val, by omega⟩ ⟨key.val % 128, by omega⟩).trans ((V_v19 m c _ _ _ _).trans ?_)
  congr 1 <;> exact Fin.ext (by dsimp only; omega)

theorem Rt_c (t : Fin (cfgM m hO).N) (y : (⟨5, ![1, 1, 1, 16, 128]⟩ : Shape).Idx) : (Rt m hO c t).c y = iblk m hO c 3 t y := by
  unfold Rt rdW
  with_reducible rfl

theorem fit_c (r : Fin 4) (j : Fin 2) (b : Fin 3) (k : Fin 4) (x : Fin 2) (s : Fin 64) (g n : Fin 8) :
    (Rt m hO c (pt m hO r j b k)).c (ix5 0 0 0 ⟨2 * g.val + x.val, by omega⟩ ⟨s.val % 16 * 8 + n.val, by omega⟩) = (args m c).qs r j b (hd g n) * (args m c).ks r x b g := by
  have hv : (pt m hO r j b k).val = ((r.val * 3 + b.val) * 2 + j.val) * 4 + k.val := rfl
  have f1 : (⟨(pt m hO r j b k).val / 24, by omega⟩ : Fin 4) = r := Fin.ext (by dsimp only; omega)
  have f2 : (⟨(pt m hO r j b k).val / 4 % 2, by omega⟩ : Fin 2) = j := Fin.ext (by dsimp only; omega)
  have f3 : (⟨(pt m hO r j b k).val / 8 % 3, by omega⟩ : Fin 3) = b := Fin.ext (by dsimp only; omega)
  have e1 := tile3 m hO c (pt m hO r j b k) ⟨2 * g.val + x.val, by omega⟩ ⟨s.val % 16 * 8 + n.val, by omega⟩
  rw [f1, f2, f3] at e1
  have e2 := V_v14 m c r j b ⟨2 * g.val + x.val, by omega⟩ ⟨s.val % 16 * 8 + n.val, by omega⟩
  have g1 : (⟨(2 * g.val + x.val) / 2 * 8 + (s.val % 16 * 8 + n.val) % 8, by omega⟩ : Fin 64) = hd g n := Fin.ext (by dsimp only; omega)
  have g2 : (⟨(2 * g.val + x.val) % 2, by omega⟩ : Fin 2) = x := Fin.ext (by dsimp only; omega)
  have g3 : (⟨(2 * g.val + x.val) / 2, by omega⟩ : Fin 8) = g := Fin.ext (by dsimp only; omega)
  dsimp only at e2
  rw [g1, g2, g3] at e2
  refine (Rt_c m hO c (pt m hO r j b k) _).trans ?_
  rw [e1, e2]

theorem fit_o (r : Fin 4) (j : Fin 2) (b : Fin 3) (k : Fin 4) (s : Fin 64) (g n : Fin 8) (d : Fin 128) :
    (Rt m hO c (pt m hO r j b k)).oi (ix6 0 0 0 s ⟨8 * g.val + n.val, by omega⟩ d) = (args m c).o r j b (tok k s) (hd g n) d := by
  have hv : (pt m hO r j b k).val = ((r.val * 3 + b.val) * 2 + j.val) * 4 + k.val := rfl
  refine (tile5 m hO c (pt m hO r j b k) s ⟨8 * g.val + n.val, by omega⟩ d).trans ((congrFun (V_main_arg7 m c) _).trans ?_)
  show (args m c).o _ _ _ _ _ _ = _
  congr 1 <;> exact Fin.ext (by dsimp only; omega)

/-- The blocks of a point hold the arguments of its device, half, batch and tile. -/
theorem fits (r : Fin 4) (j : Fin 2) (b : Fin 3) (k : Fin 4) : Fits (Rt m hO c (pt m hO r j b k)) (args m c) r j b k :=
  ⟨fit_q m hO c r j b k, fit_k m hO c r j b k, fit_v m hO c r j b k, fit_c m hO c r j b k, fit_vs m hO c r j b k, fit_o m hO c r j b k⟩

theorem xm_eq (r : Fin 4) (j : Fin 2) (b : Fin 3) (k : Fin 4) (g n : Fin 8) (y : Fin 256) :
    xm m hO c (pt m hO r j b k) (ix5 0 0 0 ⟨8 * g.val + n.val, by omega⟩ y) = (args m c).mx r j b (hd g n) y := by
  have hv : (pt m hO r j b k).val = ((r.val * 3 + b.val) * 2 + j.val) * 4 + k.val := rfl
  refine (tile6 m hO c (pt m hO r j b k) _ y).trans ((congrFun (V_main_arg8 m c) _).trans ?_)
  show (args m c).mx _ _ _ _ _ = _
  congr 1 <;> exact Fin.ext (by dsimp only; omega)

theorem xl_eq (r : Fin 4) (j : Fin 2) (b : Fin 3) (k : Fin 4) (g n : Fin 8) (y : Fin 256) :
    xl m hO c (pt m hO r j b k) (ix5 0 0 0 ⟨8 * g.val + n.val, by omega⟩ y) = (args m c).l r j b (hd g n) y := by
  have hv : (pt m hO r j b k).val = ((r.val * 3 + b.val) * 2 + j.val) * 4 + k.val := rfl
  refine (tile7 m hO c (pt m hO r j b k) _ y).trans ((congrFun (V_main_arg9 m c) _).trans ?_)
  show (args m c).l _ _ _ _ _ = _
  congr 1 <;> exact Fin.ext (by dsimp only; omega)

theorem pt_r (r : Fin 4) (j : Fin 2) (b : Fin 3) (k : Fin 4) : (pt m hO r j b k).val / 24 = r.val := by
  show (((r.val * 3 + b.val) * 2 + j.val) * 4 + k.val) / 24 = r.val; omega
theorem pt_j (r : Fin 4) (j : Fin 2) (b : Fin 3) (k : Fin 4) : (pt m hO r j b k).val / 4 % 2 = j.val := by
  show (((r.val * 3 + b.val) * 2 + j.val) * 4 + k.val) / 4 % 2 = j.val; omega
theorem ptOf_pt (r : Fin 4) (j : Fin 2) (b : Fin 3) (k' k : Fin 4) : ptOf m hO (pt m hO r j b k') k = pt m hO r j b k :=
  Fin.ext (by show 4 * ((((r.val * 3 + b.val) * 2 + j.val) * 4 + k'.val) / 4) + k.val = ((r.val * 3 + b.val) * 2 + j.val) * 4 + k.val; omega)

/-- The old maxima of a skipped pass are finite. -/
def Fin0 (A : Args) : Prop := ∀ (r : Fin 4) (j : Fin 2) (b : Fin 3) (h : Fin 64) (t : Fin 256), skipI r j (A.w b) = true → A.mx r j b h t ≠ ⊤ ∧ A.mx r j b h t ≠ ⊥

theorem hd_split (h : Fin 64) : hd ⟨h.val / 8, by omega⟩ ⟨h.val % 8, by omega⟩ = h := Fin.ext (by dsimp only; omega)
theorem tok_split (t : Fin 256) : tok ⟨t.val / 64, by omega⟩ ⟨t.val % 64, by omega⟩ = t := Fin.ext (by dsimp only; omega)

theorem mP_eq (r : Fin 4) (j : Fin 2) (b : Fin 3) (k : Fin 4) (s : Fin 64) (g n : Fin 8) :
    mP m hO c (pt m hO r j b k) k s g n = (args m c).mN r j b g n (tok k s) := by
  unfold mP
  rw [pt_r, pt_j, wd_eq, xm_eq]
  exact mV_eq (fits m hO c r j b k) s g n

theorem lP_eq (hf : Fin0 (args m c)) (r : Fin 4) (j : Fin 2) (b : Fin 3) (k : Fin 4) (s : Fin 64) (g n : Fin 8) :
    lP m hO c (pt m hO r j b k) k s g n = (args m c).lN r j b g n (tok k s) := by
  unfold lP
  rw [pt_r, pt_j, wd_eq, xm_eq, xl_eq]
  exact lV_eq (fits m hO c r j b k) s g n fun hs => hf r j b _ _ hs

theorem oP_eq (hf : Fin0 (args m c)) (r : Fin 4) (j : Fin 2) (b : Fin 3) (k : Fin 4) (s : Fin 64) (g n : Fin 8) (d : Fin 128) :
    oP m hO c (pt m hO r j b k) k s ⟨8 * g.val + n.val, by omega⟩ d = (args m c).oN r j b g n (tok k s) d := by
  unfold oP
  have e1 : (⟨(8 * g.val + n.val) / 8, by omega⟩ : Fin 8) = g := Fin.ext (by dsimp only; omega)
  have e2 : (⟨(8 * g.val + n.val) % 8, by omega⟩ : Fin 8) = n := Fin.ext (by dsimp only; omega)
  dsimp only
  rw [pt_r, pt_j, wd_eq, xm_eq, e1, e2]
  exact oV_eq (fits m hO c r j b k) s g n d fun hs => hf r j b _ _ hs

theorem outM_eq (r : Fin 4) (j : Fin 2) (b : Fin 3) (h : Fin 64) (t : Fin 256) :
    outM m hO c r j b h t = (args m c).mN r j b ⟨h.val / 8, by omega⟩ ⟨h.val % 8, by omega⟩ t := by
  unfold outM mT
  rw [ptOf_pt, mP_eq, tok_split]

theorem outL_eq (hf : Fin0 (args m c)) (r : Fin 4) (j : Fin 2) (b : Fin 3) (h : Fin 64) (t : Fin 256) :
    outL m hO c r j b h t = (args m c).lN r j b ⟨h.val / 8, by omega⟩ ⟨h.val % 8, by omega⟩ t := by
  unfold outL lT
  rw [ptOf_pt, lP_eq m hO c hf, tok_split]

theorem outO_eq (hf : Fin0 (args m c)) (r : Fin 4) (j : Fin 2) (b : Fin 3) (t : Fin 256) (h : Fin 64) (d : Fin 128) :
    outO m hO c r j b t h d = (args m c).oN r j b ⟨h.val / 8, by omega⟩ ⟨h.val % 8, by omega⟩ t d := by
  have eh : h = ⟨8 * (h.val / 8) + h.val % 8, by omega⟩ := Fin.ext (by dsimp only; omega)
  have e := oP_eq m hO c hf r j b ⟨t.val / 64, by omega⟩ ⟨t.val % 64, by omega⟩ ⟨h.val / 8, by omega⟩ ⟨h.val % 8, by omega⟩ d
  dsimp only at e
  rw [← eh, tok_split] at e
  exact e

end Cert.KernelIdeal.Pf
-- ==== Proof.ReferenceIdeal.Read.lean ====
/- What the reference computes, read at an index. -/
module

public import proofs.«01_k».proof.Proof.Gen.ReferenceIdeal.Run
public import Idealize.ShloMosaic.Lib.Pipeline.ValueKit
public import Idealize.ShloMosaic.Lib.ValueIdx

@[expose] public section

set_option maxRecDepth 65536
set_option maxHeartbeats 1000000

noncomputable section

namespace Cert.ReferenceIdeal.Pf

open Cert.ReferenceIdeal Cert.ReferenceIdeal.Gen Cert.ReferenceIdeal.Value
open Idealize.ShloMosaic Idealize.ShloMosaic.TcCoe Idealize.ShloMosaic.Tactic

variable (m : (ℓ : Loc nD τ sig) → Buf (Elt Ideal) ℓ) (c : Dev nD)

/-- The widened codes are the codes. -/
theorem reg0 (i : S4x2x3x256x64x128.Idx) : reg_main_v1_0 m c i = m ((c.tc : Thread nD τ).loc main_arg0) i := by
  have h : reg_main_v1_0 m c = m ((c.tc : Thread nD τ).loc main_arg0) := by
    unfold reg_main_v1_0
    refine (dats m 0 c).arrAt_eq_of_covers 3 _ (by decide +kernel) fun t hf y => ?_
    blk_simp
    rw [after0_3]
    frame_out
    show iblk m c 0 t y = _
    unfold iblk
    rw [show V m c (Pipeline.arrRef spec0 0) = m ((c.tc : Thread nD τ).loc main_arg0) from V_main_arg0 m c]
    have e : win0_0.index t = win0_3.index t := (by decide +kernel : ∀ t : Fin grid0.N, win0_0.index t = win0_3.index t) t
    blk_ext [e]
  rw [h]
theorem reg1 (i : S4x2x3x256x8x128.Idx) : reg_main_v1_1 m c i = m ((c.tc : Thread nD τ).loc main_arg2) i := by
  have h : reg_main_v1_1 m c = m ((c.tc : Thread nD τ).loc main_arg2) := by
    unfold reg_main_v1_1
    refine (dats m 0 c).arrAt_eq_of_covers 4 _ (by decide +kernel) fun t hf y => ?_
    blk_simp
    rw [after0_4]
    frame_out
    show iblk m c 1 t y = _
    unfold iblk
    rw [show V m c (Pipeline.arrRef spec0 1) = m ((c.tc : Thread nD τ).loc main_arg2) from V_main_arg2 m c]
    have e : win0_1.index t = win0_4.index t := (by decide +kernel : ∀ t : Fin grid0.N, win0_1.index t = win0_4.index t) t
    blk_ext [e]
  rw [h]
theorem reg2 (i : S4x2x3x256x8x128.Idx) : reg_main_v1_2 m c i = m ((c.tc : Thread nD τ).loc main_arg4) i := by
  have h : reg_main_v1_2 m c = m ((c.tc : Thread nD τ).loc main_arg4) := by
    unfold reg_main_v1_2
    refine (dats m 0 c).arrAt_eq_of_covers 5 _ (by decide +kernel) fun t hf y => ?_
    blk_simp
    rw [after0_5]
    frame_out
    show iblk m c 2 t y = _
    unfold iblk
    rw [show V m c (Pipeline.arrRef spec0 2) = m ((c.tc : Thread nD τ).loc main_arg4) from V_main_arg4 m c]
    have e : win0_2.index t = win0_5.index t := (by decide +kernel : ∀ t : Fin grid0.N, win0_2.index t = win0_5.index t) t
    blk_ext [e]
  rw [h]

end Cert.ReferenceIdeal.Pf
-- ==== Proof.ReferenceIdeal.Results.lean ====
module

public import proofs.«01_k».proof.Proof.ReferenceIdeal.Read
public import proofs.«01_k».proof.Proof.Spec

/-!
# The reference's results, element by element

Each result of the reference at an index, as a formula over the arguments: the masked score, the running maximum, the
weights, and the three results.  The two-axis reductions of the reference run over the two key axes of a rank-8 array;
the lemmas of the first section turn them into a supremum and a double sum.
-/

@[expose] public section

set_option maxRecDepth 65536
set_option maxHeartbeats 1000000

noncomputable section

namespace Cert.ReferenceIdeal.Pf

open Cert.ReferenceIdeal Cert.ReferenceIdeal.Gen Cert.ReferenceIdeal.Value
open Cert.Spec
open Idealize.ShloMosaic Idealize.ShloMosaic.TcCoe Idealize.ShloMosaic.Tactic

section Reduce

variable {n0 n1 n2 n3 n4 n5 n6 n7 : ℕ}

/-- The indices of a rank-8 array that the reduction of its last two axes sends to one index. -/
theorem fiber_last2 (h : (⟨8, ![n0, n1, n2, n3, n4, n5, n6, n7]⟩ : Shape).ReducesTo [6, 7] ⟨6, ![n0, n1, n2, n3, n4, n5]⟩)
    (a0 : Fin n0) (a1 : Fin n1) (a2 : Fin n2) (a3 : Fin n3) (a4 : Fin n4) (a5 : Fin n5)
    (i : (⟨8, ![n0, n1, n2, n3, n4, n5, n6, n7]⟩ : Shape).Idx) :
    h.drop i = ix6 a0 a1 a2 a3 a4 a5 ↔ ∃ k : Fin n6 × Fin n7, ix8 a0 a1 a2 a3 a4 a5 k.1 k.2 = i := by
  constructor
  · intro e
    refine ⟨(i 6, i 7), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => exact (congrArg Fin.val (congrFun e 5)).symm
    | ⟨6, _⟩ => rfl
    | ⟨7, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl
    | ⟨5, _⟩ => rfl

/-- The sum over the last two axes of a rank-8 array. -/
theorem hostSum_last2 (h : (⟨8, ![n0, n1, n2, n3, n4, n5, n6, n7]⟩ : Shape).ReducesTo [6, 7] ⟨6, ![n0, n1, n2, n3, n4, n5]⟩)
    (v : (⟨8, ![n0, n1, n2, n3, n4, n5, n6, n7]⟩ : Shape).Idx → EReal) (z : EReal)
    (a0 : Fin n0) (a1 : Fin n1) (a2 : Fin n2) (a3 : Fin n3) (a4 : Fin n4) (a5 : Fin n5) :
    Ideal.hostReduceAdd h v z (ix6 a0 a1 a2 a3 a4 a5) = z + ∑ x : Fin n6, ∑ key : Fin n7, v (ix8 a0 a1 a2 a3 a4 a5 x key) := by
  unfold Ideal.hostReduceAdd
  refine congrArg (z + ·) ((Finset.sum_filter_eq_sum_of_fiber _ (fun k : Fin n6 × Fin n7 => ix8 a0 a1 a2 a3 a4 a5 k.1 k.2)
    (fun _ _ e => Prod.ext (congrFun e 6) (congrFun e 7)) (fiber_last2 h a0 a1 a2 a3 a4 a5) v).trans ?_)
  simp only [Fintype.sum_prod_type]

/-- The greatest element over the last two axes of a rank-8 array. -/
theorem hostMax_last2 {u : Shape} (h : (⟨8, ![n0, n1, n2, n3, n4, n5, n6, n7]⟩ : Shape).ReducesTo [6, 7] ⟨6, ![n0, n1, n2, n3, n4, n5]⟩)
    (v : FVec Ideal (⟨8, ![n0, n1, n2, n3, n4, n5, n6, n7]⟩ : Shape) .f32) (init : FVec Ideal u .f32) (hu : 0 < u.numel)
    (hi : init (Shape.Idx.first hu) = (⊥ : EReal))
    (a0 : Fin n0) (a1 : Fin n1) (a2 : Fin n2) (a3 : Fin n3) (a4 : Fin n4) (a5 : Fin n5) :
    Host.reduce FloatOps.maximumf v init h hu (ix6 a0 a1 a2 a3 a4 a5)
      = (Finset.univ.sup fun k : Fin n6 × Fin n7 => (v (ix8 a0 a1 a2 a3 a4 a5 k.1 k.2) : EReal)) := by
  rw [Host.reduce_eq_fold, hi]
  exact Finset.fold_filter_eq_fold_of_fiber (max : EReal → EReal → EReal) _ (fun k : Fin n6 × Fin n7 => ix8 a0 a1 a2 a3 a4 a5 k.1 k.2)
    (fun _ _ e => Prod.ext (congrFun e 6) (congrFun e 7)) (fiber_last2 h a0 a1 a2 a3 a4 a5) ⊥ v

end Reduce

variable (m : (ℓ : Loc nD τ sig) → Buf (Elt Ideal) ℓ) (c : Dev nD)

/-- The elements of the arguments, as the reference finds them. -/
def args : Args where
  q r j b t h d := m ((c.tc : Thread nD τ).loc main_arg0) (ix6 r j b t h d)
  qs r j b h := m ((c.tc : Thread nD τ).loc main_arg1) (ix4 r j b h)
  k r j b t h d := m ((c.tc : Thread nD τ).loc main_arg2) (ix6 r j b t h d)
  ks r j b h := m ((c.tc : Thread nD τ).loc main_arg3) (ix4 r j b h)
  v r j b t h d := m ((c.tc : Thread nD τ).loc main_arg4) (ix6 r j b t h d)
  vs r j b h := m ((c.tc : Thread nD τ).loc main_arg5) (ix4 r j b h)
  w b := m ((c.tc : Thread nD τ).loc main_arg6) (ix1 b)
  o r j b t h d := m ((c.tc : Thread nD τ).loc main_arg7) (ix6 r j b t h d)
  mx r j b h t := m ((c.tc : Thread nD τ).loc main_arg8) (ix5 r j b h t)
  l r j b h t := m ((c.tc : Thread nD τ).loc main_arg9) (ix5 r j b h t)

/-- The word that a masked score is: minus infinity. -/
theorem negInf : Ideal.ofBits FTy.f32 4286578688#32 = (⊥ : EReal) := by simp [Ideal.ofBits, Ideal.ieee]

theorem hd_div (g n : Fin 8) (h : (g.val * 8 + n.val) / 8 < 8) : (⟨(g.val * 8 + n.val) / 8, h⟩ : Fin 8) = g :=
  Fin.ext (by dsimp only; omega)
theorem hd_mod (g n : Fin 8) (h : (g.val * 8 + n.val) % 8 < 8) : (⟨(g.val * 8 + n.val) % 8, h⟩ : Fin 8) = n :=
  Fin.ext (by dsimp only; omega)
theorem hd_self (g n : Fin 8) (h : (g.val * 8 + n.val) / 8 * 8 + (g.val * 8 + n.val) % 8 < 64) :
    (⟨(g.val * 8 + n.val) / 8 * 8 + (g.val * 8 + n.val) % 8, h⟩ : Fin 64) = hd g n :=
  Fin.ext (by dsimp only; omega)

theorem v41_apply (r : Fin 4) (b : Fin 3) : res_main_v41 (exitV m c) (ix2 r b) = srcH r ((args m c).w b) := by
  unfold res_main_v41 res_main_v36 srcH remW args
  rw [exit_main_arg6, exit_main_v0]
  pointwise

theorem v62_apply (r : Fin 4) (j : Fin 2) (b : Fin 3) (g n : Fin 8) (t : Fin 256) :
    res_main_v62 (exitV m c) (ix6 r j b g n t) = (args m c).mx r j b (hd g n) t := by
  unfold res_main_v62 args
  rw [exit_main_arg8]
  pointwise

theorem v61_apply (r : Fin 4) (j : Fin 2) (b : Fin 3) (g n : Fin 8) (t : Fin 256) (x : Fin 2) (key : Fin 256) :
    res_main_v61 (exitV m c) (ix8 r j b g n t x key) = (args m c).s r j b g n t x key := by
  unfold res_main_v61
  rw [exit_main_v0, exit_main_arg1, exit_main_arg3, exit_main_v1_0, exit_main_v1_1]
  pointwise
  rw [v41_apply]
  simp only [reg0, reg1, dite_eq_ite]
  exact (congrArg (Scalar.select _ _) negInf).trans rfl

theorem v65_apply (r : Fin 4) (j : Fin 2) (b : Fin 3) (g n : Fin 8) (t : Fin 256) :
    res_main_v65 (exitV m c) (ix6 r j b g n t) = (args m c).mN r j b g n t := by
  unfold res_main_v65 Args.mN
  refine congrArg₂ (max : EReal → EReal → EReal) (v62_apply m c r j b g n t) ?_
  refine (hostMax_last2 _ _ _ _ negInf r j b g n t).trans ?_
  simp only [v61_apply]

theorem v69_apply (r : Fin 4) (j : Fin 2) (b : Fin 3) (g n : Fin 8) (t : Fin 256) (x : Fin 2) (key : Fin 256) :
    res_main_v69 (exitV m c) (ix8 r j b g n t x key) = (args m c).p r j b g n t x key := by
  unfold res_main_v69
  pointwise
  rw [v61_apply, v65_apply]
  rfl

theorem v71_apply (r : Fin 4) (j : Fin 2) (b : Fin 3) (g n : Fin 8) (t : Fin 256) :
    res_main_v71 (exitV m c) (ix6 r j b g n t) = (args m c).alpha r j b g n t := by
  unfold res_main_v71
  pointwise
  rw [v62_apply, v65_apply]
  rfl

theorem v88_apply (r : Fin 4) (j : Fin 2) (b : Fin 3) (t : Fin 256) (g n : Fin 8) (d : Fin 128) :
    val7 (exitV m c) (Proc.devRef .tc main_v88) (ix6 r j b t (hd g n) d) = (args m c).oN r j b g n t d := by
  rw [val7_main_v88, exit_main_arg5, exit_main_arg7, exit_main_v1_2]
  pointwise
  simp only [hd_div, hd_mod, hd_self, v71_apply, v69_apply, reg2]
  rfl

theorem v89_apply (r : Fin 4) (j : Fin 2) (b : Fin 3) (t : Fin 256) (g n : Fin 8) :
    val7 (exitV m c) (Proc.devRef .tc main_v89) (ix5 r j b (hd g n) t) = (args m c).mN r j b g n t := by
  rw [val7_main_v89]
  pointwise
  simp only [hd_div, hd_mod, v65_apply]

theorem v90_apply (r : Fin 4) (j : Fin 2) (b : Fin 3) (t : Fin 256) (g n : Fin 8) :
    val7 (exitV m c) (Proc.devRef .tc main_v90) (ix5 r j b (hd g n) t) = (args m c).lN r j b g n t := by
  rw [val7_main_v90, exit_main_arg9]
  pointwise
  rw [hostSum_last2]
  simp only [hd_div, hd_mod, hd_self, v71_apply, v69_apply, zero_add]
  rfl

end Cert.ReferenceIdeal.Pf
-- ==== Proof.Algebraic.lean ====
/- The kernel and the reference end with equal results. -/
module

public import proofs.«01_k».proof.Defs
public import proofs.«01_k».proof.Proof.Claims
public import proofs.«01_k».proof.Proof.KernelIdeal.Reads
public import proofs.«01_k».proof.Proof.ReferenceIdeal.Results
public import Idealize.ShloMosaic.Lib.Pointwise

/-!
# Equal results

The reference's results, element by element, are `Spec`'s formulas of its arguments, and so are the kernel's where the
old maxima of a skipped pass are finite, which is what the precondition says.
-/

@[expose] public section

set_option maxRecDepth 65536
set_option maxHeartbeats 400000

noncomputable section

namespace Cert.Proof

open Idealize.ShloMosaic Idealize.ShloMosaic.TcCoe Idealize.ShloMosaic.Tactic Idealize.SL.Sem
open Cert.Spec Cert.KernelIdeal.Pf

/-- The shape relations that the precondition takes. -/
theorem pre_facts : Cert.Pre_skipped_max_finite.Facts where
  bcast_S4_S4x1_0 := by decide
  bcast_S3_S1x3_1 := by decide
  bcast_S4x1_S4x3_0_1 := by decide
  bcast_S1x3_S4x3_0_1 := by decide
  bcast_S_S4x3 := by decide
  bcast_S4x3_S4x3x1x1_0_1 := by decide
  slices_S4x2x3x64x256_S4x1x3x64x256_0_0_0_0_0 := by decide
  shapeCasts_S4x1x3x64x256_S4x3x64x256 := by decide
  bcast_S_S4x3x64x256 := by decide
  bcast_S4x3x1x1_S4x3x64x256_0_1_2_3 := by decide

theorem pos_inf : Ideal.ofBits FTy.f32 2139095040#32 = (⊤ : EReal) := by simp [Ideal.ofBits, Ideal.ieee]

/-- The precondition's bit says that the source is no later device or that an old maximum of the first half is finite. -/
theorem pre_at [Cert.Pre_skipped_max_finite.Facts] (a0 a1 a2 a3 a4 a5) (a6 : IVec Cert.Pre_skipped_max_finite.S3 32) (a7)
    (a8 : FVec Ideal Cert.Pre_skipped_max_finite.S4x2x3x64x256 .f32) (a9) (r : Fin 4) (b : Fin 3) (h : Fin 64) (t : Fin 256)
    (hp : Cert.Pre_skipped_max_finite.fn (F := Ideal) a0 a1 a2 a3 a4 a5 a6 a7 a8 a9 (ix4 r b h t) = 1#1)
    (hs : IntOp.cmpi .sle (srcH r (a6 (ix1 b))) (BitVec.ofNat 32 r.val) = 0#1) :
    (a8 (ix5 r 0 b h t) : EReal) ≠ ⊤ ∧ (a8 (ix5 r 0 b h t) : EReal) ≠ ⊥ := by
  have e : Cert.Pre_skipped_max_finite.fn (F := Ideal) a0 a1 a2 a3 a4 a5 a6 a7 a8 a9 (ix4 r b h t)
      = IntOp.ori (IntOp.cmpi .sle (srcH r (a6 (ix1 b))) (BitVec.ofNat 32 r.val))
        (BitVec.ofBool (decide (max (a8 (ix5 r 0 b h t) : EReal) (-(a8 (ix5 r 0 b h t) : EReal)) < Ideal.ofBits FTy.f32 2139095040#32))) := by
    unfold Cert.Pre_skipped_max_finite.fn Cert.Pre_skipped_max_finite.fn_part1 Cert.Pre_skipped_max_finite.fn_where srcH remW
    pointwise
    rfl
  rw [e, pos_inf, hs] at hp
  have hb : ∀ x : Bool, IntOp.ori 0#1 (BitVec.ofBool x) = 1#1 → x = true := by decide
  have hl := of_decide_eq_true (hb _ hp)
  constructor
  · intro h; rw [h] at hl; exact absurd ((le_max_left _ _).trans_lt hl) (lt_irrefl _)
  · intro h; rw [h] at hl; exact absurd ((le_max_right _ _).trans_lt hl) (lt_irrefl _)

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (he : Cert.ReferenceIdeal.Pf.args m' c = Cert.KernelIdeal.Pf.args m c) (hf : Fin0 (Cert.KernelIdeal.Pf.args m c))

include he

theorem eqM : Cert.ReferenceIdeal.Value.val7 (Cert.ReferenceIdeal.Value.exitV m' c) (Proc.devRef .tc Cert.ReferenceIdeal.main_v89) = arrM m (ok_all m) c := by
  funext (i : (⟨5, ![4, 2, 3, 64, 256]⟩ : Shape).Idx)
  have e := Cert.ReferenceIdeal.Pf.v89_apply m' c (i 0) (i 1) (i 2) (i 4) ⟨(i 3).val / 8, by have : (i 3).val < 64 := (i 3).isLt; omega⟩ ⟨(i 3).val % 8, by omega⟩
  rw [hd_split (i 3), he] at e
  exact (congrArg _ (eq_ix5 i)).trans (e.trans (outM_eq m (ok_all m) c (i 0) (i 1) (i 2) (i 3) (i 4)).symm)

include hf

theorem eqL : Cert.ReferenceIdeal.Value.val7 (Cert.ReferenceIdeal.Value.exitV m' c) (Proc.devRef .tc Cert.ReferenceIdeal.main_v90) = arrL m (ok_all m) c := by
  funext (i : (⟨5, ![4, 2, 3, 64, 256]⟩ : Shape).Idx)
  have e := Cert.ReferenceIdeal.Pf.v90_apply m' c (i 0) (i 1) (i 2) (i 4) ⟨(i 3).val / 8, by have : (i 3).val < 64 := (i 3).isLt; omega⟩ ⟨(i 3).val % 8, by omega⟩
  rw [hd_split (i 3), he] at e
  exact (congrArg _ (eq_ix5 i)).trans (e.trans (outL_eq m (ok_all m) c hf (i 0) (i 1) (i 2) (i 3) (i 4)).symm)

theorem eqO : Cert.ReferenceIdeal.Value.val7 (Cert.ReferenceIdeal.Value.exitV m' c) (Proc.devRef .tc Cert.ReferenceIdeal.main_v88) = arrO m (ok_all m) c := by
  funext (i : (⟨6, ![4, 2, 3, 256, 64, 128]⟩ : Shape).Idx)
  have e := Cert.ReferenceIdeal.Pf.v88_apply m' c (i 0) (i 1) (i 2) (i 3) ⟨(i 4).val / 8, by have : (i 4).val < 64 := (i 4).isLt; omega⟩ ⟨(i 4).val % 8, by omega⟩ (i 5)
  rw [hd_split (i 4), he] at e
  exact (congrArg _ (eq_ix6 i)).trans (e.trans (outO_eq m (ok_all m) c hf (i 0) (i 1) (i 2) (i 3) (i 4) (i 5)).symm)

end Results

theorem algebraic [hP : Cert.Pre_skipped_max_finite.Facts] : Cert.algebraic_KernelIdeal_ReferenceIdeal_pre_skipped_max_finite := by
  intro m g m' g' hpre heq
  have he : ∀ c : Dev Cert.KernelIdeal.nD, Cert.ReferenceIdeal.Pf.args m' c = Cert.KernelIdeal.Pf.args m c := fun c => by
    obtain ⟨h0, h1, h2, h3, h4, h5, h6, h7, h8, h9⟩ := heq c
    unfold Cert.ReferenceIdeal.Pf.args Cert.KernelIdeal.Pf.args
    rw [h0, h1, h2, h3, h4, h5, h6, h7, h8, h9]
  have hf : ∀ c : Dev Cert.KernelIdeal.nD, Fin0 (Cert.KernelIdeal.Pf.args m c) := fun c r j b h t hs => by
    obtain ⟨hj, hsrc⟩ := Cert.Equal.skip_src hs
    obtain rfl : j = 0 := Fin.ext hj
    exact pre_at _ _ _ _ _ _ _ _ _ _ r b h t (congrFun (hpre c) (ix4 r b h t)) hsrc
  refine ⟨fun c => arrO m (ok_all m) c, fun c => arrM m (ok_all m) c, fun c => arrL m (ok_all m) c, results m g (ok_all m), ?_⟩
  refine (θ_run Cert.ReferenceIdeal.defs _ _).mono (fun _ h c => ?_) (Cert.ReferenceIdeal.Value.run m' g')
  obtain ⟨h0, h1, h2, hr⟩ := h c
  exact ⟨h0.trans ((Cert.ReferenceIdeal.Value.val7_main_v88 _).symm.trans (eqO m m' c (he c) (hf c))),
    h1.trans ((Cert.ReferenceIdeal.Value.val7_main_v89 _).symm.trans (eqM m m' c (he c))),
    h2.trans ((Cert.ReferenceIdeal.Value.val7_main_v90 _).symm.trans (eqL m m' c (he c) (hf c))), hr⟩

end Cert.Proof

end
-- ==== Proof.lean ====
/- The claim, assembled from its parts. -/
module

public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  haveI := pre_facts
  ⟨Cert.Kernel.Gen.facts, Cert.KernelIdeal.Gen.facts, Cert.ReferenceIdeal.Gen.facts, pre_facts, frame_p, frame_pi, frame_pi_pre, frame_ri, frame_ri_pre, preserves,
    algebraic (hP := pre_facts)⟩

end Cert.Proof

end
